-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RetInRefIdeal (m : (ℓ : Loc Cert.RetInRefIdeal.nD Cert.RetInRefIdeal.τ Cert.RetInRefIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInRefIdeal (m : (ℓ : Loc Cert.GdnInRefIdeal.nD Cert.GdnInRefIdeal.τ Cert.GdnInRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_RetPrompt (m : (ℓ : Loc Cert.RetPrompt.nD Cert.RetPrompt.τ Cert.RetPrompt.sig) → Buf (Elt Bits) ℓ) : Prop :=
  True

def Pre_RetPromptIdeal (m : (ℓ : Loc Cert.RetPromptIdeal.nD Cert.RetPromptIdeal.τ Cert.RetPromptIdeal.sig) → Buf (Elt Ideal) ℓ) : Prop :=
  True

def Pre_RetPromptIdeal_finite [hPre_finite : Cert.Pre_finite.Facts] (m : (ℓ : Loc Cert.RetPromptIdeal.nD Cert.RetPromptIdeal.τ Cert.RetPromptIdeal.sig) → Buf (Elt Ideal) ℓ) : Prop :=
  ∀ c : Dev Cert.RetPromptIdeal.nD,
    (Cert.Pre_finite.fn (F := Ideal) (m ((c.tc : Thread Cert.RetPromptIdeal.nD Cert.RetPromptIdeal.τ).loc Cert.RetPromptIdeal.main_arg0)) (m ((c.tc : Thread Cert.RetPromptIdeal.nD Cert.RetPromptIdeal.τ).loc Cert.RetPromptIdeal.main_arg1))) = (fun _ => 1#1)

def Pre_RetPromptRefIdeal (m : (ℓ : Loc Cert.RetPromptRefIdeal.nD Cert.RetPromptRefIdeal.τ Cert.RetPromptRefIdeal.sig) → Buf (Elt Ideal) ℓ) : Prop :=
  True

def Pre_RetPromptRefIdeal_finite [hPre_finite : Cert.Pre_finite.Facts] (m : (ℓ : Loc Cert.RetPromptRefIdeal.nD Cert.RetPromptRefIdeal.τ Cert.RetPromptRefIdeal.sig) → Buf (Elt Ideal) ℓ) : Prop :=
  ∀ c : Dev Cert.RetPromptRefIdeal.nD,
    (Cert.Pre_finite.fn (F := Ideal) (m ((c.tc : Thread Cert.RetPromptRefIdeal.nD Cert.RetPromptRefIdeal.τ).loc Cert.RetPromptRefIdeal.main_arg0)) (m ((c.tc : Thread Cert.RetPromptRefIdeal.nD Cert.RetPromptRefIdeal.τ).loc Cert.RetPromptRefIdeal.main_arg1))) = (fun _ => 1#1)

def Pre_RetLayer (m : (ℓ : Loc Cert.RetLayer.nD Cert.RetLayer.τ Cert.RetLayer.sig) → Buf (Elt Bits) ℓ) : Prop :=
  True

def Pre_RetLayerIdeal (m : (ℓ : Loc Cert.RetLayerIdeal.nD Cert.RetLayerIdeal.τ Cert.RetLayerIdeal.sig) → Buf (Elt Ideal) ℓ) : Prop :=
  True

def Pre_RetLayerRefIdeal (m : (ℓ : Loc Cert.RetLayerRefIdeal.nD Cert.RetLayerRefIdeal.τ Cert.RetLayerRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ r.2.sem = fun _ => 0)

def quiescent_RetInRefIdeal [hRetInRefIdeal : Cert.RetInRefIdeal.Facts] : Prop :=
  ∀ (m : (ℓ : Loc Cert.RetInRefIdeal.nD Cert.RetInRefIdeal.τ Cert.RetInRefIdeal.sig) → Buf (Elt Ideal) ℓ) (g : Dev Cert.RetInRefIdeal.nD → PrngReg), Pre_RetInRefIdeal m →
    θ_run (Cert.RetInRefIdeal.defs (F := Ideal)) (onTc (τ := Cert.RetInRefIdeal.τ) (Cert.RetInRefIdeal.main (F := Ideal))) ⟨m, fun _ => 0, g⟩ (fun r => (∀ c : Dev Cert.RetInRefIdeal.nD,
      r.2.mem ((c.tc : Thread Cert.RetInRefIdeal.nD Cert.RetInRefIdeal.τ).loc Cert.RetInRefIdeal.main_arg0) = m ((c.tc : Thread Cert.RetInRefIdeal.nD Cert.RetInRefIdeal.τ).loc Cert.RetInRefIdeal.main_arg0)
      ∧ r.2.mem ((c.tc : Thread Cert.RetInRefIdeal.nD Cert.RetInRefIdeal.τ).loc Cert.RetInRefIdeal.main_arg1) = m ((c.tc : Thread Cert.RetInRefIdeal.nD Cert.RetInRefIdeal.τ).loc Cert.RetInRefIdeal.main_arg1))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ r.2.sem = fun _ => 0)

def quiescent_GdnInRefIdeal [hGdnInRefIdeal : Cert.GdnInRefIdeal.Facts] : Prop :=
  ∀ (m : (ℓ : Loc Cert.GdnInRefIdeal.nD Cert.GdnInRefIdeal.τ Cert.GdnInRefIdeal.sig) → Buf (Elt Ideal) ℓ) (g : Dev Cert.GdnInRefIdeal.nD → PrngReg), Pre_GdnInRefIdeal m →
    θ_run (Cert.GdnInRefIdeal.defs (F := Ideal)) (onTc (τ := Cert.GdnInRefIdeal.τ) (Cert.GdnInRefIdeal.main (F := Ideal))) ⟨m, fun _ => 0, g⟩ (fun r => (∀ c : Dev Cert.GdnInRefIdeal.nD,
      r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3)
      ∧ r.2.mem ((c.tc : Thread Cert.RetOut.nD Cert.RetOut.τ).loc Cert.RetOut.main_arg4) = m ((c.tc : Thread Cert.RetOut.nD Cert.RetOut.τ).loc Cert.RetOut.main_arg4))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3)
      ∧ r.2.mem ((c.tc : Thread Cert.RetOutIdeal.nD Cert.RetOutIdeal.τ).loc Cert.RetOutIdeal.main_arg4) = m ((c.tc : Thread Cert.RetOutIdeal.nD Cert.RetOutIdeal.τ).loc Cert.RetOutIdeal.main_arg4))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2)
      ∧ r.2.mem ((c.tc : Thread Cert.RetOutRefIdeal.nD Cert.RetOutRefIdeal.τ).loc Cert.RetOutRefIdeal.main_arg3) = m ((c.tc : Thread Cert.RetOutRefIdeal.nD Cert.RetOutRefIdeal.τ).loc Cert.RetOutRefIdeal.main_arg3)
      ∧ r.2.mem ((c.tc : Thread Cert.RetOutRefIdeal.nD Cert.RetOutRefIdeal.τ).loc Cert.RetOutRefIdeal.main_arg4) = m ((c.tc : Thread Cert.RetOutRefIdeal.nD Cert.RetOutRefIdeal.τ).loc Cert.RetOutRefIdeal.main_arg4))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1)
      ∧ r.2.mem ((c.tc : Thread Cert.GdnOutRefIdeal.nD Cert.GdnOutRefIdeal.τ).loc Cert.GdnOutRefIdeal.main_arg2) = m ((c.tc : Thread Cert.GdnOutRefIdeal.nD Cert.GdnOutRefIdeal.τ).loc Cert.GdnOutRefIdeal.main_arg2)
      ∧ r.2.mem ((c.tc : Thread Cert.GdnOutRefIdeal.nD Cert.GdnOutRefIdeal.τ).loc Cert.GdnOutRefIdeal.main_arg3) = m ((c.tc : Thread Cert.GdnOutRefIdeal.nD Cert.GdnOutRefIdeal.τ).loc Cert.GdnOutRefIdeal.main_arg3))
      ∧ r.2.sem = fun _ => 0)

def quiescent_RetPrompt [hRetPrompt : Cert.RetPrompt.Facts] : Prop :=
  ∀ (m : (ℓ : Loc Cert.RetPrompt.nD Cert.RetPrompt.τ Cert.RetPrompt.sig) → Buf (Elt Bits) ℓ) (g : Dev Cert.RetPrompt.nD → PrngReg), Pre_RetPrompt m →
    θ_run (Cert.RetPrompt.defs (F := Bits)) (onTc (τ := Cert.RetPrompt.τ) (Cert.RetPrompt.main (F := Bits))) ⟨m, fun _ => 0, g⟩ (fun r => (∀ c : Dev Cert.RetPrompt.nD,
      r.2.mem ((c.tc : Thread Cert.RetPrompt.nD Cert.RetPrompt.τ).loc Cert.RetPrompt.main_arg0) = m ((c.tc : Thread Cert.RetPrompt.nD Cert.RetPrompt.τ).loc Cert.RetPrompt.main_arg0)
      ∧ r.2.mem ((c.tc : Thread Cert.RetPrompt.nD Cert.RetPrompt.τ).loc Cert.RetPrompt.main_arg1) = m ((c.tc : Thread Cert.RetPrompt.nD Cert.RetPrompt.τ).loc Cert.RetPrompt.main_arg1))
      ∧ r.2.sem = fun _ => 0)

def quiescent_RetPromptIdeal [hRetPromptIdeal : Cert.RetPromptIdeal.Facts] : Prop :=
  ∀ (m : (ℓ : Loc Cert.RetPromptIdeal.nD Cert.RetPromptIdeal.τ Cert.RetPromptIdeal.sig) → Buf (Elt Ideal) ℓ) (g : Dev Cert.RetPromptIdeal.nD → PrngReg), Pre_RetPromptIdeal m →
    θ_run (Cert.RetPromptIdeal.defs (F := Ideal)) (onTc (τ := Cert.RetPromptIdeal.τ) (Cert.RetPromptIdeal.main (F := Ideal))) ⟨m, fun _ => 0, g⟩ (fun r => (∀ c : Dev Cert.RetPromptIdeal.nD,
      r.2.mem ((c.tc : Thread Cert.RetPromptIdeal.nD Cert.RetPromptIdeal.τ).loc Cert.RetPromptIdeal.main_arg0) = m ((c.tc : Thread Cert.RetPromptIdeal.nD Cert.RetPromptIdeal.τ).loc Cert.RetPromptIdeal.main_arg0)
      ∧ r.2.mem ((c.tc : Thread Cert.RetPromptIdeal.nD Cert.RetPromptIdeal.τ).loc Cert.RetPromptIdeal.main_arg1) = m ((c.tc : Thread Cert.RetPromptIdeal.nD Cert.RetPromptIdeal.τ).loc Cert.RetPromptIdeal.main_arg1))
      ∧ r.2.sem = fun _ => 0)

def quiescent_RetPromptIdeal_pre_finite [hRetPromptIdeal : Cert.RetPromptIdeal.Facts] [hPre_finite : Cert.Pre_finite.Facts] : Prop :=
  ∀ (m : (ℓ : Loc Cert.RetPromptIdeal.nD Cert.RetPromptIdeal.τ Cert.RetPromptIdeal.sig) → Buf (Elt Ideal) ℓ) (g : Dev Cert.RetPromptIdeal.nD → PrngReg), Pre_RetPromptIdeal_finite m →
    θ_run (Cert.RetPromptIdeal.defs (F := Ideal)) (onTc (τ := Cert.RetPromptIdeal.τ) (Cert.RetPromptIdeal.main (F := Ideal))) ⟨m, fun _ => 0, g⟩ (fun r => (∀ c : Dev Cert.RetPromptIdeal.nD,
      r.2.mem ((c.tc : Thread Cert.RetPromptIdeal.nD Cert.RetPromptIdeal.τ).loc Cert.RetPromptIdeal.main_arg0) = m ((c.tc : Thread Cert.RetPromptIdeal.nD Cert.RetPromptIdeal.τ).loc Cert.RetPromptIdeal.main_arg0)
      ∧ r.2.mem ((c.tc : Thread Cert.RetPromptIdeal.nD Cert.RetPromptIdeal.τ).loc Cert.RetPromptIdeal.main_arg1) = m ((c.tc : Thread Cert.RetPromptIdeal.nD Cert.RetPromptIdeal.τ).loc Cert.RetPromptIdeal.main_arg1))
      ∧ r.2.sem = fun _ => 0)

def quiescent_RetPromptRefIdeal [hRetPromptRefIdeal : Cert.RetPromptRefIdeal.Facts] : Prop :=
  ∀ (m : (ℓ : Loc Cert.RetPromptRefIdeal.nD Cert.RetPromptRefIdeal.τ Cert.RetPromptRefIdeal.sig) → Buf (Elt Ideal) ℓ) (g : Dev Cert.RetPromptRefIdeal.nD → PrngReg), Pre_RetPromptRefIdeal m →
    θ_run (Cert.RetPromptRefIdeal.defs (F := Ideal)) (onTc (τ := Cert.RetPromptRefIdeal.τ) (Cert.RetPromptRefIdeal.main (F := Ideal))) ⟨m, fun _ => 0, g⟩ (fun r => (∀ c : Dev Cert.RetPromptRefIdeal.nD,
      r.2.mem ((c.tc : Thread Cert.RetPromptRefIdeal.nD Cert.RetPromptRefIdeal.τ).loc Cert.RetPromptRefIdeal.main_arg0) = m ((c.tc : Thread Cert.RetPromptRefIdeal.nD Cert.RetPromptRefIdeal.τ).loc Cert.RetPromptRefIdeal.main_arg0)
      ∧ r.2.mem ((c.tc : Thread Cert.RetPromptRefIdeal.nD Cert.RetPromptRefIdeal.τ).loc Cert.RetPromptRefIdeal.main_arg1) = m ((c.tc : Thread Cert.RetPromptRefIdeal.nD Cert.RetPromptRefIdeal.τ).loc Cert.RetPromptRefIdeal.main_arg1))
      ∧ r.2.sem = fun _ => 0)

def quiescent_RetPromptRefIdeal_pre_finite [hRetPromptRefIdeal : Cert.RetPromptRefIdeal.Facts] [hPre_finite : Cert.Pre_finite.Facts] : Prop :=
  ∀ (m : (ℓ : Loc Cert.RetPromptRefIdeal.nD Cert.RetPromptRefIdeal.τ Cert.RetPromptRefIdeal.sig) → Buf (Elt Ideal) ℓ) (g : Dev Cert.RetPromptRefIdeal.nD → PrngReg), Pre_RetPromptRefIdeal_finite m →
    θ_run (Cert.RetPromptRefIdeal.defs (F := Ideal)) (onTc (τ := Cert.RetPromptRefIdeal.τ) (Cert.RetPromptRefIdeal.main (F := Ideal))) ⟨m, fun _ => 0, g⟩ (fun r => (∀ c : Dev Cert.RetPromptRefIdeal.nD,
      r.2.mem ((c.tc : Thread Cert.RetPromptRefIdeal.nD Cert.RetPromptRefIdeal.τ).loc Cert.RetPromptRefIdeal.main_arg0) = m ((c.tc : Thread Cert.RetPromptRefIdeal.nD Cert.RetPromptRefIdeal.τ).loc Cert.RetPromptRefIdeal.main_arg0)
      ∧ r.2.mem ((c.tc : Thread Cert.RetPromptRefIdeal.nD Cert.RetPromptRefIdeal.τ).loc Cert.RetPromptRefIdeal.main_arg1) = m ((c.tc : Thread Cert.RetPromptRefIdeal.nD Cert.RetPromptRefIdeal.τ).loc Cert.RetPromptRefIdeal.main_arg1))
      ∧ r.2.sem = fun _ => 0)

def quiescent_RetLayer [hRetLayer : Cert.RetLayer.Facts] : Prop :=
  ∀ (m : (ℓ : Loc Cert.RetLayer.nD Cert.RetLayer.τ Cert.RetLayer.sig) → Buf (Elt Bits) ℓ) (g : Dev Cert.RetLayer.nD → PrngReg), Pre_RetLayer m →
    θ_run (Cert.RetLayer.defs (F := Bits)) (onTc (τ := Cert.RetLayer.τ) (Cert.RetLayer.main (F := Bits))) ⟨m, fun _ => 0, g⟩ (fun r => (∀ c : Dev Cert.RetLayer.nD,
      r.2.mem ((c.tc : Thread Cert.RetLayer.nD Cert.RetLayer.τ).loc Cert.RetLayer.main_arg0) = m ((c.tc : Thread Cert.RetLayer.nD Cert.RetLayer.τ).loc Cert.RetLayer.main_arg0)
      ∧ r.2.mem ((c.tc : Thread Cert.RetLayer.nD Cert.RetLayer.τ).loc Cert.RetLayer.main_arg1) = m ((c.tc : Thread Cert.RetLayer.nD Cert.RetLayer.τ).loc Cert.RetLayer.main_arg1)
      ∧ r.2.mem ((c.tc : Thread Cert.RetLayer.nD Cert.RetLayer.τ).loc Cert.RetLayer.main_arg2) = m ((c.tc : Thread Cert.RetLayer.nD Cert.RetLayer.τ).loc Cert.RetLayer.main_arg2)
      ∧ r.2.mem ((c.tc : Thread Cert.RetLayer.nD Cert.RetLayer.τ).loc Cert.RetLayer.main_arg3) = m ((c.tc : Thread Cert.RetLayer.nD Cert.RetLayer.τ).loc Cert.RetLayer.main_arg3)
      ∧ r.2.mem ((c.tc : Thread Cert.RetLayer.nD Cert.RetLayer.τ).loc Cert.RetLayer.main_arg4) = m ((c.tc : Thread Cert.RetLayer.nD Cert.RetLayer.τ).loc Cert.RetLayer.main_arg4)
      ∧ r.2.mem ((c.tc : Thread Cert.RetLayer.nD Cert.RetLayer.τ).loc Cert.RetLayer.main_arg5) = m ((c.tc : Thread Cert.RetLayer.nD Cert.RetLayer.τ).loc Cert.RetLayer.main_arg5))
      ∧ r.2.sem = fun _ => 0)

def quiescent_RetLayerIdeal [hRetLayerIdeal : Cert.RetLayerIdeal.Facts] : Prop :=
  ∀ (m : (ℓ : Loc Cert.RetLayerIdeal.nD Cert.RetLayerIdeal.τ Cert.RetLayerIdeal.sig) → Buf (Elt Ideal) ℓ) (g : Dev Cert.RetLayerIdeal.nD → PrngReg), Pre_RetLayerIdeal m →
    θ_run (Cert.RetLayerIdeal.defs (F := Ideal)) (onTc (τ := Cert.RetLayerIdeal.τ) (Cert.RetLayerIdeal.main (F := Ideal))) ⟨m, fun _ => 0, g⟩ (fun r => (∀ c : Dev Cert.RetLayerIdeal.nD,
      r.2.mem ((c.tc : Thread Cert.RetLayerIdeal.nD Cert.RetLayerIdeal.τ).loc Cert.RetLayerIdeal.main_arg0) = m ((c.tc : Thread Cert.RetLayerIdeal.nD Cert.RetLayerIdeal.τ).loc Cert.RetLayerIdeal.main_arg0)
      ∧ r.2.mem ((c.tc : Thread Cert.RetLayerIdeal.nD Cert.RetLayerIdeal.τ).loc Cert.RetLayerIdeal.main_arg1) = m ((c.tc : Thread Cert.RetLayerIdeal.nD Cert.RetLayerIdeal.τ).loc Cert.RetLayerIdeal.main_arg1)
      ∧ r.2.mem ((c.tc : Thread Cert.RetLayerIdeal.nD Cert.RetLayerIdeal.τ).loc Cert.RetLayerIdeal.main_arg2) = m ((c.tc : Thread Cert.RetLayerIdeal.nD Cert.RetLayerIdeal.τ).loc Cert.RetLayerIdeal.main_arg2)
      ∧ r.2.mem ((c.tc : Thread Cert.RetLayerIdeal.nD Cert.RetLayerIdeal.τ).loc Cert.RetLayerIdeal.main_arg3) = m ((c.tc : Thread Cert.RetLayerIdeal.nD Cert.RetLayerIdeal.τ).loc Cert.RetLayerIdeal.main_arg3)
      ∧ r.2.mem ((c.tc : Thread Cert.RetLayerIdeal.nD Cert.RetLayerIdeal.τ).loc Cert.RetLayerIdeal.main_arg4) = m ((c.tc : Thread Cert.RetLayerIdeal.nD Cert.RetLayerIdeal.τ).loc Cert.RetLayerIdeal.main_arg4)
      ∧ r.2.mem ((c.tc : Thread Cert.RetLayerIdeal.nD Cert.RetLayerIdeal.τ).loc Cert.RetLayerIdeal.main_arg5) = m ((c.tc : Thread Cert.RetLayerIdeal.nD Cert.RetLayerIdeal.τ).loc Cert.RetLayerIdeal.main_arg5))
      ∧ r.2.sem = fun _ => 0)

def quiescent_RetLayerRefIdeal [hRetLayerRefIdeal : Cert.RetLayerRefIdeal.Facts] : Prop :=
  ∀ (m : (ℓ : Loc Cert.RetLayerRefIdeal.nD Cert.RetLayerRefIdeal.τ Cert.RetLayerRefIdeal.sig) → Buf (Elt Ideal) ℓ) (g : Dev Cert.RetLayerRefIdeal.nD → PrngReg), Pre_RetLayerRefIdeal m →
    θ_run (Cert.RetLayerRefIdeal.defs (F := Ideal)) (onTc (τ := Cert.RetLayerRefIdeal.τ) (Cert.RetLayerRefIdeal.main (F := Ideal))) ⟨m, fun _ => 0, g⟩ (fun r => (∀ c : Dev Cert.RetLayerRefIdeal.nD,
      r.2.mem ((c.tc : Thread Cert.RetLayerRefIdeal.nD Cert.RetLayerRefIdeal.τ).loc Cert.RetLayerRefIdeal.main_arg0) = m ((c.tc : Thread Cert.RetLayerRefIdeal.nD Cert.RetLayerRefIdeal.τ).loc Cert.RetLayerRefIdeal.main_arg0)
      ∧ r.2.mem ((c.tc : Thread Cert.RetLayerRefIdeal.nD Cert.RetLayerRefIdeal.τ).loc Cert.RetLayerRefIdeal.main_arg1) = m ((c.tc : Thread Cert.RetLayerRefIdeal.nD Cert.RetLayerRefIdeal.τ).loc Cert.RetLayerRefIdeal.main_arg1)
      ∧ r.2.mem ((c.tc : Thread Cert.RetLayerRefIdeal.nD Cert.RetLayerRefIdeal.τ).loc Cert.RetLayerRefIdeal.main_arg2) = m ((c.tc : Thread Cert.RetLayerRefIdeal.nD Cert.RetLayerRefIdeal.τ).loc Cert.RetLayerRefIdeal.main_arg2)
      ∧ r.2.mem ((c.tc : Thread Cert.RetLayerRefIdeal.nD Cert.RetLayerRefIdeal.τ).loc Cert.RetLayerRefIdeal.main_arg3) = m ((c.tc : Thread Cert.RetLayerRefIdeal.nD Cert.RetLayerRefIdeal.τ).loc Cert.RetLayerRefIdeal.main_arg3)
      ∧ r.2.mem ((c.tc : Thread Cert.RetLayerRefIdeal.nD Cert.RetLayerRefIdeal.τ).loc Cert.RetLayerRefIdeal.main_arg4) = m ((c.tc : Thread Cert.RetLayerRefIdeal.nD Cert.RetLayerRefIdeal.τ).loc Cert.RetLayerRefIdeal.main_arg4)
      ∧ r.2.mem ((c.tc : Thread Cert.RetLayerRefIdeal.nD Cert.RetLayerRefIdeal.τ).loc Cert.RetLayerRefIdeal.main_arg5) = m ((c.tc : Thread Cert.RetLayerRefIdeal.nD Cert.RetLayerRefIdeal.τ).loc Cert.RetLayerRefIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_RetIn_RetInIdeal : Prop :=
  True

def algebraic_RetInIdeal_RetInRefIdeal [hRetInIdeal : Cert.RetInIdeal.Facts] [hRetInRefIdeal : Cert.RetInRefIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RetInRefIdeal.nD Cert.RetInRefIdeal.τ Cert.RetInRefIdeal.sig) → Buf (Elt Ideal) ℓ) (g' : Dev Cert.RetInRefIdeal.nD → PrngReg), Pre_RetInIdeal m →
    (∀ c : Dev Cert.RetInIdeal.nD,
      m' ((c.tc : Thread Cert.RetInRefIdeal.nD Cert.RetInRefIdeal.τ).loc Cert.RetInRefIdeal.main_arg0) = m ((c.tc : Thread Cert.RetInIdeal.nD Cert.RetInIdeal.τ).loc Cert.RetInIdeal.main_arg0)
      ∧ m' ((c.tc : Thread Cert.RetInRefIdeal.nD Cert.RetInRefIdeal.τ).loc Cert.RetInRefIdeal.main_arg1) = m ((c.tc : Thread Cert.RetInIdeal.nD Cert.RetInIdeal.τ).loc Cert.RetInIdeal.main_arg1)) →
    ∃ (v0 : (c : Dev Cert.RetInIdeal.nD) → Buf (Elt Ideal) ((c.tc : Thread Cert.RetInIdeal.nD Cert.RetInIdeal.τ).loc Cert.RetInIdeal.main_v0)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v0) = v0 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ θ_run (Cert.RetInRefIdeal.defs (F := Ideal)) (onTc (τ := Cert.RetInRefIdeal.τ) (Cert.RetInRefIdeal.main (F := Ideal))) ⟨m', fun _ => 0, g'⟩ (fun r => ∀ c : Dev Cert.RetInRefIdeal.nD,
          r.2.mem ((c.tc : Thread Cert.RetInRefIdeal.nD Cert.RetInRefIdeal.τ).loc Cert.RetInRefIdeal.main_v2) = v0 c
          ∧ r.2.mem ((c.tc : Thread Cert.RetInRefIdeal.nD Cert.RetInRefIdeal.τ).loc Cert.RetInRefIdeal.main_arg0) = m' ((c.tc : Thread Cert.RetInRefIdeal.nD Cert.RetInRefIdeal.τ).loc Cert.RetInRefIdeal.main_arg0)
          ∧ r.2.mem ((c.tc : Thread Cert.RetInRefIdeal.nD Cert.RetInRefIdeal.τ).loc Cert.RetInRefIdeal.main_arg1) = m' ((c.tc : Thread Cert.RetInRefIdeal.nD Cert.RetInRefIdeal.τ).loc Cert.RetInRefIdeal.main_arg1))

def preserves_GdnIn_GdnInIdeal : Prop :=
  True

def algebraic_GdnInIdeal_GdnInRefIdeal [hGdnInIdeal : Cert.GdnInIdeal.Facts] [hGdnInRefIdeal : Cert.GdnInRefIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInRefIdeal.nD Cert.GdnInRefIdeal.τ Cert.GdnInRefIdeal.sig) → Buf (Elt Ideal) ℓ) (g' : Dev Cert.GdnInRefIdeal.nD → PrngReg), Pre_GdnInIdeal m →
    (∀ c : Dev Cert.GdnInIdeal.nD,
      m' ((c.tc : Thread Cert.GdnInRefIdeal.nD Cert.GdnInRefIdeal.τ).loc Cert.GdnInRefIdeal.main_arg0) = m ((c.tc : Thread Cert.GdnInIdeal.nD Cert.GdnInIdeal.τ).loc Cert.GdnInIdeal.main_arg0)
      ∧ m' ((c.tc : Thread Cert.GdnInRefIdeal.nD Cert.GdnInRefIdeal.τ).loc Cert.GdnInRefIdeal.main_arg1) = m ((c.tc : Thread Cert.GdnInIdeal.nD Cert.GdnInIdeal.τ).loc Cert.GdnInIdeal.main_arg1)) →
    ∃ (v0 : (c : Dev Cert.GdnInIdeal.nD) → Buf (Elt Ideal) ((c.tc : Thread Cert.GdnInIdeal.nD Cert.GdnInIdeal.τ).loc Cert.GdnInIdeal.main_v2)) (v1 : (c : Dev Cert.GdnInIdeal.nD) → Buf (Elt Ideal) ((c.tc : Thread Cert.GdnInIdeal.nD Cert.GdnInIdeal.τ).loc Cert.GdnInIdeal.main_v10)) (v2 : (c : Dev Cert.GdnInIdeal.nD) → Buf (Elt Ideal) ((c.tc : Thread Cert.GdnInIdeal.nD Cert.GdnInIdeal.τ).loc Cert.GdnInIdeal.main_v11)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v2) = v0 c
          ∧ r.2.mem ((c.tc : Thread Cert.GdnInIdeal.nD Cert.GdnInIdeal.τ).loc Cert.GdnInIdeal.main_v10) = v1 c
          ∧ r.2.mem ((c.tc : Thread Cert.GdnInIdeal.nD Cert.GdnInIdeal.τ).loc Cert.GdnInIdeal.main_v11) = v2 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ θ_run (Cert.GdnInRefIdeal.defs (F := Ideal)) (onTc (τ := Cert.GdnInRefIdeal.τ) (Cert.GdnInRefIdeal.main (F := Ideal))) ⟨m', fun _ => 0, g'⟩ (fun r => ∀ c : Dev Cert.GdnInRefIdeal.nD,
          r.2.mem ((c.tc : Thread Cert.GdnInRefIdeal.nD Cert.GdnInRefIdeal.τ).loc Cert.GdnInRefIdeal.main_v3) = v0 c
          ∧ r.2.mem ((c.tc : Thread Cert.GdnInRefIdeal.nD Cert.GdnInRefIdeal.τ).loc Cert.GdnInRefIdeal.main_v10) = v1 c
          ∧ r.2.mem ((c.tc : Thread Cert.GdnInRefIdeal.nD Cert.GdnInRefIdeal.τ).loc Cert.GdnInRefIdeal.main_v11) = v2 c
          ∧ r.2.mem ((c.tc : Thread Cert.GdnInRefIdeal.nD Cert.GdnInRefIdeal.τ).loc Cert.GdnInRefIdeal.main_arg0) = m' ((c.tc : Thread Cert.GdnInRefIdeal.nD Cert.GdnInRefIdeal.τ).loc Cert.GdnInRefIdeal.main_arg0)
          ∧ r.2.mem ((c.tc : Thread Cert.GdnInRefIdeal.nD Cert.GdnInRefIdeal.τ).loc Cert.GdnInRefIdeal.main_arg1) = m' ((c.tc : Thread Cert.GdnInRefIdeal.nD Cert.GdnInRefIdeal.τ).loc Cert.GdnInRefIdeal.main_arg1))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)
      ∧ m' ((c.tc : Thread Cert.RetOutRefIdeal.nD Cert.RetOutRefIdeal.τ).loc Cert.RetOutRefIdeal.main_arg3) = m ((c.tc : Thread Cert.RetOutIdeal.nD Cert.RetOutIdeal.τ).loc Cert.RetOutIdeal.main_arg3)
      ∧ m' ((c.tc : Thread Cert.RetOutRefIdeal.nD Cert.RetOutRefIdeal.τ).loc Cert.RetOutRefIdeal.main_arg4) = m ((c.tc : Thread Cert.RetOutIdeal.nD Cert.RetOutIdeal.τ).loc Cert.RetOutIdeal.main_arg4)) →
    ∃ (v0 : (c : Dev Cert.RetOutIdeal.nD) → Buf (Elt Ideal) ((c.tc : Thread Cert.RetOutIdeal.nD Cert.RetOutIdeal.τ).loc Cert.RetOutIdeal.main_v2)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v2) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3)
          ∧ r.2.mem ((c.tc : Thread Cert.RetOutIdeal.nD Cert.RetOutIdeal.τ).loc Cert.RetOutIdeal.main_arg4) = m ((c.tc : Thread Cert.RetOutIdeal.nD Cert.RetOutIdeal.τ).loc Cert.RetOutIdeal.main_arg4))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v9) = v0 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2)
          ∧ r.2.mem ((c.tc : Thread Cert.RetOutRefIdeal.nD Cert.RetOutRefIdeal.τ).loc Cert.RetOutRefIdeal.main_arg3) = m' ((c.tc : Thread Cert.RetOutRefIdeal.nD Cert.RetOutRefIdeal.τ).loc Cert.RetOutRefIdeal.main_arg3)
          ∧ r.2.mem ((c.tc : Thread Cert.RetOutRefIdeal.nD Cert.RetOutRefIdeal.τ).loc Cert.RetOutRefIdeal.main_arg4) = m' ((c.tc : Thread Cert.RetOutRefIdeal.nD Cert.RetOutRefIdeal.τ).loc Cert.RetOutRefIdeal.main_arg4))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)
      ∧ m' ((c.tc : Thread Cert.GdnOutRefIdeal.nD Cert.GdnOutRefIdeal.τ).loc Cert.GdnOutRefIdeal.main_arg2) = m ((c.tc : Thread Cert.GdnOutIdeal.nD Cert.GdnOutIdeal.τ).loc Cert.GdnOutIdeal.main_arg2)
      ∧ m' ((c.tc : Thread Cert.GdnOutRefIdeal.nD Cert.GdnOutRefIdeal.τ).loc Cert.GdnOutRefIdeal.main_arg3) = m ((c.tc : Thread Cert.GdnOutIdeal.nD Cert.GdnOutIdeal.τ).loc Cert.GdnOutIdeal.main_arg3)) →
    ∃ (v0 : (c : Dev Cert.GdnOutIdeal.nD) → Buf (Elt Ideal) ((c.tc : Thread Cert.GdnOutIdeal.nD Cert.GdnOutIdeal.τ).loc Cert.GdnOutIdeal.main_v0)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v0) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v9) = v0 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1)
          ∧ r.2.mem ((c.tc : Thread Cert.GdnOutRefIdeal.nD Cert.GdnOutRefIdeal.τ).loc Cert.GdnOutRefIdeal.main_arg2) = m' ((c.tc : Thread Cert.GdnOutRefIdeal.nD Cert.GdnOutRefIdeal.τ).loc Cert.GdnOutRefIdeal.main_arg2)
          ∧ r.2.mem ((c.tc : Thread Cert.GdnOutRefIdeal.nD Cert.GdnOutRefIdeal.τ).loc Cert.GdnOutRefIdeal.main_arg3) = m' ((c.tc : Thread Cert.GdnOutRefIdeal.nD Cert.GdnOutRefIdeal.τ).loc Cert.GdnOutRefIdeal.main_arg3))

def preserves_RetPrompt_RetPromptIdeal : Prop :=
  True

def algebraic_RetPromptIdeal_RetPromptRefIdeal_pre_finite [hRetPromptIdeal : Cert.RetPromptIdeal.Facts] [hRetPromptRefIdeal : Cert.RetPromptRefIdeal.Facts] [hPre_finite : Cert.Pre_finite.Facts] : Prop :=
  ∀ (m : (ℓ : Loc Cert.RetPromptIdeal.nD Cert.RetPromptIdeal.τ Cert.RetPromptIdeal.sig) → Buf (Elt Ideal) ℓ) (g : Dev Cert.RetPromptIdeal.nD → PrngReg)
    (m' : (ℓ : Loc Cert.RetPromptRefIdeal.nD Cert.RetPromptRefIdeal.τ Cert.RetPromptRefIdeal.sig) → Buf (Elt Ideal) ℓ) (g' : Dev Cert.RetPromptRefIdeal.nD → PrngReg), Pre_RetPromptIdeal_finite m →
    (∀ c : Dev Cert.RetPromptIdeal.nD,
      m' ((c.tc : Thread Cert.RetPromptRefIdeal.nD Cert.RetPromptRefIdeal.τ).loc Cert.RetPromptRefIdeal.main_arg0) = m ((c.tc : Thread Cert.RetPromptIdeal.nD Cert.RetPromptIdeal.τ).loc Cert.RetPromptIdeal.main_arg0)
      ∧ m' ((c.tc : Thread Cert.RetPromptRefIdeal.nD Cert.RetPromptRefIdeal.τ).loc Cert.RetPromptRefIdeal.main_arg1) = m ((c.tc : Thread Cert.RetPromptIdeal.nD Cert.RetPromptIdeal.τ).loc Cert.RetPromptIdeal.main_arg1)) →
    ∃ (v0 : (c : Dev Cert.RetPromptIdeal.nD) → Buf (Elt Ideal) ((c.tc : Thread Cert.RetPromptIdeal.nD Cert.RetPromptIdeal.τ).loc Cert.RetPromptIdeal.main_v33_0)) (v1 : (c : Dev Cert.RetPromptIdeal.nD) → Buf (Elt Ideal) ((c.tc : Thread Cert.RetPromptIdeal.nD Cert.RetPromptIdeal.τ).loc Cert.RetPromptIdeal.main_v33_1)),
      θ_run (Cert.RetPromptIdeal.defs (F := Ideal)) (onTc (τ := Cert.RetPromptIdeal.τ) (Cert.RetPromptIdeal.main (F := Ideal))) ⟨m, fun _ => 0, g⟩ (fun r => ∀ c : Dev Cert.RetPromptIdeal.nD,
          r.2.mem ((c.tc : Thread Cert.RetPromptIdeal.nD Cert.RetPromptIdeal.τ).loc Cert.RetPromptIdeal.main_v33_0) = v0 c
          ∧ r.2.mem ((c.tc : Thread Cert.RetPromptIdeal.nD Cert.RetPromptIdeal.τ).loc Cert.RetPromptIdeal.main_v33_1) = v1 c
          ∧ r.2.mem ((c.tc : Thread Cert.RetPromptIdeal.nD Cert.RetPromptIdeal.τ).loc Cert.RetPromptIdeal.main_arg0) = m ((c.tc : Thread Cert.RetPromptIdeal.nD Cert.RetPromptIdeal.τ).loc Cert.RetPromptIdeal.main_arg0)
          ∧ r.2.mem ((c.tc : Thread Cert.RetPromptIdeal.nD Cert.RetPromptIdeal.τ).loc Cert.RetPromptIdeal.main_arg1) = m ((c.tc : Thread Cert.RetPromptIdeal.nD Cert.RetPromptIdeal.τ).loc Cert.RetPromptIdeal.main_arg1))
      ∧ θ_run (Cert.RetPromptRefIdeal.defs (F := Ideal)) (onTc (τ := Cert.RetPromptRefIdeal.τ) (Cert.RetPromptRefIdeal.main (F := Ideal))) ⟨m', fun _ => 0, g'⟩ (fun r => ∀ c : Dev Cert.RetPromptRefIdeal.nD,
          r.2.mem ((c.tc : Thread Cert.RetPromptRefIdeal.nD Cert.RetPromptRefIdeal.τ).loc Cert.RetPromptRefIdeal.main_v161) = v0 c
          ∧ r.2.mem ((c.tc : Thread Cert.RetPromptRefIdeal.nD Cert.RetPromptRefIdeal.τ).loc Cert.RetPromptRefIdeal.main_v132) = v1 c
          ∧ r.2.mem ((c.tc : Thread Cert.RetPromptRefIdeal.nD Cert.RetPromptRefIdeal.τ).loc Cert.RetPromptRefIdeal.main_arg0) = m' ((c.tc : Thread Cert.RetPromptRefIdeal.nD Cert.RetPromptRefIdeal.τ).loc Cert.RetPromptRefIdeal.main_arg0)
          ∧ r.2.mem ((c.tc : Thread Cert.RetPromptRefIdeal.nD Cert.RetPromptRefIdeal.τ).loc Cert.RetPromptRefIdeal.main_arg1) = m' ((c.tc : Thread Cert.RetPromptRefIdeal.nD Cert.RetPromptRefIdeal.τ).loc Cert.RetPromptRefIdeal.main_arg1))

def preserves_RetLayer_RetLayerIdeal : Prop :=
  True

def algebraic_RetLayerIdeal_RetLayerRefIdeal [hRetLayerIdeal : Cert.RetLayerIdeal.Facts] [hRetLayerRefIdeal : Cert.RetLayerRefIdeal.Facts] : Prop :=
  ∀ (m : (ℓ : Loc Cert.RetLayerIdeal.nD Cert.RetLayerIdeal.τ Cert.RetLayerIdeal.sig) → Buf (Elt Ideal) ℓ) (g : Dev Cert.RetLayerIdeal.nD → PrngReg)
    (m' : (ℓ : Loc Cert.RetLayerRefIdeal.nD Cert.RetLayerRefIdeal.τ Cert.RetLayerRefIdeal.sig) → Buf (Elt Ideal) ℓ) (g' : Dev Cert.RetLayerRefIdeal.nD → PrngReg), Pre_RetLayerIdeal m →
    (∀ c : Dev Cert.RetLayerIdeal.nD,
      m' ((c.tc : Thread Cert.RetLayerRefIdeal.nD Cert.RetLayerRefIdeal.τ).loc Cert.RetLayerRefIdeal.main_arg0) = m ((c.tc : Thread Cert.RetLayerIdeal.nD Cert.RetLayerIdeal.τ).loc Cert.RetLayerIdeal.main_arg0)
      ∧ m' ((c.tc : Thread Cert.RetLayerRefIdeal.nD Cert.RetLayerRefIdeal.τ).loc Cert.RetLayerRefIdeal.main_arg1) = m ((c.tc : Thread Cert.RetLayerIdeal.nD Cert.RetLayerIdeal.τ).loc Cert.RetLayerIdeal.main_arg1)
      ∧ m' ((c.tc : Thread Cert.RetLayerRefIdeal.nD Cert.RetLayerRefIdeal.τ).loc Cert.RetLayerRefIdeal.main_arg2) = m ((c.tc : Thread Cert.RetLayerIdeal.nD Cert.RetLayerIdeal.τ).loc Cert.RetLayerIdeal.main_arg2)
      ∧ m' ((c.tc : Thread Cert.RetLayerRefIdeal.nD Cert.RetLayerRefIdeal.τ).loc Cert.RetLayerRefIdeal.main_arg3) = m ((c.tc : Thread Cert.RetLayerIdeal.nD Cert.RetLayerIdeal.τ).loc Cert.RetLayerIdeal.main_arg3)
      ∧ m' ((c.tc : Thread Cert.RetLayerRefIdeal.nD Cert.RetLayerRefIdeal.τ).loc Cert.RetLayerRefIdeal.main_arg4) = m ((c.tc : Thread Cert.RetLayerIdeal.nD Cert.RetLayerIdeal.τ).loc Cert.RetLayerIdeal.main_arg4)
      ∧ m' ((c.tc : Thread Cert.RetLayerRefIdeal.nD Cert.RetLayerRefIdeal.τ).loc Cert.RetLayerRefIdeal.main_arg5) = m ((c.tc : Thread Cert.RetLayerIdeal.nD Cert.RetLayerIdeal.τ).loc Cert.RetLayerIdeal.main_arg5)) →
    ∃ (v0 : (c : Dev Cert.RetLayerIdeal.nD) → Buf (Elt Ideal) ((c.tc : Thread Cert.RetLayerIdeal.nD Cert.RetLayerIdeal.τ).loc Cert.RetLayerIdeal.main_v41_0)) (v1 : (c : Dev Cert.RetLayerIdeal.nD) → Buf (Elt Ideal) ((c.tc : Thread Cert.RetLayerIdeal.nD Cert.RetLayerIdeal.τ).loc Cert.RetLayerIdeal.main_v41_1)),
      θ_run (Cert.RetLayerIdeal.defs (F := Ideal)) (onTc (τ := Cert.RetLayerIdeal.τ) (Cert.RetLayerIdeal.main (F := Ideal))) ⟨m, fun _ => 0, g⟩ (fun r => ∀ c : Dev Cert.RetLayerIdeal.nD,
          r.2.mem ((c.tc : Thread Cert.RetLayerIdeal.nD Cert.RetLayerIdeal.τ).loc Cert.RetLayerIdeal.main_v41_0) = v0 c
          ∧ r.2.mem ((c.tc : Thread Cert.RetLayerIdeal.nD Cert.RetLayerIdeal.τ).loc Cert.RetLayerIdeal.main_v41_1) = v1 c
          ∧ r.2.mem ((c.tc : Thread Cert.RetLayerIdeal.nD Cert.RetLayerIdeal.τ).loc Cert.RetLayerIdeal.main_arg0) = m ((c.tc : Thread Cert.RetLayerIdeal.nD Cert.RetLayerIdeal.τ).loc Cert.RetLayerIdeal.main_arg0)
          ∧ r.2.mem ((c.tc : Thread Cert.RetLayerIdeal.nD Cert.RetLayerIdeal.τ).loc Cert.RetLayerIdeal.main_arg1) = m ((c.tc : Thread Cert.RetLayerIdeal.nD Cert.RetLayerIdeal.τ).loc Cert.RetLayerIdeal.main_arg1)
          ∧ r.2.mem ((c.tc : Thread Cert.RetLayerIdeal.nD Cert.RetLayerIdeal.τ).loc Cert.RetLayerIdeal.main_arg2) = m ((c.tc : Thread Cert.RetLayerIdeal.nD Cert.RetLayerIdeal.τ).loc Cert.RetLayerIdeal.main_arg2)
          ∧ r.2.mem ((c.tc : Thread Cert.RetLayerIdeal.nD Cert.RetLayerIdeal.τ).loc Cert.RetLayerIdeal.main_arg3) = m ((c.tc : Thread Cert.RetLayerIdeal.nD Cert.RetLayerIdeal.τ).loc Cert.RetLayerIdeal.main_arg3)
          ∧ r.2.mem ((c.tc : Thread Cert.RetLayerIdeal.nD Cert.RetLayerIdeal.τ).loc Cert.RetLayerIdeal.main_arg4) = m ((c.tc : Thread Cert.RetLayerIdeal.nD Cert.RetLayerIdeal.τ).loc Cert.RetLayerIdeal.main_arg4)
          ∧ r.2.mem ((c.tc : Thread Cert.RetLayerIdeal.nD Cert.RetLayerIdeal.τ).loc Cert.RetLayerIdeal.main_arg5) = m ((c.tc : Thread Cert.RetLayerIdeal.nD Cert.RetLayerIdeal.τ).loc Cert.RetLayerIdeal.main_arg5))
      ∧ θ_run (Cert.RetLayerRefIdeal.defs (F := Ideal)) (onTc (τ := Cert.RetLayerRefIdeal.τ) (Cert.RetLayerRefIdeal.main (F := Ideal))) ⟨m', fun _ => 0, g'⟩ (fun r => ∀ c : Dev Cert.RetLayerRefIdeal.nD,
          r.2.mem ((c.tc : Thread Cert.RetLayerRefIdeal.nD Cert.RetLayerRefIdeal.τ).loc Cert.RetLayerRefIdeal.main_v178) = v0 c
          ∧ r.2.mem ((c.tc : Thread Cert.RetLayerRefIdeal.nD Cert.RetLayerRefIdeal.τ).loc Cert.RetLayerRefIdeal.main_v149) = v1 c
          ∧ r.2.mem ((c.tc : Thread Cert.RetLayerRefIdeal.nD Cert.RetLayerRefIdeal.τ).loc Cert.RetLayerRefIdeal.main_arg0) = m' ((c.tc : Thread Cert.RetLayerRefIdeal.nD Cert.RetLayerRefIdeal.τ).loc Cert.RetLayerRefIdeal.main_arg0)
          ∧ r.2.mem ((c.tc : Thread Cert.RetLayerRefIdeal.nD Cert.RetLayerRefIdeal.τ).loc Cert.RetLayerRefIdeal.main_arg1) = m' ((c.tc : Thread Cert.RetLayerRefIdeal.nD Cert.RetLayerRefIdeal.τ).loc Cert.RetLayerRefIdeal.main_arg1)
          ∧ r.2.mem ((c.tc : Thread Cert.RetLayerRefIdeal.nD Cert.RetLayerRefIdeal.τ).loc Cert.RetLayerRefIdeal.main_arg2) = m' ((c.tc : Thread Cert.RetLayerRefIdeal.nD Cert.RetLayerRefIdeal.τ).loc Cert.RetLayerRefIdeal.main_arg2)
          ∧ r.2.mem ((c.tc : Thread Cert.RetLayerRefIdeal.nD Cert.RetLayerRefIdeal.τ).loc Cert.RetLayerRefIdeal.main_arg3) = m' ((c.tc : Thread Cert.RetLayerRefIdeal.nD Cert.RetLayerRefIdeal.τ).loc Cert.RetLayerRefIdeal.main_arg3)
          ∧ r.2.mem ((c.tc : Thread Cert.RetLayerRefIdeal.nD Cert.RetLayerRefIdeal.τ).loc Cert.RetLayerRefIdeal.main_arg4) = m' ((c.tc : Thread Cert.RetLayerRefIdeal.nD Cert.RetLayerRefIdeal.τ).loc Cert.RetLayerRefIdeal.main_arg4)
          ∧ r.2.mem ((c.tc : Thread Cert.RetLayerRefIdeal.nD Cert.RetLayerRefIdeal.τ).loc Cert.RetLayerRefIdeal.main_arg5) = m' ((c.tc : Thread Cert.RetLayerRefIdeal.nD Cert.RetLayerRefIdeal.τ).loc Cert.RetLayerRefIdeal.main_arg5))

def Claim : Prop :=
  ∃ (hKernel : Cert.Kernel.Facts) (hKernelIdeal : Cert.KernelIdeal.Facts) (hReferenceIdeal : Cert.ReferenceIdeal.Facts) (hRetIn : Cert.RetIn.Facts) (hRetInIdeal : Cert.RetInIdeal.Facts) (hRetInRefIdeal : Cert.RetInRefIdeal.Facts) (hGdnIn : Cert.GdnIn.Facts) (hGdnInIdeal : Cert.GdnInIdeal.Facts) (hGdnInRefIdeal : Cert.GdnInRefIdeal.Facts) (hRetOut : Cert.RetOut.Facts) (hRetOutIdeal : Cert.RetOutIdeal.Facts) (hRetOutRefIdeal : Cert.RetOutRefIdeal.Facts) (hGdnOut : Cert.GdnOut.Facts) (hGdnOutIdeal : Cert.GdnOutIdeal.Facts) (hGdnOutRefIdeal : Cert.GdnOutRefIdeal.Facts) (hRetPrompt : Cert.RetPrompt.Facts) (hRetPromptIdeal : Cert.RetPromptIdeal.Facts) (hRetPromptRefIdeal : Cert.RetPromptRefIdeal.Facts) (hRetLayer : Cert.RetLayer.Facts) (hRetLayerIdeal : Cert.RetLayerIdeal.Facts) (hRetLayerRefIdeal : Cert.RetLayerRefIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_RetIn (hRetIn := hRetIn)
    ∧ quiescent_RetInIdeal (hRetInIdeal := hRetInIdeal)
    ∧ quiescent_RetInRefIdeal (hRetInRefIdeal := hRetInRefIdeal)
    ∧ quiescent_GdnIn (hGdnIn := hGdnIn)
    ∧ quiescent_GdnInIdeal (hGdnInIdeal := hGdnInIdeal)
    ∧ quiescent_GdnInRefIdeal (hGdnInRefIdeal := hGdnInRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_RetPrompt (hRetPrompt := hRetPrompt)
    ∧ quiescent_RetPromptIdeal (hRetPromptIdeal := hRetPromptIdeal)
    ∧ quiescent_RetPromptIdeal_pre_finite (hRetPromptIdeal := hRetPromptIdeal) (hPre_finite := hPre_finite)
    ∧ quiescent_RetPromptRefIdeal (hRetPromptRefIdeal := hRetPromptRefIdeal)
    ∧ quiescent_RetPromptRefIdeal_pre_finite (hRetPromptRefIdeal := hRetPromptRefIdeal) (hPre_finite := hPre_finite)
    ∧ quiescent_RetLayer (hRetLayer := hRetLayer)
    ∧ quiescent_RetLayerIdeal (hRetLayerIdeal := hRetLayerIdeal)
    ∧ quiescent_RetLayerRefIdeal (hRetLayerRefIdeal := hRetLayerRefIdeal)
    ∧ preserves_Kernel_KernelIdeal
    ∧ algebraic_KernelIdeal_ReferenceIdeal (hKernelIdeal := hKernelIdeal) (hReferenceIdeal := hReferenceIdeal)
    ∧ preserves_RetIn_RetInIdeal
    ∧ algebraic_RetInIdeal_RetInRefIdeal (hRetInIdeal := hRetInIdeal) (hRetInRefIdeal := hRetInRefIdeal)
    ∧ preserves_GdnIn_GdnInIdeal
    ∧ algebraic_GdnInIdeal_GdnInRefIdeal (hGdnInIdeal := hGdnInIdeal) (hGdnInRefIdeal := hGdnInRefIdeal)
    ∧ preserves_RetOut_RetOutIdeal
    ∧ algebraic_RetOutIdeal_RetOutRefIdeal (hRetOutIdeal := hRetOutIdeal) (hRetOutRefIdeal := hRetOutRefIdeal)
    ∧ preserves_GdnOut_GdnOutIdeal
    ∧ algebraic_GdnOutIdeal_GdnOutRefIdeal (hGdnOutIdeal := hGdnOutIdeal) (hGdnOutRefIdeal := hGdnOutRefIdeal)
    ∧ preserves_RetPrompt_RetPromptIdeal
    ∧ algebraic_RetPromptIdeal_RetPromptRefIdeal_pre_finite (hRetPromptIdeal := hRetPromptIdeal) (hRetPromptRefIdeal := hRetPromptRefIdeal) (hPre_finite := hPre_finite)
    ∧ preserves_RetLayer_RetLayerIdeal
    ∧ algebraic_RetLayerIdeal_RetLayerRefIdeal (hRetLayerIdeal := hRetLayerIdeal) (hRetLayerRefIdeal := hRetLayerRefIdeal)
-- ==== Pre_finite.lean ====
abbrev S9216x12288 : Shape := ⟨2, ![9216, 12288]⟩
abbrev S1x8x512 : Shape := ⟨3, ![1, 8, 512]⟩
abbrev S_ : Shape := ⟨0, ![]⟩

class Facts : Prop where
  bcast_S_S9216x12288 : S_.BroadcastsInDim S9216x12288 (![] : Fin 0 → Fin S9216x12288.rank)

variable [Facts]

def fn {F : FTy → Type} [FloatOps F] (main_arg0 : FVec F S9216x12288 .f32) (main_arg1 : FVec F S1x8x512 .f32) : IVec S9216x12288 1 :=
  let main_v0 : FVec F S9216x12288 .f32 := Host.absf main_arg0
  let main_cst : FVec F S_ .f32 := constant S_ .f32 0x7F800000#32
  let main_v1 : FVec F S9216x12288 .f32 := broadcastInDim S9216x12288 ![] bcast_S_S9216x12288 main_cst
  let main_v2 : IVec S9216x12288 1 := cmpf .olt main_v0 main_v1
  main_v2
-- ==== Kernel.lean ====
abbrev S9216x12288 : Shape := ⟨2, ![9216, 12288]⟩
abbrev S1x128x8x256x512 : Shape := ⟨5, ![1, 128, 8, 256, 512]⟩
abbrev S1x8x512 : Shape := ⟨3, ![1, 8, 512]⟩
abbrev S128x8x256x512 : Shape := ⟨4, ![128, 8, 256, 512]⟩
abbrev S8x512 : Shape := ⟨2, ![8, 512]⟩
abbrev S8 : Shape := ⟨1, ![8]⟩
abbrev S_ : Shape := ⟨0, ![]⟩
abbrev S128 : Shape := ⟨1, ![128]⟩
abbrev S8x1 : Shape := ⟨2, ![8, 1]⟩
abbrev S1x128 : Shape := ⟨2, ![1, 128]⟩
abbrev S8x128 : Shape := ⟨2, ![8, 128]⟩
abbrev S1x8x1x128 : Shape := ⟨4, ![1, 8, 1, 128]⟩
abbrev S8x8x1x128 : Shape := ⟨4, ![8, 8, 1, 128]⟩
abbrev S64x128 : Shape := ⟨2, ![64, 128]⟩
abbrev S8x1x512 : Shape := ⟨3, ![8, 1, 512]⟩
abbrev S1024x4096 : Shape := ⟨2, ![1024, 4096]⟩
abbrev S64x256 : Shape := ⟨2, ![64, 256]⟩
abbrev S64x512 : Shape := ⟨2, ![64, 512]⟩
abbrev S1x1x512 : Shape := ⟨3, ![1, 1, 512]⟩
abbrev S8x1x128x512 : Shape := ⟨4, ![8, 1, 128, 512]⟩
abbrev S8x1x256x512 : Shape := ⟨4, ![8, 1, 256, 512]⟩
abbrev S1 : Shape := ⟨1, ![1]⟩
abbrev S1x8 : Shape := ⟨2, ![1, 8]⟩
abbrev S8x8 : Shape := ⟨2, ![8, 8]⟩
abbrev S1x1 : Shape := ⟨2, ![1, 1]⟩
abbrev S1x512 : Shape := ⟨2, ![1, 512]⟩
abbrev S1x1x128x512 : Shape := ⟨4, ![1, 1, 128, 512]⟩
abbrev S128x512 : Shape := ⟨2, ![128, 512]⟩
abbrev S256x512 : Shape := ⟨2, ![256, 512]⟩
abbrev S8x256 : Shape := ⟨2, ![8, 256]⟩
abbrev S1x1x256x512 : Shape := ⟨4, ![1, 1, 256, 512]⟩

abbrev nBuf : Space → Nat
  | .hbm => 44
  | .vmem => 20
  | .smem => 1
  | _ => 0

abbrev bufTy : (tb : Table) → Fin (tcTables nBuf tb) → BufTy
  | .hbm, ⟨0, _⟩ => ⟨S9216x12288, .f32⟩
  | .hbm, ⟨1, _⟩ => ⟨S1x128x8x256x512, .f32⟩
  | .hbm, ⟨2, _⟩ => ⟨S1x8x512, .f32⟩
  | .hbm, ⟨3, _⟩ => ⟨S128x8x256x512, .f32⟩
  | .hbm, ⟨4, _⟩ => ⟨S8x512, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S8, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S8x1, .f32⟩
  | .hbm, ⟨19, _⟩ => ⟨S1x128, .f32⟩
  | .hbm, ⟨20, _⟩ => ⟨S8x128, .f32⟩
  | .hbm, ⟨21, _⟩ => ⟨S8x128, .f32⟩
  | .hbm, ⟨22, _⟩ => ⟨S8x128, .f32⟩
  | .hbm, ⟨23, _⟩ => ⟨S8x128, .f32⟩
  | .hbm, ⟨24, _⟩ => ⟨S1x8x1x128, .f32⟩
  | .hbm, ⟨25, _⟩ => ⟨S8x8x1x128, .f32⟩
  | .hbm, ⟨26, _⟩ => ⟨S64x128, .f32⟩
  | .hbm, ⟨27, _⟩ => ⟨S8x128, .f32⟩
  | .hbm, ⟨28, _⟩ => ⟨S1x8x1x128, .f32⟩
  | .hbm, ⟨29, _⟩ => ⟨S8x8x1x128, .f32⟩
  | .hbm, ⟨30, _⟩ => ⟨S64x128, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S8, .f32⟩
  | .hbm, ⟨41, _⟩ => ⟨S8x1x512, .f32⟩
  | .hbm, ⟨42, _⟩ => ⟨S1024x4096, .bf16⟩
  | .hbm, ⟨43, _⟩ => ⟨S128x8x256x512, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x128, .f32⟩
  | .local _ .vmem, ⟨9, _⟩ => ⟨S64x128, .f32⟩
  | .local _ .vmem, ⟨10, _⟩ => ⟨S1x1x512, .f32⟩
  | .local _ .vmem, ⟨11, _⟩ => ⟨S1x1x512, .f32⟩
  | .local _ .vmem, ⟨12, _⟩ => ⟨S8x1x128x512, .f32⟩
  | .local _ .vmem, ⟨13, _⟩ => ⟨S8x1x128x512, .f32⟩
  | .local _ .vmem, ⟨14, _⟩ => ⟨S8x1x128x512, .f32⟩
  | .local _ .vmem, ⟨15, _⟩ => ⟨S8x1x128x512, .f32⟩
  | .local _ .vmem, ⟨16, _⟩ => ⟨S64x512, .bf16⟩
  | .local _ .vmem, ⟨17, _⟩ => ⟨S64x512, .bf16⟩
  | .local _ .vmem, ⟨18, _⟩ => ⟨S8x1x256x512, .f32⟩
  | .local _ .vmem, ⟨19, _⟩ => ⟨S8x1x256x512, .f32⟩
  | .local _ .smem, ⟨0, _⟩ => ⟨S8, .f32⟩
  | _, _ => ⟨S9216x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34_0 : Ref sig .tc := ⟨.hbm, 42, rfl⟩
abbrev main_v34_1 : Ref sig .tc := ⟨.hbm, 43, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![16, 8, 1], ![false, false, false]⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c8_i32 : BitVec 32 := 8#32
  let v3 : BitVec 32 := Scalar.addi c8_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c8_i32 : BitVec 32 := 8#32
  let v3 : BitVec 32 := Scalar.addi c8_i32 arg1
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c16_i32 : BitVec 32 := 16#32
  let v3 : BitVec 32 := Scalar.addi c16_i32 arg1
  let c0_i32 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, arg1.toNat, c1_i32.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S8x1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S8x1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S8x1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== ReferenceIdeal.lean ====
abbrev S9216x12288 : Shape := ⟨2, ![9216, 12288]⟩
abbrev S1x128x8x256x512 : Shape := ⟨5, ![1, 128, 8, 256, 512]⟩
abbrev S1x8x512 : Shape := ⟨3, ![1, 8, 512]⟩
abbrev S1024x12288 : Shape := ⟨2, ![1024, 12288]⟩
abbrev S128x8x12288 : Shape := ⟨3, ![128, 8, 12288]⟩
abbrev S128x8x2048 : Shape := ⟨3, ![128, 8, 2048]⟩
abbrev S128x8x4096 : Shape := ⟨3, ![128, 8, 4096]⟩
abbrev S8 : Shape := ⟨1, ![8]⟩
abbrev S_ : Shape := ⟨0, ![]⟩
abbrev S128x8x8x256 : Shape := ⟨4, ![128, 8, 8, 256]⟩
abbrev S128 : Shape := ⟨1, ![128]⟩
abbrev S8x1 : Shape := ⟨2, ![8, 1]⟩
abbrev S1x128 : Shape := ⟨2, ![1, 128]⟩
abbrev S8x128 : Shape := ⟨2, ![8, 128]⟩
abbrev S1x8x1x128 : Shape := ⟨4, ![1, 8, 1, 128]⟩
abbrev S128x8x8x128 : Shape := ⟨4, ![128, 8, 8, 128]⟩
abbrev S128x8x8x512 : Shape := ⟨4, ![128, 8, 8, 512]⟩
abbrev S1x8 : Shape := ⟨2, ![1, 8]⟩
abbrev S8x8 : Shape := ⟨2, ![8, 8]⟩
abbrev S8x1x1 : Shape := ⟨3, ![8, 1, 1]⟩
abbrev S1x8x8 : Shape := ⟨3, ![1, 8, 8]⟩
abbrev S8x8x8 : Shape := ⟨3, ![8, 8, 8]⟩
abbrev S1x8x8x1 : Shape := ⟨4, ![1, 8, 8, 1]⟩
abbrev S1x8x1x1 : Shape := ⟨4, ![1, 8, 1, 1]⟩
abbrev S128x8x256x512 : Shape := ⟨4, ![128, 8, 256, 512]⟩
abbrev S128x8x8x8 : Shape := ⟨4, ![128, 8, 8, 8]⟩
abbrev S1x8x8x8 : Shape := ⟨4, ![1, 8, 8, 8]⟩
abbrev S128x8x8 : Shape := ⟨3, ![128, 8, 8]⟩
abbrev S128x8x8x1 : Shape := ⟨4, ![128, 8, 8, 1]⟩
abbrev S8x512 : Shape := ⟨2, ![8, 512]⟩
abbrev S1x1x8x512 : Shape := ⟨4, ![1, 1, 8, 512]⟩
abbrev S1024x4096 : Shape := ⟨2, ![1024, 4096]⟩

abbrev nBuf : Space → Nat
  | .hbm => 199
  | .vmem => 0
  | .smem => 0
  | _ => 0

abbrev hbmTy0_0 (i : Nat) : BufTy := match i % 128 with
  | 0 => ⟨S9216x12288, .f32⟩
  | 1 => ⟨S1x128x8x256x512, .f32⟩
  | 2 => ⟨S1x8x512, .f32⟩
  | 3 => ⟨S1024x12288, .f32⟩
  | 4 => ⟨S128x8x12288, .f32⟩
  | 5 => ⟨S128x8x2048, .f32⟩
  | 6 => ⟨S128x8x2048, .f32⟩
  | 7 => ⟨S128x8x4096, .f32⟩
  | 8 => ⟨S128x8x4096, .f32⟩
  | 9 => ⟨S8, .i32⟩
  | 10 => ⟨S_, .i32⟩
  | 11 => ⟨S8, .i32⟩
  | 12 => ⟨S8, .i32⟩
  | 13 => ⟨S8, .f32⟩
  | 14 => ⟨S128x8x8x256, .f32⟩
  | 15 => ⟨S128, .f32⟩
  | 16 => ⟨S128, .f32⟩
  | 17 => ⟨S_, .f32⟩
  | 18 => ⟨S128, .f32⟩
  | 19 => ⟨S128, .f32⟩
  | 20 => ⟨S_, .f32⟩
  | 21 => ⟨S128, .f32⟩
  | 22 => ⟨S128, .f32⟩
  | 23 => ⟨S8x1, .f32⟩
  | 24 => ⟨S1x128, .f32⟩
  | 25 => ⟨S8x128, .f32⟩
  | 26 => ⟨S8x128, .f32⟩
  | 27 => ⟨S8x128, .f32⟩
  | 28 => ⟨S8x128, .f32⟩
  | 29 => ⟨S1x8x1x128, .f32⟩
  | 30 => ⟨S8x128, .f32⟩
  | 31 => ⟨S1x8x1x128, .f32⟩
  | 32 => ⟨S128x8x8x128, .f32⟩
  | 33 => ⟨S128x8x8x128, .f32⟩
  | 34 => ⟨S128x8x8x128, .f32⟩
  | 35 => ⟨S128x8x8x128, .f32⟩
  | 36 => ⟨S128x8x8x128, .f32⟩
  | 37 => ⟨S128x8x8x128, .f32⟩
  | 38 => ⟨S128x8x8x128, .f32⟩
  | 39 => ⟨S128x8x8x128, .f32⟩
  | 40 => ⟨S128x8x8x128, .f32⟩
  | 41 => ⟨S128x8x8x128, .f32⟩
  | 42 => ⟨S128x8x8x128, .f32⟩
  | 43 => ⟨S128x8x8x128, .f32⟩
  | 44 => ⟨S128x8x8x256, .f32⟩
  | 45 => ⟨S128x8x8x256, .f32⟩
  | 46 => ⟨S128, .f32⟩
  | 47 => ⟨S128, .f32⟩
  | 48 => ⟨S_, .f32⟩
  | 49 => ⟨S128, .f32⟩
  | 50 => ⟨S128, .f32⟩
  | 51 => ⟨S_, .f32⟩
  | 52 => ⟨S128, .f32⟩
  | 53 => ⟨S128, .f32⟩
  | 54 => ⟨S8x1, .f32⟩
  | 55 => ⟨S1x128, .f32⟩
  | 56 => ⟨S8x128, .f32⟩
  | 57 => ⟨S8x128, .f32⟩
  | 58 => ⟨S8x128, .f32⟩
  | 59 => ⟨S8x128, .f32⟩
  | 60 => ⟨S1x8x1x128, .f32⟩
  | 61 => ⟨S8x128, .f32⟩
  | 62 => ⟨S1x8x1x128, .f32⟩
  | 63 => ⟨S128x8x8x128, .f32⟩
  | 64 => ⟨S128x8x8x128, .f32⟩
  | 65 => ⟨S128x8x8x128, .f32⟩
  | 66 => ⟨S128x8x8x128, .f32⟩
  | 67 => ⟨S128x8x8x128, .f32⟩
  | 68 => ⟨S128x8x8x128, .f32⟩
  | 69 => ⟨S128x8x8x128, .f32⟩
  | 70 => ⟨S128x8x8x128, .f32⟩
  | 71 => ⟨S128x8x8x128, .f32⟩
  | 72 => ⟨S128x8x8x128, .f32⟩
  | 73 => ⟨S128x8x8x128, .f32⟩
  | 74 => ⟨S128x8x8x128, .f32⟩
  | 75 => ⟨S128x8x8x256, .f32⟩
  | 76 => ⟨S_, .f32⟩
  | 77 => ⟨S128x8x8x256, .f32⟩
  | 78 => ⟨S128x8x8x256, .f32⟩
  | 79 => ⟨S128x8x8x512, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S8, .f32⟩
  | 88 => ⟨S8, .f32⟩
  | 89 => ⟨S8, .f32⟩
  | 90 => ⟨S8, .f32⟩
  | 91 => ⟨S8x1, .f32⟩
  | 92 => ⟨S1x8, .f32⟩
  | 93 => ⟨S8x8, .f32⟩
  | 94 => ⟨S8x8, .f32⟩
  | 95 => ⟨S8x8, .f32⟩
  | 96 => ⟨S_, .f32⟩
  | 97 => ⟨S8x8, .f32⟩
  | 98 => ⟨S8x8, .i1⟩
  | 99 => ⟨S8x1x1, .f32⟩
  | 100 => ⟨S_, .f32⟩
  | 101 => ⟨S_, .f32⟩
  | 102 => ⟨S8x8, .f32⟩
  | 103 => ⟨S8x8, .f32⟩
  | 104 => ⟨S1x8x8, .f32⟩
  | 105 => ⟨S8x8x8, .f32⟩
  | 106 => ⟨S8x8x8, .f32⟩
  | 107 => ⟨S8x8x8, .f32⟩
  | 108 => ⟨S8x8x8, .f32⟩
  | 109 => ⟨S_, .f32⟩
  | 110 => ⟨S_, .f32⟩
  | 111 => ⟨S8x8x8, .i1⟩
  | 112 => ⟨S8x8x8, .f32⟩
  | 113 => ⟨S8x8x8, .f32⟩
  | 114 => ⟨S8x1, .f32⟩
  | 115 => ⟨S_, .f32⟩
  | 116 => ⟨S8, .f32⟩
  | 117 => ⟨S8, .f32⟩
  | 118 => ⟨S1x8, .f32⟩
  | 119 => ⟨S8x8, .f32⟩
  | 120 => ⟨S8x8, .f32⟩
  | 121 => ⟨S8x8, .f32⟩
  | 122 => ⟨S8x8, .f32⟩
  | 123 => ⟨S1x8x8x1, .f32⟩
  | 124 => ⟨S8x1, .f32⟩
  | 125 => ⟨S_, .f32⟩
  | 126 => ⟨S8, .f32⟩
  | 127 => ⟨S8, .f32⟩
  | _ => ⟨S9216x12288, .f32⟩

abbrev hbmTy0_1 (i : Nat) : BufTy := match i % 128 with
  | 0 => ⟨S1x8, .f32⟩
  | 1 => ⟨S8x8, .f32⟩
  | 2 => ⟨S8x8, .f32⟩
  | 3 => ⟨S8x8, .f32⟩
  | 4 => ⟨S8x8, .f32⟩
  | 5 => ⟨S1x8x8x1, .f32⟩
  | 6 => ⟨S_, .f32⟩
  | 7 => ⟨S8, .f32⟩
  | 8 => ⟨S8, .f32⟩
  | 9 => ⟨S8, .f32⟩
  | 10 => ⟨S1x8x1x1, .f32⟩
  | 11 => ⟨S128x8x256x512, .f32⟩
  | 12 => ⟨S128x8x8x256, .f32⟩
  | 13 => ⟨S128x8x8x256, .f32⟩
  | 14 => ⟨S128x8x8x512, .f32⟩
  | 15 => ⟨S128x8x8x8, .f32⟩
  | 16 => ⟨S1x8x8x8, .f32⟩
  | 17 => ⟨S128x8x8x8, .f32⟩
  | 18 => ⟨S128x8x8x8, .f32⟩
  | 19 => ⟨S128x8x8x512, .f32⟩
  | 20 => ⟨S128x8x8x512, .f32⟩
  | 21 => ⟨S128x8x8x512, .f32⟩
  | 22 => ⟨S128x8x8x512, .f32⟩
  | 23 => ⟨S128x8x256x512, .f32⟩
  | 24 => ⟨S128x8x256x512, .f32⟩
  | 25 => ⟨S128x8x8x256, .f32⟩
  | 26 => ⟨S128x8x8x256, .f32⟩
  | 27 => ⟨S128x8x256x512, .f32⟩
  | 28 => ⟨S128x8x256x512, .f32⟩
  | 29 => ⟨S128x8x8x512, .f32⟩
  | 30 => ⟨S128x8x8x512, .f32⟩
  | 31 => ⟨S_, .f32⟩
  | 32 => ⟨S128x8x8, .f32⟩
  | 33 => ⟨S128x8x8x1, .f32⟩
  | 34 => ⟨S_, .f32⟩
  | 35 => ⟨S128x8x8x1, .f32⟩
  | 36 => ⟨S128x8x8x1, .f32⟩
  | 37 => ⟨S128x8x8x512, .f32⟩
  | 38 => ⟨S128x8x8x512, .f32⟩
  | 39 => ⟨S128x8x8x512, .f32⟩
  | 40 => ⟨S_, .f32⟩
  | 41 => ⟨S128x8x8, .f32⟩
  | 42 => ⟨S128x8x8x1, .f32⟩
  | 43 => ⟨S_, .f32⟩
  | 44 => ⟨S128x8x8x1, .f32⟩
  | 45 => ⟨S128x8x8x1, .f32⟩
  | 46 => ⟨S128x8x8x512, .f32⟩
  | 47 => ⟨S128x8x8x512, .f32⟩
  | 48 => ⟨S_, .f32⟩
  | 49 => ⟨S128x8x8x1, .f32⟩
  | 50 => ⟨S128x8x8x1, .f32⟩
  | 51 => ⟨S128x8x8x1, .f32⟩
  | 52 => ⟨S128x8x8x512, .f32⟩
  | 53 => ⟨S128x8x8x512, .f32⟩
  | 54 => ⟨S8x512, .f32⟩
  | 55 => ⟨S1x1x8x512, .f32⟩
  | 56 => ⟨S128x8x8x512, .f32⟩
  | 57 => ⟨S128x8x8x512, .f32⟩
  | 58 => ⟨S128x8x4096, .f32⟩
  | 59 => ⟨S128x8x4096, .f32⟩
  | 60 => ⟨S128x8x4096, .f32⟩
  | 61 => ⟨S_, .f32⟩
  | 62 => ⟨S128x8x4096, .f32⟩
  | 63 => ⟨S128x8x4096, .f32⟩
  | 64 => ⟨S_, .f32⟩
  | 65 => ⟨S128x8x4096, .f32⟩
  | 66 => ⟨S128x8x4096, .f32⟩
  | 67 => ⟨S128x8x4096, .f32⟩
  | 68 => ⟨S128x8x4096, .f32⟩
  | 69 => ⟨S1024x4096, .f32⟩
  | 70 => ⟨S1024x4096, .bf16⟩
  | _ => ⟨S9216x12288, .f32⟩

abbrev hbmTy (i : Nat) : BufTy := match i / 128 with
  | 0 => hbmTy0_0 i
  | 1 => hbmTy0_1 i
  | _ => ⟨S9216x12288, .f32⟩

abbrev bufTy : (tb : Table) → Fin (tcTables nBuf tb) → BufTy
  | .hbm, ⟨i, _⟩ => hbmTy i
  | _, _ => ⟨S9216x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_1 : Ref sig .tc := ⟨.hbm, 48, rfl⟩
abbrev main_v42 : Ref sig .tc := ⟨.hbm, 49, rfl⟩
abbrev main_v43 : Ref sig .tc := ⟨.hbm, 50, rfl⟩
abbrev main_cst_2 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_cst_3 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_cst_4 : Ref sig .tc := ⟨.hbm, 81, rfl⟩
abbrev main_v72 : Ref sig .tc := ⟨.hbm, 82, rfl⟩
abbrev main_v73 : Ref sig .tc := ⟨.hbm, 83, rfl⟩
abbrev main_cst_5 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_cst_6 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_7 : Ref sig .tc := ⟨.hbm, 100, rfl⟩
abbrev main_call0_v0 : Ref sig .tc := ⟨.hbm, 101, rfl⟩
abbrev main_call0_v1 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_8 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_v94 : Ref sig .tc := ⟨.hbm, 113, rfl⟩
abbrev main_v95 : Ref sig .tc := ⟨.hbm, 114, rfl⟩
abbrev main_cst_9 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_10 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_cst_11 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_cst_12 : Ref sig .tc := ⟨.hbm, 159, rfl⟩
abbrev main_v137 : Ref sig .tc := ⟨.hbm, 160, rfl⟩
abbrev main_v138 : Ref sig .tc := ⟨.hbm, 161, rfl⟩
abbrev main_cst_13 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_cst_14 : Ref sig .tc := ⟨.hbm, 168, rfl⟩
abbrev main_v144 : Ref sig .tc := ⟨.hbm, 169, rfl⟩
abbrev main_v145 : Ref sig .tc := ⟨.hbm, 170, rfl⟩
abbrev main_cst_15 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_cst_16 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_call2_v0 : Ref sig .tc := ⟨.hbm, 187, rfl⟩
abbrev main_call2_v1 : Ref sig .tc := ⟨.hbm, 188, rfl⟩
abbrev main_call2_cst : Ref sig .tc := ⟨.hbm, 189, rfl⟩
abbrev main_call2_v2 : Ref sig .tc := ⟨.hbm, 190, rfl⟩
abbrev main_call2_v3 : Ref sig .tc := ⟨.hbm, 191, rfl⟩
abbrev main_call2_cst_0 : Ref sig .tc := ⟨.hbm, 192, rfl⟩
abbrev main_call2_v4 : Ref sig .tc := ⟨.hbm, 193, rfl⟩
abbrev main_call2_v5 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩

abbrev nD : Nat := 1
abbrev τ : Topo := Topo.v7x

variable {F : FTy → Type} [FloatOps F]
-- ==== RetIn.lean ====
abbrev S9216x2048 : Shape := ⟨2, ![9216, 2048]⟩
abbrev S1x2048x12288 : Shape := ⟨3, ![1, 2048, 12288]⟩
abbrev S9216x12288 : Shape := ⟨2, ![9216, 12288]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2048, .bf16⟩
  | .hbm, ⟨1, _⟩ => ⟨S1x2048x12288, .f32⟩
  | .hbm, ⟨2, _⟩ => ⟨S9216x12288, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let v3 : BitVec 32 := Scalar.addi c0_i32_1 v2
  let c0_i32_2 : BitVec 32 := 0#32
  let c0_i32_3 : BitVec 32 := 0#32
  ![v3.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RetInRefIdeal.lean ====
abbrev S9216x2048 : Shape := ⟨2, ![9216, 2048]⟩
abbrev S1x2048x12288 : Shape := ⟨3, ![1, 2048, 12288]⟩
abbrev S2048x12288 : Shape := ⟨2, ![2048, 12288]⟩
abbrev S9216x12288 : Shape := ⟨2, ![9216, 12288]⟩

abbrev nBuf : Space → Nat
  | .hbm => 5
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S1x2048x12288, .f32⟩
  | .hbm, ⟨2, _⟩ => ⟨S9216x2048, .f32⟩
  | .hbm, ⟨3, _⟩ => ⟨S2048x12288, .f32⟩
  | .hbm, ⟨4, _⟩ => ⟨S9216x12288, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GdnIn.lean ====
abbrev S9216x2048 : Shape := ⟨2, ![9216, 2048]⟩
abbrev S1x2048x12352 : Shape := ⟨3, ![1, 2048, 12352]⟩
abbrev S2048x12352 : Shape := ⟨2, ![2048, 12352]⟩
abbrev S12352x2048 : Shape := ⟨2, ![12352, 2048]⟩
abbrev S9216x12288 : Shape := ⟨2, ![9216, 12288]⟩
abbrev S1024x2048 : Shape := ⟨2, ![1024, 2048]⟩
abbrev S1024x1024 : Shape := ⟨2, ![1024, 1024]⟩
abbrev S1152x8x12288 : Shape := ⟨3, ![1152, 8, 12288]⟩
abbrev S1x3x8192 : Shape := ⟨3, ![1, 3, 8192]⟩
abbrev S4x3x8192 : Shape := ⟨3, ![4, 3, 8192]⟩
abbrev S128x3x8192 : Shape := ⟨3, ![128, 3, 8192]⟩
abbrev S1x4x3x8192 : Shape := ⟨4, ![1, 4, 3, 8192]⟩
abbrev S1x128x3x8192 : Shape := ⟨4, ![1, 128, 3, 8192]⟩

abbrev nBuf : Space → Nat
  | .hbm => 14
  | .vmem => 7
  | .smem => 0
  | _ => 0

abbrev bufTy : (tb : Table) → Fin (tcTables nBuf tb) → BufTy
  | .hbm, ⟨0, _⟩ => ⟨S9216x2048, .bf16⟩
  | .hbm, ⟨1, _⟩ => ⟨S1x2048x12352, .f32⟩
  | .hbm, ⟨2, _⟩ => ⟨S2048x12352, .f32⟩
  | .hbm, ⟨3, _⟩ => ⟨S12352x2048, .f32⟩
  | .hbm, ⟨4, _⟩ => ⟨S9216x12288, .f32⟩
  | .hbm, ⟨5, _⟩ => ⟨S1152x8x12288, .f32⟩
  | .hbm, ⟨6, _⟩ => ⟨S1x3x8192, .f32⟩
  | .hbm, ⟨7, _⟩ => ⟨S1x3x8192, .f32⟩
  | .hbm, ⟨8, _⟩ => ⟨S1x3x8192, .f32⟩
  | .hbm, ⟨9, _⟩ => ⟨S1x3x8192, .f32⟩
  | .hbm, ⟨10, _⟩ => ⟨S4x3x8192, .f32⟩
  | .hbm, ⟨11, _⟩ => ⟨S128x3x8192, .f32⟩
  | .hbm, ⟨12, _⟩ => ⟨S1x4x3x8192, .f32⟩
  | .hbm, ⟨13, _⟩ => ⟨S1x128x3x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let v3 : BitVec 32 := Scalar.addi c0_i32_1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GdnInRefIdeal.lean ====
abbrev S9216x2048 : Shape := ⟨2, ![9216, 2048]⟩
abbrev S1x2048x12352 : Shape := ⟨3, ![1, 2048, 12352]⟩
abbrev S2048x12352 : Shape := ⟨2, ![2048, 12352]⟩
abbrev S2048x12288 : Shape := ⟨2, ![2048, 12288]⟩
abbrev S9216x12288 : Shape := ⟨2, ![9216, 12288]⟩
abbrev S8192x12288 : Shape := ⟨2, ![8192, 12288]⟩
abbrev S4x2048x12288 : Shape := ⟨3, ![4, 2048, 12288]⟩
abbrev S4x3x8192 : Shape := ⟨3, ![4, 3, 8192]⟩
abbrev S1024x12288 : Shape := ⟨2, ![1024, 12288]⟩
abbrev S128x8x12288 : Shape := ⟨3, ![128, 8, 12288]⟩
abbrev S128x3x8192 : Shape := ⟨3, ![128, 3, 8192]⟩
abbrev S1x4x3x8192 : Shape := ⟨4, ![1, 4, 3, 8192]⟩
abbrev S1x128x3x8192 : Shape := ⟨4, ![1, 128, 3, 8192]⟩

abbrev nBuf : Space → Nat
  | .hbm => 14
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S1x2048x12352, .f32⟩
  | .hbm, ⟨2, _⟩ => ⟨S9216x2048, .f32⟩
  | .hbm, ⟨3, _⟩ => ⟨S2048x12352, .f32⟩
  | .hbm, ⟨4, _⟩ => ⟨S2048x12288, .f32⟩
  | .hbm, ⟨5, _⟩ => ⟨S9216x12288, .f32⟩
  | .hbm, ⟨6, _⟩ => ⟨S8192x12288, .f32⟩
  | .hbm, ⟨7, _⟩ => ⟨S4x2048x12288, .f32⟩
  | .hbm, ⟨8, _⟩ => ⟨S4x3x8192, .f32⟩
  | .hbm, ⟨9, _⟩ => ⟨S1024x12288, .f32⟩
  | .hbm, ⟨10, _⟩ => ⟨S128x8x12288, .f32⟩
  | .hbm, ⟨11, _⟩ => ⟨S128x3x8192, .f32⟩
  | .hbm, ⟨12, _⟩ => ⟨S1x4x3x8192, .f32⟩
  | .hbm, ⟨13, _⟩ => ⟨S1x128x3x8192, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== RetOut.lean ====
abbrev S8192x4096 : Shape := ⟨2, ![8192, 4096]⟩
abbrev S1024x4096 : Shape := ⟨2, ![1024, 4096]⟩
abbrev S1x4096x2048 : Shape := ⟨3, ![1, 4096, 2048]⟩
abbrev S4x2048x2048 : Shape := ⟨3, ![4, 2048, 2048]⟩
abbrev S128x8x2048 : Shape := ⟨3, ![128, 8, 2048]⟩
abbrev S8192x2048 : Shape := ⟨2, ![8192, 2048]⟩
abbrev S1024x2048 : Shape := ⟨2, ![1024, 2048]⟩
abbrev S9216x2048 : Shape := ⟨2, ![9216, 2048]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 8
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S1x4096x2048, .f32⟩
  | .hbm, ⟨3, _⟩ => ⟨S4x2048x2048, .f32⟩
  | .hbm, ⟨4, _⟩ => ⟨S128x8x2048, .f32⟩
  | .hbm, ⟨5, _⟩ => ⟨S8192x2048, .f32⟩
  | .hbm, ⟨6, _⟩ => ⟨S1024x2048, .f32⟩
  | .hbm, ⟨7, _⟩ => ⟨S9216x2048, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096x512, .f32⟩
  | .local _ .vmem, ⟨5, _⟩ => ⟨S1x4096x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 18], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c16_i32 : BitVec 32 := 16#32
  let v4 : BitVec 1 := Scalar.cmpi .slt arg1 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c16_i32_3 : BitVec 32 := 16#32
  let v8 : BitVec 1 := Scalar.cmpi .sge arg1 c16_i32_3
  let c18_i32 : BitVec 32 := 18#32
  let v9 : BitVec 1 := Scalar.cmpi .slt arg1 c18_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 32 := Scalar.addi c0_i32_0 v2
  let c0_i32_1 : BitVec 32 := 0#32
  let c0_i32_2 : BitVec 32 := 0#32
  ![v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 v2
  let c0_i32_2 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 32 := Scalar.addi c0_i32_0 v2
  let c0_i32_1 : BitVec 32 := 0#32
  ![v3.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RetOutRefIdeal.lean ====
abbrev S8192x4096 : Shape := ⟨2, ![8192, 4096]⟩
abbrev S1024x4096 : Shape := ⟨2, ![1024, 4096]⟩
abbrev S1x4096x2048 : Shape := ⟨3, ![1, 4096, 2048]⟩
abbrev S4x2048x2048 : Shape := ⟨3, ![4, 2048, 2048]⟩
abbrev S128x8x2048 : Shape := ⟨3, ![128, 8, 2048]⟩
abbrev S4096x2048 : Shape := ⟨2, ![4096, 2048]⟩
abbrev S8192x2048 : Shape := ⟨2, ![8192, 2048]⟩
abbrev S1024x2048 : Shape := ⟨2, ![1024, 2048]⟩
abbrev S9216x2048 : Shape := ⟨2, ![9216, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S1x4096x2048, .f32⟩
  | .hbm, ⟨3, _⟩ => ⟨S4x2048x2048, .f32⟩
  | .hbm, ⟨4, _⟩ => ⟨S128x8x2048, .f32⟩
  | .hbm, ⟨5, _⟩ => ⟨S4096x2048, .f32⟩
  | .hbm, ⟨6, _⟩ => ⟨S8192x2048, .f32⟩
  | .hbm, ⟨7, _⟩ => ⟨S8192x4096, .f32⟩
  | .hbm, ⟨8, _⟩ => ⟨S8192x2048, .f32⟩
  | .hbm, ⟨9, _⟩ => ⟨S8192x2048, .f32⟩
  | .hbm, ⟨10, _⟩ => ⟨S1024x2048, .f32⟩
  | .hbm, ⟨11, _⟩ => ⟨S1024x4096, .f32⟩
  | .hbm, ⟨12, _⟩ => ⟨S1024x2048, .f32⟩
  | .hbm, ⟨13, _⟩ => ⟨S1024x2048, .f32⟩
  | .hbm, ⟨14, _⟩ => ⟨S9216x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== GdnOut.lean ====
abbrev S8192x4096 : Shape := ⟨2, ![8192, 4096]⟩
abbrev S1024x4096 : Shape := ⟨2, ![1024, 4096]⟩
abbrev S1x4096x2048 : Shape := ⟨3, ![1, 4096, 2048]⟩
abbrev S9216x2048 : Shape := ⟨2, ![9216, 2048]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 5
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S1x4096x2048, .f32⟩
  | .hbm, ⟨3, _⟩ => ⟨S9216x2048, .f32⟩
  | .hbm, ⟨4, _⟩ => ⟨S9216x2048, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x4096x512, .f32⟩
  | .local _ .vmem, ⟨5, _⟩ => ⟨S1x4096x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 18], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c16_i32 : BitVec 32 := 16#32
  let v4 : BitVec 1 := Scalar.cmpi .slt arg1 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c16_i32_3 : BitVec 32 := 16#32
  let v8 : BitVec 1 := Scalar.cmpi .sge arg1 c16_i32_3
  let c18_i32 : BitVec 32 := 18#32
  let v9 : BitVec 1 := Scalar.cmpi .slt arg1 c18_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 32 := Scalar.addi c0_i32_0 v2
  let c0_i32_1 : BitVec 32 := 0#32
  let c0_i32_2 : BitVec 32 := 0#32
  ![v3.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 v2
  let c0_i32_2 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c1_i32 : BitVec 32 := 1#32
  let v1 : BitVec 32 := Scalar.maxsi c0_i32 v0
  let v2 : BitVec 32 := Scalar.minsi c1_i32 v1
  let c16_i32_0 : BitVec 32 := 16#32
  let v3 : BitVec 32 := Scalar.addi c16_i32_0 v2
  let c0_i32_1 : BitVec 32 := 0#32
  ![v3.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GdnOutRefIdeal.lean ====
abbrev S8192x4096 : Shape := ⟨2, ![8192, 4096]⟩
abbrev S1024x4096 : Shape := ⟨2, ![1024, 4096]⟩
abbrev S1x4096x2048 : Shape := ⟨3, ![1, 4096, 2048]⟩
abbrev S9216x2048 : Shape := ⟨2, ![9216, 2048]⟩
abbrev S4096x2048 : Shape := ⟨2, ![4096, 2048]⟩
abbrev S8192x2048 : Shape := ⟨2, ![8192, 2048]⟩
abbrev S1024x2048 : Shape := ⟨2, ![1024, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S1x4096x2048, .f32⟩
  | .hbm, ⟨3, _⟩ => ⟨S9216x2048, .f32⟩
  | .hbm, ⟨4, _⟩ => ⟨S4096x2048, .f32⟩
  | .hbm, ⟨5, _⟩ => ⟨S8192x2048, .f32⟩
  | .hbm, ⟨6, _⟩ => ⟨S8192x4096, .f32⟩
  | .hbm, ⟨7, _⟩ => ⟨S8192x2048, .f32⟩
  | .hbm, ⟨8, _⟩ => ⟨S8192x2048, .f32⟩
  | .hbm, ⟨9, _⟩ => ⟨S1024x2048, .f32⟩
  | .hbm, ⟨10, _⟩ => ⟨S1024x4096, .f32⟩
  | .hbm, ⟨11, _⟩ => ⟨S1024x2048, .f32⟩
  | .hbm, ⟨12, _⟩ => ⟨S1024x2048, .f32⟩
  | .hbm, ⟨13, _⟩ => ⟨S9216x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== RetPrompt.lean ====
abbrev S9216x12288 : Shape := ⟨2, ![9216, 12288]⟩
abbrev S1x8x512 : Shape := ⟨3, ![1, 8, 512]⟩
abbrev S8x512 : Shape := ⟨2, ![8, 512]⟩
abbrev S2048 : Shape := ⟨1, ![2048]⟩
abbrev S_ : Shape := ⟨0, ![]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S8 : Shape := ⟨1, ![8]⟩
abbrev S8x1x512 : Shape := ⟨3, ![8, 1, 512]⟩
abbrev S8192x4096 : Shape := ⟨2, ![8192, 4096]⟩
abbrev S4x8x256x512 : Shape := ⟨4, ![4, 8, 256, 512]⟩
abbrev S2048x256 : Shape := ⟨2, ![2048, 256]⟩
abbrev S2048x512 : Shape := ⟨2, ![2048, 512]⟩
abbrev S1x1x512 : Shape := ⟨3, ![1, 1, 512]⟩
abbrev S1x1x256x512 : Shape := ⟨4, ![1, 1, 256, 512]⟩
abbrev S1 : Shape := ⟨1, ![1]⟩
abbrev S1x256x512 : Shape := ⟨3, ![1, 256, 512]⟩
abbrev S128x1 : Shape := ⟨2, ![128, 1]⟩
abbrev S128x128 : Shape := ⟨2, ![128, 128]⟩
abbrev S1x1 : Shape := ⟨2, ![1, 1]⟩
abbrev S1x512 : Shape := ⟨2, ![1, 512]⟩
abbrev S256x512 : Shape := ⟨2, ![256, 512]⟩
abbrev S128x256 : Shape := ⟨2, ![128, 256]⟩
abbrev S128x512 : Shape := ⟨2, ![128, 512]⟩

abbrev nBuf : Space → Nat
  | .hbm => 42
  | .vmem => 16
  | .smem => 1
  | _ => 0

abbrev bufTy : (tb : Table) → Fin (tcTables nBuf tb) → BufTy
  | .hbm, ⟨0, _⟩ => ⟨S9216x12288, .f32⟩
  | .hbm, ⟨1, _⟩ => ⟨S1x8x512, .f32⟩
  | .hbm, ⟨2, _⟩ => ⟨S8x512, .f32⟩
  | .hbm, ⟨3, _⟩ => ⟨S2048, .i32⟩
  | .hbm, ⟨4, _⟩ => ⟨S_, .i32⟩
  | .hbm, ⟨5, _⟩ => ⟨S2048, .i32⟩
  | .hbm, ⟨6, _⟩ => ⟨S2048, .i32⟩
  | .hbm, ⟨7, _⟩ => ⟨S2048, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S2048x1, .f32⟩
  | .hbm, ⟨17, _⟩ => ⟨S1x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S1x2048x1x128, .f32⟩
  | .hbm, ⟨23, _⟩ => ⟨S1x2048x1x128, .f32⟩
  | .hbm, ⟨24, _⟩ => ⟨S2048x128, .f32⟩
  | .hbm, ⟨25, _⟩ => ⟨S2048x128, .f32⟩
  | .hbm, ⟨26, _⟩ => ⟨S1x2048x1x128, .f32⟩
  | .hbm, ⟨27, _⟩ => ⟨S1x2048x1x128, .f32⟩
  | .hbm, ⟨28, _⟩ => ⟨S2048x128, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8, .f32⟩
  | .hbm, ⟨38, _⟩ => ⟨S8, .f32⟩
  | .hbm, ⟨39, _⟩ => ⟨S8x1x512, .f32⟩
  | .hbm, ⟨40, _⟩ => ⟨S8192x4096, .bf16⟩
  | .hbm, ⟨41, _⟩ => ⟨S4x8x256x512, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x128, .f32⟩
  | .local _ .vmem, ⟨9, _⟩ => ⟨S2048x128, .f32⟩
  | .local _ .vmem, ⟨10, _⟩ => ⟨S1x1x512, .f32⟩
  | .local _ .vmem, ⟨11, _⟩ => ⟨S1x1x512, .f32⟩
  | .local _ .vmem, ⟨12, _⟩ => ⟨S2048x512, .bf16⟩
  | .local _ .vmem, ⟨13, _⟩ => ⟨S2048x512, .bf16⟩
  | .local _ .vmem, ⟨14, _⟩ => ⟨S1x1x256x512, .f32⟩
  | .local _ .vmem, ⟨15, _⟩ => ⟨S1x1x256x512, .f32⟩
  | .local _ .smem, ⟨0, _⟩ => ⟨S8, .f32⟩
  | _, _ => ⟨S9216x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33_0 : Ref sig .tc := ⟨.hbm, 40, rfl⟩
abbrev main_v33_1 : Ref sig .tc := ⟨.hbm, 41, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨3, ![4, 8, 1], ![false, false, false]⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c8_i32 : BitVec 32 := 8#32
  let v3 : BitVec 32 := Scalar.addi c8_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c8_i32 : BitVec 32 := 8#32
  let v3 : BitVec 32 := Scalar.addi c8_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c16_i32 : BitVec 32 := 16#32
  let v3 : BitVec 32 := Scalar.addi c16_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== RetPromptRefIdeal.lean ====
abbrev S9216x12288 : Shape := ⟨2, ![9216, 12288]⟩
abbrev S1x8x512 : Shape := ⟨3, ![1, 8, 512]⟩
abbrev S8192x12288 : Shape := ⟨2, ![8192, 12288]⟩
abbrev S4x2048x12288 : Shape := ⟨3, ![4, 2048, 12288]⟩
abbrev S4x2048x2048 : Shape := ⟨3, ![4, 2048, 2048]⟩
abbrev S4x2048x4096 : Shape := ⟨3, ![4, 2048, 4096]⟩
abbrev S2048 : Shape := ⟨1, ![2048]⟩
abbrev S4x2048x8x256 : Shape := ⟨4, ![4, 2048, 8, 256]⟩
abbrev S128 : Shape := ⟨1, ![128]⟩
abbrev S_ : Shape := ⟨0, ![]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S4x2048x8x128 : Shape := ⟨4, ![4, 2048, 8, 128]⟩
abbrev S4x2048x8x512 : Shape := ⟨4, ![4, 2048, 8, 512]⟩
abbrev S8 : Shape := ⟨1, ![8]⟩
abbrev S1x2048 : Shape := ⟨2, ![1, 2048]⟩
abbrev S2048x2048 : Shape := ⟨2, ![2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S8x1 : Shape := ⟨2, ![8, 1]⟩
abbrev S8x2048 : Shape := ⟨2, ![8, 2048]⟩
abbrev S1x8x2048x1 : Shape := ⟨4, ![1, 8, 2048, 1]⟩
abbrev S1x8x1x1 : Shape := ⟨4, ![1, 8, 1, 1]⟩
abbrev S4x8x256x512 : Shape := ⟨4, ![4, 8, 256, 512]⟩
abbrev S4x8x2048x256 : Shape := ⟨4, ![4, 8, 2048, 256]⟩
abbrev S4x8x2048x512 : Shape := ⟨4, ![4, 8, 2048, 512]⟩
abbrev S4x8x2048x2048 : Shape := ⟨4, ![4, 8, 2048, 2048]⟩
abbrev S1x8x2048x2048 : Shape := ⟨4, ![1, 8, 2048, 2048]⟩
abbrev S4x2048x8 : Shape := ⟨3, ![4, 2048, 8]⟩
abbrev S4x2048x8x1 : Shape := ⟨4, ![4, 2048, 8, 1]⟩
abbrev S8x512 : Shape := ⟨2, ![8, 512]⟩
abbrev S1x1x8x512 : Shape := ⟨4, ![1, 1, 8, 512]⟩
abbrev S8192x4096 : Shape := ⟨2, ![8192, 4096]⟩

abbrev nBuf : Space → Nat
  | .hbm => 196
  | .vmem => 0
  | .smem => 0
  | _ => 0

abbrev hbmTy0_0 (i : Nat) : BufTy := match i % 128 with
  | 0 => ⟨S9216x12288, .f32⟩
  | 1 => ⟨S1x8x512, .f32⟩
  | 2 => ⟨S8192x12288, .f32⟩
  | 3 => ⟨S4x2048x12288, .f32⟩
  | 4 => ⟨S4x2048x2048, .f32⟩
  | 5 => ⟨S4x2048x2048, .f32⟩
  | 6 => ⟨S4x2048x4096, .f32⟩
  | 7 => ⟨S4x2048x4096, .f32⟩
  | 8 => ⟨S2048, .i32⟩
  | 9 => ⟨S2048, .f32⟩
  | 10 => ⟨S4x2048x8x256, .f32⟩
  | 11 => ⟨S128, .f32⟩
  | 12 => ⟨S128, .f32⟩
  | 13 => ⟨S_, .f32⟩
  | 14 => ⟨S128, .f32⟩
  | 15 => ⟨S128, .f32⟩
  | 16 => ⟨S_, .f32⟩
  | 17 => ⟨S128, .f32⟩
  | 18 => ⟨S128, .f32⟩
  | 19 => ⟨S2048x1, .f32⟩
  | 20 => ⟨S1x128, .f32⟩
  | 21 => ⟨S2048x128, .f32⟩
  | 22 => ⟨S2048x128, .f32⟩
  | 23 => ⟨S2048x128, .f32⟩
  | 24 => ⟨S2048x128, .f32⟩
  | 25 => ⟨S1x2048x1x128, .f32⟩
  | 26 => ⟨S2048x128, .f32⟩
  | 27 => ⟨S1x2048x1x128, .f32⟩
  | 28 => ⟨S4x2048x8x128, .f32⟩
  | 29 => ⟨S4x2048x8x128, .f32⟩
  | 30 => ⟨S4x2048x8x128, .f32⟩
  | 31 => ⟨S4x2048x8x128, .f32⟩
  | 32 => ⟨S4x2048x8x128, .f32⟩
  | 33 => ⟨S4x2048x8x128, .f32⟩
  | 34 => ⟨S4x2048x8x128, .f32⟩
  | 35 => ⟨S4x2048x8x128, .f32⟩
  | 36 => ⟨S4x2048x8x128, .f32⟩
  | 37 => ⟨S4x2048x8x128, .f32⟩
  | 38 => ⟨S4x2048x8x128, .f32⟩
  | 39 => ⟨S4x2048x8x128, .f32⟩
  | 40 => ⟨S4x2048x8x256, .f32⟩
  | 41 => ⟨S4x2048x8x256, .f32⟩
  | 42 => ⟨S128, .f32⟩
  | 43 => ⟨S128, .f32⟩
  | 44 => ⟨S_, .f32⟩
  | 45 => ⟨S128, .f32⟩
  | 46 => ⟨S128, .f32⟩
  | 47 => ⟨S_, .f32⟩
  | 48 => ⟨S128, .f32⟩
  | 49 => ⟨S128, .f32⟩
  | 50 => ⟨S2048x1, .f32⟩
  | 51 => ⟨S1x128, .f32⟩
  | 52 => ⟨S2048x128, .f32⟩
  | 53 => ⟨S2048x128, .f32⟩
  | 54 => ⟨S2048x128, .f32⟩
  | 55 => ⟨S2048x128, .f32⟩
  | 56 => ⟨S1x2048x1x128, .f32⟩
  | 57 => ⟨S2048x128, .f32⟩
  | 58 => ⟨S1x2048x1x128, .f32⟩
  | 59 => ⟨S4x2048x8x128, .f32⟩
  | 60 => ⟨S4x2048x8x128, .f32⟩
  | 61 => ⟨S4x2048x8x128, .f32⟩
  | 62 => ⟨S4x2048x8x128, .f32⟩
  | 63 => ⟨S4x2048x8x128, .f32⟩
  | 64 => ⟨S4x2048x8x128, .f32⟩
  | 65 => ⟨S4x2048x8x128, .f32⟩
  | 66 => ⟨S4x2048x8x128, .f32⟩
  | 67 => ⟨S4x2048x8x128, .f32⟩
  | 68 => ⟨S4x2048x8x128, .f32⟩
  | 69 => ⟨S4x2048x8x128, .f32⟩
  | 70 => ⟨S4x2048x8x128, .f32⟩
  | 71 => ⟨S4x2048x8x256, .f32⟩
  | 72 => ⟨S_, .f32⟩
  | 73 => ⟨S4x2048x8x256, .f32⟩
  | 74 => ⟨S4x2048x8x256, .f32⟩
  | 75 => ⟨S4x2048x8x512, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S8, .f32⟩
  | 84 => ⟨S8, .f32⟩
  | 85 => ⟨S8, .f32⟩
  | 86 => ⟨S2048, .f32⟩
  | 87 => ⟨S2048x1, .f32⟩
  | 88 => ⟨S1x2048, .f32⟩
  | 89 => ⟨S2048x2048, .f32⟩
  | 90 => ⟨S2048x2048, .f32⟩
  | 91 => ⟨S2048x2048, .f32⟩
  | 92 => ⟨S_, .f32⟩
  | 93 => ⟨S2048x2048, .f32⟩
  | 94 => ⟨S2048x2048, .i1⟩
  | 95 => ⟨S8x1x1, .f32⟩
  | 96 => ⟨S_, .f32⟩
  | 97 => ⟨S_, .f32⟩
  | 98 => ⟨S2048x2048, .f32⟩
  | 99 => ⟨S2048x2048, .f32⟩
  | 100 => ⟨S1x2048x2048, .f32⟩
  | 101 => ⟨S8x2048x2048, .f32⟩
  | 102 => ⟨S8x2048x2048, .f32⟩
  | 103 => ⟨S8x2048x2048, .f32⟩
  | 104 => ⟨S8x2048x2048, .f32⟩
  | 105 => ⟨S_, .f32⟩
  | 106 => ⟨S_, .f32⟩
  | 107 => ⟨S8x2048x2048, .i1⟩
  | 108 => ⟨S8x2048x2048, .f32⟩
  | 109 => ⟨S8x2048x2048, .f32⟩
  | 110 => ⟨S8x1, .f32⟩
  | 111 => ⟨S_, .f32⟩
  | 112 => ⟨S2048, .f32⟩
  | 113 => ⟨S2048, .f32⟩
  | 114 => ⟨S1x2048, .f32⟩
  | 115 => ⟨S8x2048, .f32⟩
  | 116 => ⟨S8x2048, .f32⟩
  | 117 => ⟨S8x2048, .f32⟩
  | 118 => ⟨S8x2048, .f32⟩
  | 119 => ⟨S1x8x2048x1, .f32⟩
  | 120 => ⟨S8x1, .f32⟩
  | 121 => ⟨S_, .f32⟩
  | 122 => ⟨S2048, .f32⟩
  | 123 => ⟨S2048, .f32⟩
  | 124 => ⟨S1x2048, .f32⟩
  | 125 => ⟨S8x2048, .f32⟩
  | 126 => ⟨S8x2048, .f32⟩
  | 127 => ⟨S8x2048, .f32⟩
  | _ => ⟨S9216x12288, .f32⟩

abbrev hbmTy0_1 (i : Nat) : BufTy := match i % 128 with
  | 0 => ⟨S8x2048, .f32⟩
  | 1 => ⟨S1x8x2048x1, .f32⟩
  | 2 => ⟨S_, .f32⟩
  | 3 => ⟨S8, .f32⟩
  | 4 => ⟨S8, .f32⟩
  | 5 => ⟨S8, .f32⟩
  | 6 => ⟨S1x8x1x1, .f32⟩
  | 7 => ⟨S_, .f32⟩
  | 8 => ⟨S4x8x256x512, .f32⟩
  | 9 => ⟨S4x8x2048x256, .f32⟩
  | 10 => ⟨S4x8x2048x256, .f32⟩
  | 11 => ⟨S4x8x2048x512, .f32⟩
  | 12 => ⟨S4x8x2048x2048, .f32⟩
  | 13 => ⟨S1x8x2048x2048, .f32⟩
  | 14 => ⟨S4x8x2048x2048, .f32⟩
  | 15 => ⟨S4x8x2048x2048, .f32⟩
  | 16 => ⟨S4x8x2048x512, .f32⟩
  | 17 => ⟨S4x8x2048x512, .f32⟩
  | 18 => ⟨S4x8x2048x512, .f32⟩
  | 19 => ⟨S4x8x2048x512, .f32⟩
  | 20 => ⟨S4x8x256x512, .f32⟩
  | 21 => ⟨S4x8x256x512, .f32⟩
  | 22 => ⟨S4x8x2048x256, .f32⟩
  | 23 => ⟨S4x8x2048x256, .f32⟩
  | 24 => ⟨S4x8x256x512, .f32⟩
  | 25 => ⟨S4x8x256x512, .f32⟩
  | 26 => ⟨S4x8x2048x512, .f32⟩
  | 27 => ⟨S4x2048x8x512, .f32⟩
  | 28 => ⟨S_, .f32⟩
  | 29 => ⟨S4x2048x8, .f32⟩
  | 30 => ⟨S4x2048x8x1, .f32⟩
  | 31 => ⟨S_, .f32⟩
  | 32 => ⟨S4x2048x8x1, .f32⟩
  | 33 => ⟨S4x2048x8x1, .f32⟩
  | 34 => ⟨S4x2048x8x512, .f32⟩
  | 35 => ⟨S4x2048x8x512, .f32⟩
  | 36 => ⟨S4x2048x8x512, .f32⟩
  | 37 => ⟨S_, .f32⟩
  | 38 => ⟨S4x2048x8, .f32⟩
  | 39 => ⟨S4x2048x8x1, .f32⟩
  | 40 => ⟨S_, .f32⟩
  | 41 => ⟨S4x2048x8x1, .f32⟩
  | 42 => ⟨S4x2048x8x1, .f32⟩
  | 43 => ⟨S4x2048x8x512, .f32⟩
  | 44 => ⟨S4x2048x8x512, .f32⟩
  | 45 => ⟨S_, .f32⟩
  | 46 => ⟨S4x2048x8x1, .f32⟩
  | 47 => ⟨S4x2048x8x1, .f32⟩
  | 48 => ⟨S4x2048x8x1, .f32⟩
  | 49 => ⟨S4x2048x8x512, .f32⟩
  | 50 => ⟨S4x2048x8x512, .f32⟩
  | 51 => ⟨S8x512, .f32⟩
  | 52 => ⟨S1x1x8x512, .f32⟩
  | 53 => ⟨S4x2048x8x512, .f32⟩
  | 54 => ⟨S4x2048x8x512, .f32⟩
  | 55 => ⟨S4x2048x4096, .f32⟩
  | 56 => ⟨S4x2048x4096, .f32⟩
  | 57 => ⟨S4x2048x4096, .f32⟩
  | 58 => ⟨S_, .f32⟩
  | 59 => ⟨S4x2048x4096, .f32⟩
  | 60 => ⟨S4x2048x4096, .f32⟩
  | 61 => ⟨S_, .f32⟩
  | 62 => ⟨S4x2048x4096, .f32⟩
  | 63 => ⟨S4x2048x4096, .f32⟩
  | 64 => ⟨S4x2048x4096, .f32⟩
  | 65 => ⟨S4x2048x4096, .f32⟩
  | 66 => ⟨S8192x4096, .f32⟩
  | 67 => ⟨S8192x4096, .bf16⟩
  | _ => ⟨S9216x12288, .f32⟩

abbrev hbmTy (i : Nat) : BufTy := match i / 128 with
  | 0 => hbmTy0_0 i
  | 1 => hbmTy0_1 i
  | _ => ⟨S9216x12288, .f32⟩

abbrev bufTy : (tb : Table) → Fin (tcTables nBuf tb) → BufTy
  | .hbm, ⟨i, _⟩ => hbmTy i
  | _, _ => ⟨S9216x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_cst_1 : Ref sig .tc := ⟨.hbm, 44, rfl⟩
abbrev main_v40 : Ref sig .tc := ⟨.hbm, 45, rfl⟩
abbrev main_v41 : Ref sig .tc := ⟨.hbm, 46, rfl⟩
abbrev main_cst_2 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_cst_3 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst_4 : Ref sig .tc := ⟨.hbm, 77, rfl⟩
abbrev main_v70 : Ref sig .tc := ⟨.hbm, 78, rfl⟩
abbrev main_v71 : Ref sig .tc := ⟨.hbm, 79, rfl⟩
abbrev main_cst_5 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst_6 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_7 : Ref sig .tc := ⟨.hbm, 96, rfl⟩
abbrev main_call0_v0 : Ref sig .tc := ⟨.hbm, 97, rfl⟩
abbrev main_call0_v1 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_cst_8 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v92 : Ref sig .tc := ⟨.hbm, 109, rfl⟩
abbrev main_v93 : Ref sig .tc := ⟨.hbm, 110, rfl⟩
abbrev main_cst_9 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_10 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_11 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_cst_12 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_cst_13 : Ref sig .tc := ⟨.hbm, 156, rfl⟩
abbrev main_v135 : Ref sig .tc := ⟨.hbm, 157, rfl⟩
abbrev main_v136 : Ref sig .tc := ⟨.hbm, 158, rfl⟩
abbrev main_cst_14 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_cst_15 : Ref sig .tc := ⟨.hbm, 165, rfl⟩
abbrev main_v142 : Ref sig .tc := ⟨.hbm, 166, rfl⟩
abbrev main_v143 : Ref sig .tc := ⟨.hbm, 167, rfl⟩
abbrev main_cst_16 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_cst_17 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_call2_v0 : Ref sig .tc := ⟨.hbm, 184, rfl⟩
abbrev main_call2_v1 : Ref sig .tc := ⟨.hbm, 185, rfl⟩
abbrev main_call2_cst : Ref sig .tc := ⟨.hbm, 186, rfl⟩
abbrev main_call2_v2 : Ref sig .tc := ⟨.hbm, 187, rfl⟩
abbrev main_call2_v3 : Ref sig .tc := ⟨.hbm, 188, rfl⟩
abbrev main_call2_cst_0 : Ref sig .tc := ⟨.hbm, 189, rfl⟩
abbrev main_call2_v4 : Ref sig .tc := ⟨.hbm, 190, rfl⟩
abbrev main_call2_v5 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩

abbrev nD : Nat := 1
abbrev τ : Topo := Topo.v7x

variable {F : FTy → Type} [FloatOps F]
-- ==== RetLayer.lean ====
abbrev S4x2048x2048 : Shape := ⟨3, ![4, 2048, 2048]⟩
abbrev S128x8x2048 : Shape := ⟨3, ![128, 8, 2048]⟩
abbrev S2x2048 : Shape := ⟨2, ![2, 2048]⟩
abbrev S1x2048x12288 : Shape := ⟨3, ![1, 2048, 12288]⟩
abbrev S1x128x8x256x512 : Shape := ⟨5, ![1, 128, 8, 256, 512]⟩
abbrev S1x8x512 : Shape := ⟨3, ![1, 8, 512]⟩
abbrev S8192x2048 : Shape := ⟨2, ![8192, 2048]⟩
abbrev S1024x2048 : Shape := ⟨2, ![1024, 2048]⟩
abbrev S1x2048 : Shape := ⟨2, ![1, 2048]⟩
abbrev S2048 : Shape := ⟨1, ![2048]⟩
abbrev S9216x2048 : Shape := ⟨2, ![9216, 2048]⟩
abbrev S512x2048 : Shape := ⟨2, ![512, 2048]⟩
abbrev S512 : Shape := ⟨1, ![512]⟩
abbrev S512x1 : Shape := ⟨2, ![512, 1]⟩
abbrev S9216x12288 : Shape := ⟨2, ![9216, 12288]⟩
abbrev S1x2048x1024 : Shape := ⟨3, ![1, 2048, 1024]⟩
abbrev S1024x1024 : Shape := ⟨2, ![1024, 1024]⟩
abbrev S2048x1024 : Shape := ⟨2, ![2048, 1024]⟩
abbrev S128x8x256x512 : Shape := ⟨4, ![128, 8, 256, 512]⟩
abbrev S8x512 : Shape := ⟨2, ![8, 512]⟩
abbrev S8 : Shape := ⟨1, ![8]⟩
abbrev S_ : Shape := ⟨0, ![]⟩
abbrev S128 : Shape := ⟨1, ![128]⟩
abbrev S8x1 : Shape := ⟨2, ![8, 1]⟩
abbrev S1x128 : Shape := ⟨2, ![1, 128]⟩
abbrev S8x128 : Shape := ⟨2, ![8, 128]⟩
abbrev S1x8x1x128 : Shape := ⟨4, ![1, 8, 1, 128]⟩
abbrev S8x8x1x128 : Shape := ⟨4, ![8, 8, 1, 128]⟩
abbrev S64x128 : Shape := ⟨2, ![64, 128]⟩
abbrev S8x1x512 : Shape := ⟨3, ![8, 1, 512]⟩
abbrev S1024x4096 : Shape := ⟨2, ![1024, 4096]⟩
abbrev S64x256 : Shape := ⟨2, ![64, 256]⟩
abbrev S64x512 : Shape := ⟨2, ![64, 512]⟩
abbrev S1x1x512 : Shape := ⟨3, ![1, 1, 512]⟩
abbrev S8x1x128x512 : Shape := ⟨4, ![8, 1, 128, 512]⟩
abbrev S8x1x256x512 : Shape := ⟨4, ![8, 1, 256, 512]⟩
abbrev S1 : Shape := ⟨1, ![1]⟩
abbrev S1x8 : Shape := ⟨2, ![1, 8]⟩
abbrev S8x8 : Shape := ⟨2, ![8, 8]⟩
abbrev S1x1 : Shape := ⟨2, ![1, 1]⟩
abbrev S1x512 : Shape := ⟨2, ![1, 512]⟩
abbrev S1x1x128x512 : Shape := ⟨4, ![1, 1, 128, 512]⟩
abbrev S128x512 : Shape := ⟨2, ![128, 512]⟩
abbrev S256x512 : Shape := ⟨2, ![256, 512]⟩
abbrev S8x256 : Shape := ⟨2, ![8, 256]⟩
abbrev S1x1x256x512 : Shape := ⟨4, ![1, 1, 256, 512]⟩

abbrev nBuf : Space → Nat
  | .hbm => 54
  | .vmem => 34
  | .smem => 1
  | _ => 0

abbrev bufTy : (tb : Table) → Fin (tcTables nBuf tb) → BufTy
  | .hbm, ⟨0, _⟩ => ⟨S4x2048x2048, .f32⟩
  | .hbm, ⟨1, _⟩ => ⟨S128x8x2048, .f32⟩
  | .hbm, ⟨2, _⟩ => ⟨S2x2048, .f32⟩
  | .hbm, ⟨3, _⟩ => ⟨S1x2048x12288, .f32⟩
  | .hbm, ⟨4, _⟩ => ⟨S1x128x8x256x512, .f32⟩
  | .hbm, ⟨5, _⟩ => ⟨S1x8x512, .f32⟩
  | .hbm, ⟨6, _⟩ => ⟨S8192x2048, .f32⟩
  | .hbm, ⟨7, _⟩ => ⟨S1024x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S9216x2048, .bf16⟩
  | .hbm, ⟨12, _⟩ => ⟨S9216x12288, .f32⟩
  | .hbm, ⟨13, _⟩ => ⟨S128x8x256x512, .f32⟩
  | .hbm, ⟨14, _⟩ => ⟨S8x512, .f32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S8x1, .f32⟩
  | .hbm, ⟨29, _⟩ => ⟨S1x128, .f32⟩
  | .hbm, ⟨30, _⟩ => ⟨S8x128, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S1x8x1x128, .f32⟩
  | .hbm, ⟨35, _⟩ => ⟨S8x8x1x128, .f32⟩
  | .hbm, ⟨36, _⟩ => ⟨S64x128, .f32⟩
  | .hbm, ⟨37, _⟩ => ⟨S8x128, .f32⟩
  | .hbm, ⟨38, _⟩ => ⟨S1x8x1x128, .f32⟩
  | .hbm, ⟨39, _⟩ => ⟨S8x8x1x128, .f32⟩
  | .hbm, ⟨40, _⟩ => ⟨S64x128, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S8, .f32⟩
  | .hbm, ⟨49, _⟩ => ⟨S8, .f32⟩
  | .hbm, ⟨50, _⟩ => ⟨S8, .f32⟩
  | .hbm, ⟨51, _⟩ => ⟨S8x1x512, .f32⟩
  | .hbm, ⟨52, _⟩ => ⟨S1024x4096, .bf16⟩
  | .hbm, ⟨53, _⟩ => ⟨S128x8x256x512, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1x2048x1024, .f32⟩
  | .local _ .vmem, ⟨10, _⟩ => ⟨S1x2048x1024, .f32⟩
  | .local _ .vmem, ⟨11, _⟩ => ⟨S1024x1024, .f32⟩
  | .local _ .vmem, ⟨12, _⟩ => ⟨S1024x1024, .f32⟩
  | .local _ .vmem, ⟨13, _⟩ => ⟨S2048x1024, .bf16⟩
  | .local _ .vmem, ⟨14, _⟩ => ⟨S64x256, .f32⟩
  | .local _ .vmem, ⟨15, _⟩ => ⟨S64x256, .f32⟩
  | .local _ .vmem, ⟨16, _⟩ => ⟨S64x256, .f32⟩
  | .local _ .vmem, ⟨17, _⟩ => ⟨S64x256, .f32⟩
  | .local _ .vmem, ⟨18, _⟩ => ⟨S64x512, .f32⟩
  | .local _ .vmem, ⟨19, _⟩ => ⟨S64x512, .f32⟩
  | .local _ .vmem, ⟨20, _⟩ => ⟨S64x512, .f32⟩
  | .local _ .vmem, ⟨21, _⟩ => ⟨S64x512, .f32⟩
  | .local _ .vmem, ⟨22, _⟩ => ⟨S64x128, .f32⟩
  | .local _ .vmem, ⟨23, _⟩ => ⟨S64x128, .f32⟩
  | .local _ .vmem, ⟨24, _⟩ => ⟨S1x1x512, .f32⟩
  | .local _ .vmem, ⟨25, _⟩ => ⟨S1x1x512, .f32⟩
  | .local _ .vmem, ⟨26, _⟩ => ⟨S8x1x128x512, .f32⟩
  | .local _ .vmem, ⟨27, _⟩ => ⟨S8x1x128x512, .f32⟩
  | .local _ .vmem, ⟨28, _⟩ => ⟨S8x1x128x512, .f32⟩
  | .local _ .vmem, ⟨29, _⟩ => ⟨S8x1x128x512, .f32⟩
  | .local _ .vmem, ⟨30, _⟩ => ⟨S64x512, .bf16⟩
  | .local _ .vmem, ⟨31, _⟩ => ⟨S64x512, .bf16⟩
  | .local _ .vmem, ⟨32, _⟩ => ⟨S8x1x256x512, .f32⟩
  | .local _ .vmem, ⟨33, _⟩ => ⟨S8x1x256x512, .f32⟩
  | .local _ .smem, ⟨0, _⟩ => ⟨S8, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41_0 : Ref sig .tc := ⟨.hbm, 52, rfl⟩
abbrev main_v41_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.vmem, 26, rfl⟩
abbrev cc2_stg8_1 : Ref sig .tc := ⟨.vmem, 27, rfl⟩
abbrev cc2_stg9_0 : Ref sig .tc := ⟨.vmem, 28, rfl⟩
abbrev cc2_stg9_1 : Ref sig .tc := ⟨.vmem, 29, rfl⟩
abbrev cc2_stg10_0 : Ref sig .tc := ⟨.vmem, 30, rfl⟩
abbrev cc2_stg10_1 : Ref sig .tc := ⟨.vmem, 31, rfl⟩
abbrev cc2_stg11_0 : Ref sig .tc := ⟨.vmem, 32, rfl⟩
abbrev cc2_stg11_1 : Ref sig .tc := ⟨.vmem, 33, rfl⟩
abbrev cc2_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem6_0 : DmaSem sig := 23
abbrev cc2_sem7_0 : DmaSem sig := 24
abbrev cc2_sem7_1 : DmaSem sig := 25
abbrev cc2_sem8_0 : DmaSem sig := 26
abbrev cc2_sem8_1 : DmaSem sig := 27
abbrev cc2_sem9_0 : DmaSem sig := 28
abbrev cc2_sem9_1 : DmaSem sig := 29
abbrev cc2_sem10_0 : DmaSem sig := 30
abbrev cc2_sem10_1 : DmaSem sig := 31
abbrev cc2_sem11_0 : DmaSem sig := 32
abbrev cc2_sem11_1 : DmaSem sig := 33

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c16_i32 : BitVec 32 := 16#32
  let v1 : BitVec 1 := Scalar.cmpi .slt arg0 c16_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c16_i32_1 : BitVec 32 := 16#32
  let v5 : BitVec 1 := Scalar.cmpi .sge arg0 c16_i32_1
  let c18_i32 : BitVec 32 := 18#32
  let v6 : BitVec 1 := Scalar.cmpi .slt arg0 c18_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 v2
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 32 := Scalar.addi c0_i32_0 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![12, 9], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let v3 : BitVec 32 := Scalar.addi c0_i32_1 v2
  let c0_i32_2 : BitVec 32 := 0#32
  let c0_i32_3 : BitVec 32 := 0#32
  ![v3.toNat, c0_i32_2.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![16, 8, 1], ![false, false, false]⟩

def k2_off1 (i : grid2.Coords) : Fin 1 → Nat :=
  let arg1 : BitVec 32 := BitVec.ofNat 32 (i 1).val
  let v0 : Index := Scalar.indexCast arg1
  ![v0.toNat]
def cc2_transform_0 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c0_i32 : BitVec 32 := 0#32
  ![v2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c8_i32 : BitVec 32 := 8#32
  let v3 : BitVec 32 := Scalar.addi c8_i32 arg1
  let c0_i32 : BitVec 32 := 0#32
  ![v2.toNat, v3.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c8_i32 : BitVec 32 := 8#32
  let v3 : BitVec 32 := Scalar.addi c8_i32 arg1
  let c0_i32 : BitVec 32 := 0#32
  ![v2.toNat, v3.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg2
  let c16_i32 : BitVec 32 := 16#32
  let v3 : BitVec 32 := Scalar.addi c16_i32 arg1
  let c0_i32 : BitVec 32 := 0#32
  ![v2.toNat, v3.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc2_transform_8 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc2_transform_9 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, arg1.toNat, c1_i32.toNat, c0_i32.toNat]

def cc2_transform_10 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc2_transform_11 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 1 → Memref sig .tc .smem S8 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false, false]

abbrev stage2_1 : Fin 2 → Memref sig .tc .vmem S64x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S64x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S64x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S64x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, true]

abbrev stage2_6 : Fin 1 → Memref sig .tc .vmem S64x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false, true]

abbrev stage2_7 : Fin 2 → Memref sig .tc .vmem S1x1x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true, false]

abbrev stage2_8 : Fin 2 → Memref sig .tc .vmem S8x1x128x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true, false]

abbrev stage2_9 : Fin 2 → Memref sig .tc .vmem S8x1x128x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true, false]

abbrev stage2_10 : Fin 2 → Memref sig .tc .vmem S64x512 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true, true]

abbrev stage2_11 : Fin 2 → Memref sig .tc .vmem S8x1x256x512 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true, false]
-- ==== RetLayerRefIdeal.lean ====
abbrev S4x2048x2048 : Shape := ⟨3, ![4, 2048, 2048]⟩
abbrev S128x8x2048 : Shape := ⟨3, ![128, 8, 2048]⟩
abbrev S2x2048 : Shape := ⟨2, ![2, 2048]⟩
abbrev S1x2048x12288 : Shape := ⟨3, ![1, 2048, 12288]⟩
abbrev S1x128x8x256x512 : Shape := ⟨5, ![1, 128, 8, 256, 512]⟩
abbrev S1x8x512 : Shape := ⟨3, ![1, 8, 512]⟩
abbrev S_ : Shape := ⟨0, ![]⟩
abbrev S128x8 : Shape := ⟨2, ![128, 8]⟩
abbrev S128x8x1 : Shape := ⟨3, ![128, 8, 1]⟩
abbrev S1x2048 : Shape := ⟨2, ![1, 2048]⟩
abbrev S2048 : Shape := ⟨1, ![2048]⟩
abbrev S1x1x2048 : Shape := ⟨3, ![1, 1, 2048]⟩
abbrev S2048x12288 : Shape := ⟨2, ![2048, 12288]⟩
abbrev S128x8x12288 : Shape := ⟨3, ![128, 8, 12288]⟩
abbrev S128x8x4096 : Shape := ⟨3, ![128, 8, 4096]⟩
abbrev S8 : Shape := ⟨1, ![8]⟩
abbrev S128x8x8x256 : Shape := ⟨4, ![128, 8, 8, 256]⟩
abbrev S128 : Shape := ⟨1, ![128]⟩
abbrev S8x1 : Shape := ⟨2, ![8, 1]⟩
abbrev S1x128 : Shape := ⟨2, ![1, 128]⟩
abbrev S8x128 : Shape := ⟨2, ![8, 128]⟩
abbrev S1x8x1x128 : Shape := ⟨4, ![1, 8, 1, 128]⟩
abbrev S128x8x8x128 : Shape := ⟨4, ![128, 8, 8, 128]⟩
abbrev S128x8x8x512 : Shape := ⟨4, ![128, 8, 8, 512]⟩
abbrev S1x8 : Shape := ⟨2, ![1, 8]⟩
abbrev S8x8 : Shape := ⟨2, ![8, 8]⟩
abbrev S8x1x1 : Shape := ⟨3, ![8, 1, 1]⟩
abbrev S1x8x8 : Shape := ⟨3, ![1, 8, 8]⟩
abbrev S8x8x8 : Shape := ⟨3, ![8, 8, 8]⟩
abbrev S1x8x8x1 : Shape := ⟨4, ![1, 8, 8, 1]⟩
abbrev S1x8x1x1 : Shape := ⟨4, ![1, 8, 1, 1]⟩
abbrev S128x8x256x512 : Shape := ⟨4, ![128, 8, 256, 512]⟩
abbrev S128x8x8x8 : Shape := ⟨4, ![128, 8, 8, 8]⟩
abbrev S1x8x8x8 : Shape := ⟨4, ![1, 8, 8, 8]⟩
abbrev S128x8x8 : Shape := ⟨3, ![128, 8, 8]⟩
abbrev S128x8x8x1 : Shape := ⟨4, ![128, 8, 8, 1]⟩
abbrev S8x512 : Shape := ⟨2, ![8, 512]⟩
abbrev S1x1x8x512 : Shape := ⟨4, ![1, 1, 8, 512]⟩
abbrev S1024x4096 : Shape := ⟨2, ![1024, 4096]⟩

abbrev nBuf : Space → Nat
  | .hbm => 220
  | .vmem => 0
  | .smem => 0
  | _ => 0

abbrev hbmTy0_0 (i : Nat) : BufTy := match i % 128 with
  | 0 => ⟨S4x2048x2048, .f32⟩
  | 1 => ⟨S128x8x2048, .f32⟩
  | 2 => ⟨S2x2048, .f32⟩
  | 3 => ⟨S1x2048x12288, .f32⟩
  | 4 => ⟨S1x128x8x256x512, .f32⟩
  | 5 => ⟨S1x8x512, .f32⟩
  | 6 => ⟨S128x8x2048, .f32⟩
  | 7 => ⟨S_, .f32⟩
  | 8 => ⟨S128x8, .f32⟩
  | 9 => ⟨S128x8x1, .f32⟩
  | 10 => ⟨S_, .f32⟩
  | 11 => ⟨S128x8x1, .f32⟩
  | 12 => ⟨S128x8x1, .f32⟩
  | 13 => ⟨S_, .f32⟩
  | 14 => ⟨S128x8x1, .f32⟩
  | 15 => ⟨S128x8x1, .f32⟩
  | 16 => ⟨S128x8x1, .f32⟩
  | 17 => ⟨S128x8x2048, .f32⟩
  | 18 => ⟨S128x8x2048, .f32⟩
  | 19 => ⟨S1x2048, .f32⟩
  | 20 => ⟨S2048, .f32⟩
  | 21 => ⟨S1x1x2048, .f32⟩
  | 22 => ⟨S128x8x2048, .f32⟩
  | 23 => ⟨S128x8x2048, .f32⟩
  | 24 => ⟨S2048x12288, .f32⟩
  | 25 => ⟨S128x8x12288, .f32⟩
  | 26 => ⟨S128x8x2048, .f32⟩
  | 27 => ⟨S128x8x2048, .f32⟩
  | 28 => ⟨S128x8x4096, .f32⟩
  | 29 => ⟨S128x8x4096, .f32⟩
  | 30 => ⟨S8, .i32⟩
  | 31 => ⟨S_, .i32⟩
  | 32 => ⟨S8, .i32⟩
  | 33 => ⟨S8, .i32⟩
  | 34 => ⟨S8, .f32⟩
  | 35 => ⟨S128x8x8x256, .f32⟩
  | 36 => ⟨S128, .f32⟩
  | 37 => ⟨S128, .f32⟩
  | 38 => ⟨S_, .f32⟩
  | 39 => ⟨S128, .f32⟩
  | 40 => ⟨S128, .f32⟩
  | 41 => ⟨S_, .f32⟩
  | 42 => ⟨S128, .f32⟩
  | 43 => ⟨S128, .f32⟩
  | 44 => ⟨S8x1, .f32⟩
  | 45 => ⟨S1x128, .f32⟩
  | 46 => ⟨S8x128, .f32⟩
  | 47 => ⟨S8x128, .f32⟩
  | 48 => ⟨S8x128, .f32⟩
  | 49 => ⟨S8x128, .f32⟩
  | 50 => ⟨S1x8x1x128, .f32⟩
  | 51 => ⟨S8x128, .f32⟩
  | 52 => ⟨S1x8x1x128, .f32⟩
  | 53 => ⟨S128x8x8x128, .f32⟩
  | 54 => ⟨S128x8x8x128, .f32⟩
  | 55 => ⟨S128x8x8x128, .f32⟩
  | 56 => ⟨S128x8x8x128, .f32⟩
  | 57 => ⟨S128x8x8x128, .f32⟩
  | 58 => ⟨S128x8x8x128, .f32⟩
  | 59 => ⟨S128x8x8x128, .f32⟩
  | 60 => ⟨S128x8x8x128, .f32⟩
  | 61 => ⟨S128x8x8x128, .f32⟩
  | 62 => ⟨S128x8x8x128, .f32⟩
  | 63 => ⟨S128x8x8x128, .f32⟩
  | 64 => ⟨S128x8x8x128, .f32⟩
  | 65 => ⟨S128x8x8x256, .f32⟩
  | 66 => ⟨S128x8x8x256, .f32⟩
  | 67 => ⟨S128, .f32⟩
  | 68 => ⟨S128, .f32⟩
  | 69 => ⟨S_, .f32⟩
  | 70 => ⟨S128, .f32⟩
  | 71 => ⟨S128, .f32⟩
  | 72 => ⟨S_, .f32⟩
  | 73 => ⟨S128, .f32⟩
  | 74 => ⟨S128, .f32⟩
  | 75 => ⟨S8x1, .f32⟩
  | 76 => ⟨S1x128, .f32⟩
  | 77 => ⟨S8x128, .f32⟩
  | 78 => ⟨S8x128, .f32⟩
  | 79 => ⟨S8x128, .f32⟩
  | 80 => ⟨S8x128, .f32⟩
  | 81 => ⟨S1x8x1x128, .f32⟩
  | 82 => ⟨S8x128, .f32⟩
  | 83 => ⟨S1x8x1x128, .f32⟩
  | 84 => ⟨S128x8x8x128, .f32⟩
  | 85 => ⟨S128x8x8x128, .f32⟩
  | 86 => ⟨S128x8x8x128, .f32⟩
  | 87 => ⟨S128x8x8x128, .f32⟩
  | 88 => ⟨S128x8x8x128, .f32⟩
  | 89 => ⟨S128x8x8x128, .f32⟩
  | 90 => ⟨S128x8x8x128, .f32⟩
  | 91 => ⟨S128x8x8x128, .f32⟩
  | 92 => ⟨S128x8x8x128, .f32⟩
  | 93 => ⟨S128x8x8x128, .f32⟩
  | 94 => ⟨S128x8x8x128, .f32⟩
  | 95 => ⟨S128x8x8x128, .f32⟩
  | 96 => ⟨S128x8x8x256, .f32⟩
  | 97 => ⟨S_, .f32⟩
  | 98 => ⟨S128x8x8x256, .f32⟩
  | 99 => ⟨S128x8x8x256, .f32⟩
  | 100 => ⟨S128x8x8x512, .f32⟩
  | 101 => ⟨S8, .f32⟩
  | 102 => ⟨S_, .f32⟩
  | 103 => ⟨S8, .f32⟩
  | 104 => ⟨S8, .f32⟩
  | 105 => ⟨S_, .f32⟩
  | 106 => ⟨S8, .f32⟩
  | 107 => ⟨S8, .f32⟩
  | 108 => ⟨S8, .f32⟩
  | 109 => ⟨S8, .f32⟩
  | 110 => ⟨S8, .f32⟩
  | 111 => ⟨S8, .f32⟩
  | 112 => ⟨S8x1, .f32⟩
  | 113 => ⟨S1x8, .f32⟩
  | 114 => ⟨S8x8, .f32⟩
  | 115 => ⟨S8x8, .f32⟩
  | 116 => ⟨S8x8, .f32⟩
  | 117 => ⟨S_, .f32⟩
  | 118 => ⟨S8x8, .f32⟩
  | 119 => ⟨S8x8, .i1⟩
  | 120 => ⟨S8x1x1, .f32⟩
  | 121 => ⟨S_, .f32⟩
  | 122 => ⟨S_, .f32⟩
  | 123 => ⟨S8x8, .f32⟩
  | 124 => ⟨S8x8, .f32⟩
  | 125 => ⟨S1x8x8, .f32⟩
  | 126 => ⟨S8x8x8, .f32⟩
  | 127 => ⟨S8x8x8, .f32⟩
  | _ => ⟨S4x2048x2048, .f32⟩

abbrev hbmTy0_1 (i : Nat) : BufTy := match i % 128 with
  | 0 => ⟨S8x8x8, .f32⟩
  | 1 => ⟨S8x8x8, .f32⟩
  | 2 => ⟨S_, .f32⟩
  | 3 => ⟨S_, .f32⟩
  | 4 => ⟨S8x8x8, .i1⟩
  | 5 => ⟨S8x8x8, .f32⟩
  | 6 => ⟨S8x8x8, .f32⟩
  | 7 => ⟨S8x1, .f32⟩
  | 8 => ⟨S_, .f32⟩
  | 9 => ⟨S8, .f32⟩
  | 10 => ⟨S8, .f32⟩
  | 11 => ⟨S1x8, .f32⟩
  | 12 => ⟨S8x8, .f32⟩
  | 13 => ⟨S8x8, .f32⟩
  | 14 => ⟨S8x8, .f32⟩
  | 15 => ⟨S8x8, .f32⟩
  | 16 => ⟨S1x8x8x1, .f32⟩
  | 17 => ⟨S8x1, .f32⟩
  | 18 => ⟨S_, .f32⟩
  | 19 => ⟨S8, .f32⟩
  | 20 => ⟨S8, .f32⟩
  | 21 => ⟨S1x8, .f32⟩
  | 22 => ⟨S8x8, .f32⟩
  | 23 => ⟨S8x8, .f32⟩
  | 24 => ⟨S8x8, .f32⟩
  | 25 => ⟨S8x8, .f32⟩
  | 26 => ⟨S1x8x8x1, .f32⟩
  | 27 => ⟨S_, .f32⟩
  | 28 => ⟨S8, .f32⟩
  | 29 => ⟨S8, .f32⟩
  | 30 => ⟨S8, .f32⟩
  | 31 => ⟨S1x8x1x1, .f32⟩
  | 32 => ⟨S128x8x256x512, .f32⟩
  | 33 => ⟨S128x8x8x256, .f32⟩
  | 34 => ⟨S128x8x8x256, .f32⟩
  | 35 => ⟨S128x8x8x512, .f32⟩
  | 36 => ⟨S128x8x8x8, .f32⟩
  | 37 => ⟨S1x8x8x8, .f32⟩
  | 38 => ⟨S128x8x8x8, .f32⟩
  | 39 => ⟨S128x8x8x8, .f32⟩
  | 40 => ⟨S128x8x8x512, .f32⟩
  | 41 => ⟨S128x8x8x512, .f32⟩
  | 42 => ⟨S128x8x8x512, .f32⟩
  | 43 => ⟨S128x8x8x512, .f32⟩
  | 44 => ⟨S128x8x256x512, .f32⟩
  | 45 => ⟨S128x8x256x512, .f32⟩
  | 46 => ⟨S128x8x8x256, .f32⟩
  | 47 => ⟨S128x8x8x256, .f32⟩
  | 48 => ⟨S128x8x256x512, .f32⟩
  | 49 => ⟨S128x8x256x512, .f32⟩
  | 50 => ⟨S128x8x8x512, .f32⟩
  | 51 => ⟨S128x8x8x512, .f32⟩
  | 52 => ⟨S_, .f32⟩
  | 53 => ⟨S128x8x8, .f32⟩
  | 54 => ⟨S128x8x8x1, .f32⟩
  | 55 => ⟨S_, .f32⟩
  | 56 => ⟨S128x8x8x1, .f32⟩
  | 57 => ⟨S128x8x8x1, .f32⟩
  | 58 => ⟨S128x8x8x512, .f32⟩
  | 59 => ⟨S128x8x8x512, .f32⟩
  | 60 => ⟨S128x8x8x512, .f32⟩
  | 61 => ⟨S_, .f32⟩
  | 62 => ⟨S128x8x8, .f32⟩
  | 63 => ⟨S128x8x8x1, .f32⟩
  | 64 => ⟨S_, .f32⟩
  | 65 => ⟨S128x8x8x1, .f32⟩
  | 66 => ⟨S128x8x8x1, .f32⟩
  | 67 => ⟨S128x8x8x512, .f32⟩
  | 68 => ⟨S128x8x8x512, .f32⟩
  | 69 => ⟨S_, .f32⟩
  | 70 => ⟨S128x8x8x1, .f32⟩
  | 71 => ⟨S128x8x8x1, .f32⟩
  | 72 => ⟨S128x8x8x1, .f32⟩
  | 73 => ⟨S128x8x8x512, .f32⟩
  | 74 => ⟨S128x8x8x512, .f32⟩
  | 75 => ⟨S8x512, .f32⟩
  | 76 => ⟨S1x1x8x512, .f32⟩
  | 77 => ⟨S128x8x8x512, .f32⟩
  | 78 => ⟨S128x8x8x512, .f32⟩
  | 79 => ⟨S128x8x4096, .f32⟩
  | 80 => ⟨S128x8x4096, .f32⟩
  | 81 => ⟨S128x8x4096, .f32⟩
  | 82 => ⟨S_, .f32⟩
  | 83 => ⟨S128x8x4096, .f32⟩
  | 84 => ⟨S128x8x4096, .f32⟩
  | 85 => ⟨S_, .f32⟩
  | 86 => ⟨S128x8x4096, .f32⟩
  | 87 => ⟨S128x8x4096, .f32⟩
  | 88 => ⟨S128x8x4096, .f32⟩
  | 89 => ⟨S128x8x4096, .f32⟩
  | 90 => ⟨S1024x4096, .f32⟩
  | 91 => ⟨S1024x4096, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_4 : Ref sig .tc := ⟨.hbm, 69, rfl⟩
abbrev main_v57 : Ref sig .tc := ⟨.hbm, 70, rfl⟩
abbrev main_v58 : Ref sig .tc := ⟨.hbm, 71, rfl⟩
abbrev main_cst_5 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_6 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_7 : Ref sig .tc := ⟨.hbm, 102, rfl⟩
abbrev main_v87 : Ref sig .tc := ⟨.hbm, 103, rfl⟩
abbrev main_v88 : Ref sig .tc := ⟨.hbm, 104, rfl⟩
abbrev main_cst_8 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_cst_9 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_10 : Ref sig .tc := ⟨.hbm, 121, rfl⟩
abbrev main_call0_v0 : Ref sig .tc := ⟨.hbm, 122, rfl⟩
abbrev main_call0_v1 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_cst_11 : Ref sig .tc := ⟨.hbm, 130, rfl⟩
abbrev main_call1_v0 : Ref sig .tc := ⟨.hbm, 131, rfl⟩
abbrev main_call1_v1 : Ref sig .tc := ⟨.hbm, 132, rfl⟩
abbrev main_call1_v2 : Ref sig .tc := ⟨.hbm, 133, rfl⟩
abbrev main_v109 : Ref sig .tc := ⟨.hbm, 134, rfl⟩
abbrev main_v110 : Ref sig .tc := ⟨.hbm, 135, rfl⟩
abbrev main_cst_12 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_13 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_cst_14 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_cst_15 : Ref sig .tc := ⟨.hbm, 180, rfl⟩
abbrev main_v152 : Ref sig .tc := ⟨.hbm, 181, rfl⟩
abbrev main_v153 : Ref sig .tc := ⟨.hbm, 182, rfl⟩
abbrev main_cst_16 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_cst_17 : Ref sig .tc := ⟨.hbm, 189, rfl⟩
abbrev main_v159 : Ref sig .tc := ⟨.hbm, 190, rfl⟩
abbrev main_v160 : Ref sig .tc := ⟨.hbm, 191, rfl⟩
abbrev main_cst_18 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_cst_19 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_call2_v0 : Ref sig .tc := ⟨.hbm, 208, rfl⟩
abbrev main_call2_v1 : Ref sig .tc := ⟨.hbm, 209, rfl⟩
abbrev main_call2_cst : Ref sig .tc := ⟨.hbm, 210, rfl⟩
abbrev main_call2_v2 : Ref sig .tc := ⟨.hbm, 211, rfl⟩
abbrev main_call2_v3 : Ref sig .tc := ⟨.hbm, 212, rfl⟩
abbrev main_call2_cst_0 : Ref sig .tc := ⟨.hbm, 213, rfl⟩
abbrev main_call2_v4 : Ref sig .tc := ⟨.hbm, 214, rfl⟩
abbrev main_call2_v5 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩

abbrev nD : Nat := 1
abbrev τ : Topo := Topo.v7x

variable {F : FTy → Type} [FloatOps F]
-- ==== Proof.RetBlock.lean ====
/- What one block of the sample retention computes, stated uniformly in the sequence: the block holds eight sequences of eight
   tokens, and the body treats them one after another with the same operations. Here each sequence's share is one function of the
   rows of the operands that belong to it, and the printed payloads are shown to be that function. -/
module

public import proofs.«01_k».proof.Proof.Gen.KernelIdeal.Value
public import Idealize.ShloMosaic.Lib.Pipeline.ValueKit

@[expose] public section

set_option maxRecDepth 16384

noncomputable section

namespace Cert.RetSample

open Cert.KernelIdeal Cert.KernelIdeal.Gen Idealize.ShloMosaic Idealize.ShloMosaic.TcCoe Idealize.SL.Sem

variable {F : FTy → Type} [FloatOps F]

/-! ## The operations on one sequence -/

/-- The rotary embedding of eight rows: the two halves of each row turned by the angles whose cosines and sines are given. -/
def rotBlk (co si : Vec F S8x128 .f32) (q : Vec F S8x256 .f32) : FVec F S8x256 .f32 :=
  let a := extractStridedSlice S8x128 ![0, 0] q slices_S8x256_o0_0_S8x128
  let b := extractStridedSlice S8x128 ![0, 128] q slices_S8x256_o0_128_S8x128
  let c := shapeCast S8x128 co shapeCasts_S8x128_S8x128
  let s := shapeCast S8x128 si shapeCasts_S8x128_S8x128
  concatenate S8x256 1 [⟨S8x128, subf (mulf a c) (mulf b s)⟩, ⟨S8x128, addf (mulf a s) (mulf b c)⟩]
    concatenates_S8x128_S8x128_S8x256_d1

/-- The keys of one sequence: rotated and scaled by 1/16. -/
def keyBlk (co si : Vec F S8x128 .f32) (k : Vec F S8x256 .f32) : FVec F S8x256 .f32 :=
  mulf (rotBlk co si k) (broadcast S8x256 (Scalar.ofBits .f32 0x3D800000#32))

/-- The retention output of one sequence before the norm: the decayed scores against the values, plus the queries against the
    carried state. -/
def mixBlk (dec : FVec F S8x8 .f32) (qd : FVec F S8x1 .f32) (S : FVec F S256x512 .f32) (q k : FVec F S8x256 .f32)
    (v : Vec F S8x512 .f32) : FVec F S8x512 .f32 :=
  addf
    (matmul dot_S8x8_S8x512_S8x512_1_0_0_1_n_n none
      (mulf (matmul dot_S8x256_S8x256_S8x8_1_1_0_0_n_n none q k (constant S8x8 .f32 0x00000000#32)) dec) v
      (constant S8x512 .f32 0x00000000#32))
    (mulf (matmul dot_S8x256_S256x512_S8x512_1_0_0_1_n_n none q S (constant S8x512 .f32 0x00000000#32))
      (broadcastTo S8x512 qd broadcasts_S8x1_S8x512))

/-- The group norm of one sequence's output and the gate. -/
def normBlk (gn : FVec F S1x512 .f32) (o : FVec F S8x512 .f32) (g : Vec F S8x512 .f32) : FVec F S8x512 .f32 :=
  k0_pay14 gn o
    (broadcastTo S8x512
      (divf (shapeCast S8x1 (multiReduction .add [1] S8 o 0x00000000#32 reduces_S8x512_S8 (.inl rfl) rfl) shapeCasts_S8_S8x1)
        (broadcast S8x1 (Scalar.ofBits .f32 0x44000000#32))) broadcasts_S8x1_S8x512) g

/-- The state of one sequence after its eight tokens. -/
def stateBlk (kd : FVec F S8x1 .f32) (cd : FVec F S1x1 .f32) (S : FVec F S256x512 .f32) (k : FVec F S8x256 .f32)
    (v : Vec F S8x512 .f32) : FVec F S256x512 .f32 :=
  addf (mulf S (broadcastTo S256x512 cd broadcasts_S1x1_S256x512))
    (matmul dot_S8x256_S8x512_S256x512_0_0_1_1_n_n none (mulf k (broadcastTo S8x256 kd broadcasts_S8x1_S8x256)) v
      (constant S256x512 .f32 0x00000000#32))

/-! ## The rows of sequence `s` in a block's operands -/

theorem rows_inb (n : Nat) (s : Fin 8) : ∀ a, (![8 * s.val, 0] : Fin 2 → Nat) a + (![8, n] : Fin 2 → Nat) a ≤ (![64, n] : Fin 2 → Nat) a := by
  intro a; have := s.isLt; fin_cases a <;> simp <;> omega

theorem slab_inb (s : Fin 8) : ∀ a, (![s.val, 0, 0, 0] : Fin 4 → Nat) a + (![1, 1, 128, 512] : Fin 4 → Nat) a
    ≤ (![8, 1, 128, 512] : Fin 4 → Nat) a := by
  intro a; have := s.isLt; fin_cases a <;> simp <;> omega

/-- The eight rows of sequence `s` among the 64 of a block with 256 columns. -/
def rows256 (X : Vec F S64x256 .f32) (s : Fin 8) : Vec F S8x256 .f32 :=
  View.ld X (Rect.unit (s := S64x256) ![8 * s.val, 0] ![8, 256] (rows_inb 256 s))

/-- The eight rows of sequence `s` among the 64 of a block with 512 columns. -/
def rows512 (X : Vec F S64x512 .f32) (s : Fin 8) : Vec F S8x512 .f32 :=
  View.ld X (Rect.unit (s := S64x512) ![8 * s.val, 0] ![8, 512] (rows_inb 512 s))

/-- The eight rows of sequence `s` among the 64 of a table with 128 columns. -/
def rows128 (X : Vec F S64x128 .f32) (s : Fin 8) : Vec F S8x128 .f32 :=
  View.ld X (Rect.unit (s := S64x128) ![8 * s.val, 0] ![8, 128] (rows_inb 128 s))

/-- One half of the incoming state of sequence `s`. -/
def slab (X : Vec F S8x1x128x512 .f32) (s : Fin 8) : Vec F S1x1x128x512 .f32 :=
  View.ld X (Rect.unit (s := S8x1x128x512) ![s.val, 0, 0, 0] ![1, 1, 128, 512] (slab_inb s))

/-- The incoming state of sequence `s`, from its two halves. -/
def inState (A B : Vec F S8x1x128x512 .f32) (s : Fin 8) : FVec F S256x512 .f32 := k0_pay7 (slab A s) (slab B s)

/-- The state sequence `s` leaves, from the block's operands. -/
def seqState (lg : Elt F .f32) (k : Vec F S64x256 .f32) (v : Vec F S64x512 .f32) (co si : Vec F S64x128 .f32)
    (A B : Vec F S8x1x128x512 .f32) (s : Fin 8) : FVec F S256x512 .f32 :=
  stateBlk (k0_pay4 lg) (k0_pay5 lg) (inState A B s) (keyBlk (rows128 co s) (rows128 si s) (rows256 k s)) (rows512 v s)

/-- The output of sequence `s`, from the block's operands. -/
def seqOut (lg : Elt F .f32) (gn : Vec F S1x1x512 .f32) (q k : Vec F S64x256 .f32) (v g : Vec F S64x512 .f32)
    (co si : Vec F S64x128 .f32) (A B : Vec F S8x1x128x512 .f32) (s : Fin 8) : FVec F S8x512 .f32 :=
  normBlk (k0_pay6 gn)
    (mixBlk (k0_pay2 lg) (k0_pay3 lg) (inState A B s) (rotBlk (rows128 co s) (rows128 si s) (rows256 q s))
      (keyBlk (rows128 co s) (rows128 si s) (rows256 k s)) (rows512 v s)) (rows512 g s)

/-! ## The arrays after the run -/

variable (m : (ℓ : Loc nD τ sig) → Buf (Elt F) ℓ)

/-- The logarithm of the decay of the head that grid point `t` works on. -/
def lgAt (c : Dev nD) (t : Fin cfg0.N) : Elt F .f32 :=
  View.ld (iblk m c 0 t) (Rect.unit (s := S8) (k0_off1 (grid0.coords t)) S1.size (k0_off1_inb (grid0.coords t)))
    (Shape.Idx.first (show 0 < S1.numel by decide))

/-- The final states after the run are `G`, if at each grid point the state each sequence leaves is `G` there. -/
theorem state_array (c : Dev nD) (G : Vec F S128x8x256x512 .f32)
    (hG : ∀ (t : Fin cfg0.N) (s : Fin 8) (y : S1x1x256x512.Idx) (z : S8x1x256x512.Idx),
      (z 0).val = s.val + (y 0).val → (z 2).val = (y 2).val → (z 3).val = (y 3).val →
      k0_pay15 (seqState (lgAt m c t) (iblk m c 2 t) (iblk m c 3 t) (iblk m c 5 t) (iblk m c 6 t) (iblk m c 8 t)
        (iblk m c 9 t) s) y = G (((cfg0.win 11).blk t).view.emb z)) :
    (dats m 0 c).arrAt 11 cfg0.N = G := by
  refine (dats m 0 c).arrAt_eq_of_covers 11 _ (by decide +kernel) fun t hf y => ?_
  blk_simp
  rw [after0_11]
  unfold outsAt0
  frame_out
  canon_tiles y h
  · exact hG t 7 _ _ h0 h2 h3
  · exact hG t 6 _ _ h0 h2 h3
  · exact hG t 5 _ _ h0 h2 h3
  · exact hG t 4 _ _ h0 h2 h3
  · exact hG t 3 _ _ h0 h2 h3
  · exact hG t 2 _ _ h0 h2 h3
  · exact hG t 1 _ _ h0 h2 h3
  · exact hG t 0 _ _ (h0.trans (Nat.zero_add _).symm) h2 h3

/-- The outputs after the run are `G`, if at each grid point the output of each sequence is `G` there. -/
theorem out_array (c : Dev nD) (G : Vec F S1024x4096 .bf16)
    (hG : ∀ (t : Fin cfg0.N) (z : S64x512.Idx),
      truncf .bf16 (concatenate S64x512 0 (List.ofFn fun s : Fin 8 => ⟨S8x512, seqOut (lgAt m c t) (iblk m c 7 t) (iblk m c 1 t)
        (iblk m c 2 t) (iblk m c 3 t) (iblk m c 4 t) (iblk m c 5 t) (iblk m c 6 t) (iblk m c 8 t) (iblk m c 9 t) s⟩)
        concatenates_S8x512_S8x512_S8x512_S8x512_S8x512_S8x512_S8x512_S8x512_S64x512_d0) bitsLt_bf16_f32 z
        = G (((cfg0.win 10).blk t).view.emb z)) :
    (dats m 0 c).arrAt 10 cfg0.N = G := by
  refine (dats m 0 c).arrAt_eq_of_covers 10 _ (by decide +kernel) fun t hf y => ?_
  blk_simp
  rw [after0_10]
  unfold outsAt0
  frame_out
  exact hG t y

end Cert.RetSample

end
-- ==== Proof.RetRead.lean ====
/- The operands of a grid point of the sample retention, read at an index: which elements of the arguments a block holds. -/
module

public import proofs.«01_k».proof.Proof.RetBlock
public import proofs.«01_k».proof.Proof.Gen.ReferenceIdeal.Read

@[expose] public section

set_option maxRecDepth 16384

noncomputable section

namespace Cert.RetSample

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ)

theorem idx0 : ∀ t : Fin cfg0.N, win0_0.index t = ![0] := by decide +kernel
theorem idx1 : ∀ t : Fin cfg0.N, win0_1.index t = ![128 + (grid0.coords t 0).val, (grid0.coords t 1).val] := by decide +kernel
theorem idx2 : ∀ t : Fin cfg0.N, win0_2.index t = ![128 + (grid0.coords t 0).val, 8 + (grid0.coords t 1).val] := by decide +kernel
theorem idx3 : ∀ t : Fin cfg0.N, win0_3.index t = ![128 + (grid0.coords t 0).val, 8 + (grid0.coords t 1).val] := by decide +kernel
theorem idx4 : ∀ t : Fin cfg0.N, win0_4.index t = ![128 + (grid0.coords t 0).val, 16 + (grid0.coords t 1).val] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![(grid0.coords t 1).val, 0, 0] := by decide +kernel
theorem idx8 : ∀ t : Fin cfg0.N, win0_8.index t = ![(grid0.coords t 0).val, (grid0.coords t 1).val, 0, 0] := by decide +kernel
theorem idx9 : ∀ t : Fin cfg0.N, win0_9.index t = ![(grid0.coords t 0).val, (grid0.coords t 1).val, 1, 0] := by decide +kernel
theorem idx10 : ∀ t : Fin cfg0.N, win0_10.index t = ![(grid0.coords t 0).val, (grid0.coords t 1).val] := by decide +kernel
theorem idx11 : ∀ t : Fin cfg0.N, win0_11.index t = ![(grid0.coords t 0).val, (grid0.coords t 1).val, 0, 0] := by decide +kernel

/-- The first argument, the projected queries, keys, values and gates. -/
abbrev proj (c : Dev nD) : Vec Ideal S9216x12288 .f32 := m ((c : Thread nD τ).loc main_arg0)

theorem lt16 (t : Fin cfg0.N) : (grid0.coords t 0).val < 16 := (grid0.coords t 0).isLt
theorem lt8 (t : Fin cfg0.N) : (grid0.coords t 1).val < 8 := (grid0.coords t 1).isLt

/-- The head grid point `t` works on. -/
def hd (t : Fin cfg0.N) : Fin 8 := ⟨(grid0.coords t 1).val, lt8 t⟩

/-- The number of sequence `s` of the eight at grid point `t`. -/
def sq (t : Fin cfg0.N) (s : Fin 8) : Fin 128 :=
  ⟨8 * (grid0.coords t 0).val + s.val, by have := lt16 t; have := s.isLt; omega⟩

/-! ## The rows of a sequence -/

section Rows
variable {F : FTy → Type} [FloatOps F]

theorem rows256_apply (X : Vec F S64x256 .f32) (s : Fin 8) (i : Fin 8) (d : Fin 256) :
    rows256 X s (ix2 i d) = X (ix2 ⟨8 * s.val + i.val, by omega⟩ d) := by
  unfold rows256
  pointwise

theorem rows512_apply (X : Vec F S64x512 .f32) (s : Fin 8) (i : Fin 8) (d : Fin 512) :
    rows512 X s (ix2 i d) = X (ix2 ⟨8 * s.val + i.val, by omega⟩ d) := by
  unfold rows512
  pointwise

theorem rows128_apply (X : Vec F S64x128 .f32) (s : Fin 8) (i : Fin 8) (d : Fin 128) :
    rows128 X s (ix2 i d) = X (ix2 ⟨8 * s.val + i.val, by omega⟩ d) := by
  unfold rows128
  pointwise

theorem slab_apply (X : Vec F S8x1x128x512 .f32) (s : Fin 8) (d : Fin 128) (v : Fin 512) :
    slab X s (ix4 0 0 d v) = X (ix4 s 0 d v) := by
  unfold slab
  pointwise

end Rows

/-! ## The blocks -/

theorem off1 : ∀ t : Fin cfg0.N, k0_off1 (grid0.coords t) 0 = (grid0.coords t 1).val := by decide +kernel

theorem lg_read (c : Dev nD) (t : Fin cfg0.N) : lgAt m c t = val_main_v78 (F := Ideal) (ix1 (hd t)) := by
  have := lt8 t
  have e : lgAt m c t = iblk m c 0 t (ix1 (hd t)) := by
    unfold lgAt
    pointwise
    blk_ext [off1 t, hd]
  rw [e]
  have e2 : iblk m c 0 t (ix1 (hd t)) = V m c main_v32 (ix1 (hd t)) := by
    blk_ext [iblk, idx0 t, hd]
  rw [e2]
  unfold val_main_v78 val_main_v77 val_main_v76 val_main_v75 val_main_v74 val_main_v73 val_main_v72 val_main_v71
    val_main_cst_5 val_main_cst_4
  entry_read
  pointwise

theorem q_read (c : Dev nD) (t : Fin cfg0.N) (s i : Fin 8) (d : Fin 256) :
    rows256 (iblk m c 1 t) s (ix2 i d)
      = proj m c (ix2 ⟨8192 + ((sq t s).val * 8 + i.val), by have := (sq t s).isLt; omega⟩
          ⟨(hd t).val * 256 + d.val, by have := (hd t).isLt; omega⟩) := by
  rw [rows256_apply]
  have := lt16 t
  have := lt8 t
  blk_ext [iblk, V, idx1 t, proj, sq, hd]

theorem k_read (c : Dev nD) (t : Fin cfg0.N) (s i : Fin 8) (d : Fin 256) :
    rows256 (iblk m c 2 t) s (ix2 i d)
      = proj m c (ix2 ⟨8192 + ((sq t s).val * 8 + i.val), by have := (sq t s).isLt; omega⟩
          ⟨2048 + ((hd t).val * 256 + d.val), by have := (hd t).isLt; omega⟩) := by
  rw [rows256_apply]
  have := lt16 t
  have := lt8 t
  blk_ext [iblk, V, idx2 t, proj, sq, hd]

theorem v_read (c : Dev nD) (t : Fin cfg0.N) (s i : Fin 8) (d : Fin 512) :
    rows512 (iblk m c 3 t) s (ix2 i d)
      = proj m c (ix2 ⟨8192 + ((sq t s).val * 8 + i.val), by have := (sq t s).isLt; omega⟩
          ⟨4096 + ((hd t).val * 512 + d.val), by have := (hd t).isLt; omega⟩) := by
  rw [rows512_apply]
  have := lt16 t
  have := lt8 t
  blk_ext [iblk, V, idx3 t, proj, sq, hd]

theorem g_read (c : Dev nD) (t : Fin cfg0.N) (s i : Fin 8) (d : Fin 512) :
    rows512 (iblk m c 4 t) s (ix2 i d)
      = proj m c (ix2 ⟨8192 + ((sq t s).val * 8 + i.val), by have := (sq t s).isLt; omega⟩
          ⟨8192 + ((hd t).val * 512 + d.val), by have := (hd t).isLt; omega⟩) := by
  rw [rows512_apply]
  have := lt16 t
  have := lt8 t
  blk_ext [iblk, V, idx4 t, proj, sq, hd]

theorem cos_read (c : Dev nD) (t : Fin cfg0.N) (s i : Fin 8) (d : Fin 128) :
    rows128 (iblk m c 5 t) s (ix2 i d) = val_main_v22 (F := Ideal) (ix2 i d) := by
  rw [rows128_apply]
  have e2 : iblk m c 5 t (ix2 (⟨8 * s.val + i.val, by omega⟩ : Fin 64) d)
      = V m c main_v20 (ix2 (⟨8 * s.val + i.val, by omega⟩ : Fin 64) d) := by
    blk_ext [iblk, idx5 t]
  rw [e2]
  unfold val_main_v22 val_main_v21 val_main_v20 val_main_v19 val_main_v18 val_main_v17 val_main_v16 val_main_v15
    val_main_v14 val_main_v13 val_main_v12 val_main_v11 val_main_v9 val_main_v8 val_main_v7 val_main_v6 val_main_c
    val_main_cst val_main_cst_0
  entry_read
  pointwise

theorem sin_read (c : Dev nD) (t : Fin cfg0.N) (s i : Fin 8) (d : Fin 128) :
    rows128 (iblk m c 6 t) s (ix2 i d) = val_main_v24 (F := Ideal) (ix2 i d) := by
  rw [rows128_apply]
  have e2 : iblk m c 6 t (ix2 (⟨8 * s.val + i.val, by omega⟩ : Fin 64) d)
      = V m c main_v24 (ix2 (⟨8 * s.val + i.val, by omega⟩ : Fin 64) d) := by
    blk_ext [iblk, idx6 t]
  rw [e2]
  unfold val_main_v24 val_main_v21 val_main_v20 val_main_v19 val_main_v18 val_main_v17 val_main_v16 val_main_v15
    val_main_v14 val_main_v13 val_main_v12 val_main_v11 val_main_v9 val_main_v8 val_main_v7 val_main_v6 val_main_c
    val_main_cst val_main_cst_0
  entry_read
  pointwise

theorem gn_read (c : Dev nD) (t : Fin cfg0.N) (d : Fin 512) :
    iblk m c 7 t (ix3 0 0 d) = m ((c : Thread nD τ).loc main_arg2) (ix3 0 (hd t) d) := by
  have := lt8 t
  have e : iblk m c 7 t (ix3 0 0 d) = V m c main_v33 (ix3 (hd t) 0 d) := by
    blk_ext [iblk, idx7 t, hd]
  rw [e]
  entry_read
  pointwise

theorem s0_read (c : Dev nD) (t : Fin cfg0.N) (s : Fin 8) (d : Fin 128) (v : Fin 512) :
    slab (iblk m c 8 t) s (ix4 0 0 d v)
      = m ((c : Thread nD τ).loc main_arg1) (ix5 0 (sq t s) (hd t) ⟨d.val, by omega⟩ v) := by
  rw [slab_apply]
  have := lt16 t
  have := lt8 t
  have e : iblk m c 8 t (ix4 s 0 d v) = V m c main_v0 (ix4 (sq t s) (hd t) ⟨d.val, by omega⟩ v) := by
    blk_ext [iblk, idx8 t, sq, hd]
  rw [e]
  entry_read
  pointwise

theorem s1_read (c : Dev nD) (t : Fin cfg0.N) (s : Fin 8) (d : Fin 128) (v : Fin 512) :
    slab (iblk m c 9 t) s (ix4 0 0 d v)
      = m ((c : Thread nD τ).loc main_arg1) (ix5 0 (sq t s) (hd t) ⟨128 + d.val, by omega⟩ v) := by
  rw [slab_apply]
  have := lt16 t
  have := lt8 t
  have e : iblk m c 9 t (ix4 s 0 d v) = V m c main_v0 (ix4 (sq t s) (hd t) ⟨128 + d.val, by omega⟩ v) := by
    blk_ext [iblk, idx9 t, sq, hd]
  rw [e]
  entry_read
  pointwise

end Cert.RetSample

end
-- ==== Proof.RetEq.lean ====
/- The sample retention: what each sequence's operations compute at a grid point is the reference's stage of the same name at that
   sequence and head, and so the two result arrays are the reference's results. -/
module

public import proofs.«01_k».proof.Proof.RetRead

@[expose] public section

set_option maxRecDepth 16384

noncomputable section

namespace Cert.RetSample

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ)

/-- The second argument, the incoming states. -/
abbrev stin (c : Dev nD) : Vec Ideal S1x128x8x256x512 .f32 := m ((c : Thread nD τ).loc main_arg1)
/-- The third argument, the weights of the group norm. -/
abbrev gnw (c : Dev nD) : Vec Ideal S1x8x512 .f32 := m ((c : Thread nD τ).loc main_arg2)

/-- The rotated queries of sequence `s` at grid point `t`. -/
abbrev qAt (c : Dev nD) (t : Fin cfg0.N) (s : Fin 8) : FVec Ideal S8x256 .f32 :=
  rotBlk (rows128 (iblk m c 5 t) s) (rows128 (iblk m c 6 t) s) (rows256 (iblk m c 1 t) s)

/-- The rotated and scaled keys of sequence `s` at grid point `t`. -/
abbrev kAt (c : Dev nD) (t : Fin cfg0.N) (s : Fin 8) : FVec Ideal S8x256 .f32 :=
  keyBlk (rows128 (iblk m c 5 t) s) (rows128 (iblk m c 6 t) s) (rows256 (iblk m c 2 t) s)

theorem q_eq (c : Dev nD) (t : Fin cfg0.N) (s i : Fin 8) (d : Fin 256) :
    qAt m c t s (ix2 i d) = val_main_v38 (F := Ideal) (proj m c) (ix4 (sq t s) i (hd t) d) := by
  unfold qAt rotBlk
  pointwise
  simp only [q_read, cos_read, sin_read]
  unfold val_main_v38 val_main_v37 val_main_v36 val_main_v35 val_main_v34 val_main_v33 val_main_v32 val_main_v31
    val_main_v30 val_main_v29 val_main_v28 val_main_v27 val_main_v26 val_main_v25 val_main_v23 val_main_v10
    val_main_v2 val_main_v1 val_main_v0
  pointwise

theorem k_eq (c : Dev nD) (t : Fin cfg0.N) (s i : Fin 8) (d : Fin 256) :
    kAt m c t s (ix2 i d) = val_main_v69 (F := Ideal) (proj m c) (ix4 (sq t s) i (hd t) d) := by
  unfold kAt keyBlk rotBlk
  pointwise
  simp only [k_read, cos_read, sin_read]
  unfold val_main_v69 val_main_v68 val_main_cst_3 val_main_v67 val_main_v66 val_main_v65 val_main_v64 val_main_v63
    val_main_v62 val_main_v61 val_main_v60 val_main_v59 val_main_v58 val_main_v57 val_main_v56 val_main_v55 val_main_v54
    val_main_v52 val_main_v39 val_main_v3 val_main_v1 val_main_v0
  rw [show val_main_v51 (F := Ideal) = val_main_v22 from rfl, show val_main_v53 (F := Ideal) = val_main_v24 from rfl]
  pointwise

theorem st_eq (c : Dev nD) (t : Fin cfg0.N) (s : Fin 8) (d : Fin 256) (v : Fin 512) :
    inState (iblk m c 8 t) (iblk m c 9 t) s (ix2 d v) = stin m c (ix5 0 (sq t s) (hd t) d v) := by
  unfold inState k0_pay7
  pointwise
  split
  · rw [s0_read]
  · rw [s1_read]
    congr 1
    blk_ext []

/-- The score decay, the query decay, the key decay and the decay of the whole chunk. -/
theorem dec_eq (h i j : Fin 8) :
    k0_pay2 (F := Ideal) (val_main_v78 (ix1 h)) (ix2 i j) = val_main_v94 (F := Ideal) (ix3 h i j) := by
  unfold k0_pay2 k0_pay1
  unfold val_main_v94 val_main_call1_v2 val_main_call1_v1 val_main_call1_v0 val_main_v93 val_main_v92 val_main_v91 val_main_v90
    val_main_v89 val_main_v88 val_main_v87 val_main_v86 val_main_v85 val_main_v84 val_main_v83 val_main_v82 val_main_v81
    val_main_v80 val_main_v79 val_main_call0_v1 val_main_call0_v0 val_main_cst_6 val_main_cst_7 val_main_cst_8
  simp only [id]
  pointwise

theorem qd_eq (h i : Fin 8) :
    k0_pay3 (F := Ideal) (val_main_v78 (ix1 h)) (ix2 i 0) = val_main_v102 (F := Ideal) (ix2 h i) := by
  unfold k0_pay3 k0_pay1
  unfold val_main_v102 val_main_v101 val_main_v100 val_main_v99 val_main_v98 val_main_v97 val_main_v96 val_main_v95
    val_main_v79 val_main_cst_9
  pointwise

theorem kd_eq (h i : Fin 8) :
    k0_pay4 (F := Ideal) (val_main_v78 (ix1 h)) (ix2 i 0) = val_main_v111 (F := Ideal) (ix2 h i) := by
  unfold k0_pay4 k0_pay1
  unfold val_main_v111 val_main_v110 val_main_v109 val_main_v108 val_main_v107 val_main_v106 val_main_v105 val_main_v104
    val_main_v79 val_main_cst_10
  pointwise

theorem cd_eq (h : Fin 8) :
    k0_pay5 (F := Ideal) (val_main_v78 (ix1 h)) (ix2 0 0) = val_main_v115 (F := Ideal) (ix1 h) := by
  unfold k0_pay5
  unfold val_main_v115 val_main_v114 val_main_v113 val_main_cst_11
  pointwise

/-- The state sequence `s` leaves is the reference's final state of that sequence and head. -/
theorem state_eq (c : Dev nD) (t : Fin cfg0.N) (s : Fin 8) (d : Fin 256) (v : Fin 512) :
    seqState (lgAt m c t) (iblk m c 2 t) (iblk m c 3 t) (iblk m c 5 t) (iblk m c 6 t) (iblk m c 8 t) (iblk m c 9 t) s (ix2 d v)
      = val_main_v134 (F := Ideal) (proj m c) (stin m c) (ix4 (sq t s) (hd t) d v) := by
  unfold seqState stateBlk
  rw [lg_read]
  have hk := fun i => k_eq m c t s i d
  unfold kAt at hk
  generalize keyBlk (rows128 (iblk m c 5 t) s) (rows128 (iblk m c 6 t) s) (rows256 (iblk m c 2 t) s) = K at hk ⊢
  have hS := st_eq m c t s d v
  generalize inState (iblk m c 8 t) (iblk m c 9 t) s = S at hS ⊢
  pointwise
  simp only [hk, hS, v_read, kd_eq, cd_eq]
  unfold val_main_v134 val_main_v133 val_main_v132 val_main_v131 val_main_v130 val_main_v129 val_main_v120 val_main_v119
    val_main_v117 val_main_v116 val_main_v112 val_main_v70 val_main_v4 val_main_v1 val_main_v0
  pointwise

/-- The output of sequence `s` before the norm. -/
theorem mix_eq (c : Dev nD) (t : Fin cfg0.N) (s i : Fin 8) (v : Fin 512) :
    mixBlk (k0_pay2 (lgAt m c t)) (k0_pay3 (lgAt m c t)) (inState (iblk m c 8 t) (iblk m c 9 t) s) (qAt m c t s)
        (kAt m c t s) (rows512 (iblk m c 3 t) s) (ix2 i v)
      = val_main_v136 (F := Ideal) (proj m c) (stin m c) (ix4 (sq t s) i (hd t) v) := by
  unfold mixBlk
  rw [lg_read]
  have hk := k_eq m c t s
  generalize kAt m c t s = K at hk ⊢
  have hq := q_eq m c t s
  generalize qAt m c t s = Q at hq ⊢
  have hS := st_eq m c t s
  generalize inState (iblk m c 8 t) (iblk m c 9 t) s = S at hS ⊢
  pointwise
  simp only [hk, hq, hS, v_read, dec_eq, qd_eq]
  unfold val_main_v136 val_main_v135 val_main_v128 val_main_v127 val_main_v126 val_main_v125 val_main_v124 val_main_v123
    val_main_v122 val_main_v121 val_main_v120 val_main_v119 val_main_v118 val_main_v117 val_main_v103 val_main_v70
    val_main_v4 val_main_v1 val_main_v0
  pointwise

/-- The output of sequence `s`. -/
theorem out_eq (c : Dev nD) (t : Fin cfg0.N) (s i : Fin 8) (v : Fin 512) :
    seqOut (lgAt m c t) (iblk m c 7 t) (iblk m c 1 t) (iblk m c 2 t) (iblk m c 3 t) (iblk m c 4 t) (iblk m c 5 t)
        (iblk m c 6 t) (iblk m c 8 t) (iblk m c 9 t) s (ix2 i v)
      = val_main_v163 (F := Ideal) (proj m c) (stin m c) (gnw m c)
          (ix2 ⟨(sq t s).val * 8 + i.val, by have := (sq t s).isLt; omega⟩
            ⟨(hd t).val * 512 + v.val, by have := (hd t).isLt; omega⟩) := by
  have hO := mix_eq m c t s
  unfold seqOut
  generalize mixBlk (k0_pay2 (lgAt m c t)) (k0_pay3 (lgAt m c t)) (inState (iblk m c 8 t) (iblk m c 9 t) s) (qAt m c t s)
        (kAt m c t s) (rows512 (iblk m c 3 t) s) = O at hO ⊢
  unfold normBlk k0_pay14 k0_pay6
  pointwise
  simp only [hO, g_read, gn_read]
  unfold val_main_v163 val_main_v162 val_main_v161 val_main_v160 val_main_v159 val_main_v158 val_main_v157 val_main_v156
    val_main_v155 val_main_v154 val_main_v153 val_main_v152 val_main_v151 val_main_v150 val_main_v149 val_main_v148
    val_main_v147 val_main_v146 val_main_v145 val_main_v144 val_main_v143 val_main_v142 val_main_v141 val_main_v140
    val_main_v139 val_main_v138 val_main_v137 val_main_cst_12 val_main_cst_13 val_main_cst_14 val_main_cst_15 val_main_cst_16
    val_main_call2_v5 val_main_call2_v4 val_main_call2_v3 val_main_call2_v2 val_main_call2_v1 val_main_call2_v0
    val_main_call2_cst val_main_call2_cst_0 val_main_v5 val_main_v1 val_main_v0
  pointwise
  simp only [zero_sub]

theorem states (c : Dev nD) : (dats m 0 c).arrAt 11 cfg0.N = val_main_v134 (F := Ideal) (proj m c) (stin m c) := by
  refine state_array m c _ fun t s y z h0 h2 h3 => ?_
  unfold k0_pay15
  pointwise
  refine (state_eq m c t s (y 2) (y 3)).trans ?_
  have := lt16 t
  have := lt8 t
  blk_ext [idx11 t, sq, hd]

theorem outs (c : Dev nD) :
    (dats m 0 c).arrAt 10 cfg0.N = val_main_v163 (F := Ideal) (proj m c) (stin m c) (gnw m c) := by
  refine out_array m c _ fun t z => ?_
  have hz : (z 0).val < 64 := (z 0).isLt
  refine (concatenate_ofFn_apply (s₁ := S8x512) (t := S64x512) 0 (fun s : Fin 8 => seqOut (lgAt m c t) (iblk m c 7 t)
    (iblk m c 1 t) (iblk m c 2 t) (iblk m c 3 t) (iblk m c 4 t) (iblk m c 5 t) (iblk m c 6 t) (iblk m c 8 t) (iblk m c 9 t) s)
    concatenates_S8x512_S8x512_S8x512_S8x512_S8x512_S8x512_S8x512_S8x512_S64x512_d0 rfl 8 rfl z
    ⟨(z 0).val / 8, by omega⟩ rfl (ix2 (⟨(z 0).val % 8, by omega⟩ : Fin 8) (z 1)) rfl
    (by intro b hb; fin_cases b <;> simp_all)).trans ?_
  refine (out_eq m c t _ _ _).trans ?_
  have := lt16 t
  have := lt8 t
  blk_ext [idx10 t, sq, hd]

end Cert.RetSample

end
-- ==== Proof.RetInEq.lean ====
/- The retention layer's input projection: a grid of 12 column panels by 9 row tiles, the panel of the weights rounded into the
   scratch at its first row tile and held there for the other eight. Over the extended reals the rounding is the identity, so every
   entry of the result is the sum over the 2048 features that the reference states. -/
module

public import proofs.«01_k».proof.Proof.Gen.RetInIdeal.Frame
public import proofs.«01_k».proof.Proof.Gen.RetInRefIdeal.Read
public import Idealize.ShloMosaic.Lib.Pipeline.ValueKit
public import Idealize.ShloMosaic.Lib.Pipeline.ValueKit.Held

@[expose] public section

set_option maxRecDepth 16384

noncomputable section

namespace Cert.RetInProof

open Cert.RetInIdeal Cert.RetInIdeal.Gen Idealize.ShloMosaic Idealize.ShloMosaic.TcCoe Idealize.SL.Sem
open Cert.RetInRefIdeal.Read

variable (m : (ℓ : Loc nD τ sig) → Buf (Elt Ideal) ℓ)

theorem idx0 : ∀ t : Fin cfg0.N, win0_0.index t = ![(grid0.coords t 1).val, 0] := by decide +kernel
theorem idx1 : ∀ t : Fin cfg0.N, win0_1.index t = ![0, 0, (grid0.coords t 0).val] := by decide +kernel
theorem idx2 : ∀ t : Fin cfg0.N, win0_2.index t = ![(grid0.coords t 1).val, (grid0.coords t 0).val] := by decide +kernel

/-- The normalised rows. -/
abbrev rows (c : Dev nD) : Vec Ideal S9216x2048 .bf16 := m ((c : Thread nD τ).loc main_arg0)
/-- The weights. -/
abbrev wts (c : Dev nD) : Vec Ideal S1x2048x12288 .f32 := m ((c : Thread nD τ).loc main_arg1)

theorem lt12 (t : Fin cfg0.N) : (grid0.coords t 0).val < 12 := (grid0.coords t 0).isLt
theorem lt9 (t : Fin cfg0.N) : (grid0.coords t 1).val < 9 := (grid0.coords t 1).isLt

/-- The first grid point of a panel works on the panel's columns. -/
theorem panel_first : ∀ t : Fin cfg0.N,
    (grid0.coords (⟨9 * (t.val / 9), Pipeline.run_start_lt t⟩ : Fin cfg0.N) 0).val = (grid0.coords t 0).val := by decide +kernel

/-! ## The scratch -/

/-- What the scratch holds after a grid point. -/
def held (c : Dev nD) (n : ℕ) (h : n < cfg0.N) : Vec Ideal S2048x1024 .bf16 := (outsAt0 m c n h).2

theorem held_first (c : Dev nD) (t : Fin cfg0.N) (h0 : t.val % 9 = 0) :
    held m c t.val t.isLt = k0_pay1 (iblk m c 1 t) := by
  unfold held
  rw [outsAt0_A m c t h0]
  frame_out

theorem held_next (c : Dev nD) (t : Fin cfg0.N) (h0 : ¬t.val % 9 = 0) :
    held m c t.val t.isLt = held m c (t.val - 1) (Nat.lt_of_le_of_lt (Nat.sub_le _ _) t.isLt) := by
  unfold held
  rw [outsAt0_B m c t h0]
  rfl

/-- At every grid point the scratch holds its panel's columns of the weights. -/
theorem held_read (c : Dev nD) (t : Fin cfg0.N) (k : Fin 2048) (n : Fin 1024) :
    held m c t.val t.isLt (ix2 k n)
      = wts m c (ix3 0 k ⟨1024 * (grid0.coords t 0).val + n.val, by have := lt12 t; have := n.isLt; omega⟩) := by
  rw [Pipeline.eq_of_write_hold (fun n h => held m c n h) 9 (fun t => k0_pay1 (iblk m c 1 t)) (held_first m c) (held_next m c) t]
  unfold k0_pay1
  pointwise
  have := lt12 t
  have e := panel_first t
  blk_ext [iblk, V, idx1 _, e]

theorem row_read (c : Dev nD) (t : Fin cfg0.N) (i : Fin 1024) (k : Fin 2048) :
    iblk m c 0 t (ix2 i k) = rows m c (ix2 ⟨1024 * (grid0.coords t 1).val + i.val, by have := lt9 t; have := i.isLt; omega⟩ k) := by
  have := lt9 t
  blk_ext [iblk, V, idx0 t]

/-- Every grid point stores the product of its rows and what the scratch holds. -/
theorem out_point (c : Dev nD) (t : Fin cfg0.N) :
    (outsAt0 m c t.val t.isLt).1 = k0_pay2 (iblk m c 0 t) (held m c t.val t.isLt) := by
  by_cases h0 : t.val % 9 = 0
  · rw [held_first m c t h0, outsAt0_A m c t h0]
    frame_out
  · rw [held_next m c t h0, outsAt0_B m c t h0]
    unfold held
    frame_out
    exact congrArg _ ((Memref.isWhole_whole _).read_unread _)

/-- An entry of a grid point's product is the reference's. -/
theorem entry (c : Dev nD) (t : Fin cfg0.N) (i n : Fin 1024) :
    k0_pay2 (iblk m c 0 t) (held m c t.val t.isLt) (ix2 i n)
      = val_main_v2 (F := Ideal) (rows m c) (wts m c)
          (ix2 ⟨1024 * (grid0.coords t 1).val + i.val, by have := lt9 t; have := i.isLt; omega⟩
            ⟨1024 * (grid0.coords t 0).val + n.val, by have := lt12 t; have := n.isLt; omega⟩) := by
  unfold k0_pay2
  pointwise
  simp only [row_read, held_read]
  unfold val_main_v2 val_main_v1 val_main_v0
  pointwise

/-- The result after the run is the reference's product. -/
theorem product (c : Dev nD) :
    (dats m 0 c).arrAt 2 cfg0.N = val_main_v2 (F := Ideal) (rows m c) (wts m c) := by
  refine (dats m 0 c).arrAt_eq_of_covers 2 _ (by decide +kernel) fun t hf y => ?_
  blk_simp
  rw [after0_2, out_point]
  have h9 := lt9 t
  have h12 := lt12 t
  obtain ⟨i, n, rfl⟩ : ∃ i n : Fin 1024, y = ix2 i n := ⟨y 0, y 1, by funext a; fin_cases a <;> rfl⟩
  refine (entry m c t i n).trans ?_
  blk_ext [idx2 t]

/-- The run ends with the reference's product in the result and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v0) = val_main_v2 (F := Ideal) (rows m c) (wts m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (product m c), h.2 c⟩)
    (θ_run_and (run_main m ρ) (unchanged m ρ))

end Cert.RetInProof

end
-- ==== Proof.GdnInEq.lean ====
/- The gated-delta layer's input projection: a grid of 12 column panels by 9 row tiles, the panel of the transposed weights rounded
   into the scratch at its first row tile and held there for the other eight; the last 64 columns of the weights lie outside the
   panels. Over the extended reals the rounding is the identity, so every entry of the result is the sum over the 2048 features that
   the reference states. The host lines after the call cut the convolution states out of the product: the kernel counts the rows in
   eights, the reference by sequence. -/
module

public import proofs.«01_k».proof.Proof.Gen.GdnInIdeal.Frame
public import proofs.«01_k».proof.Proof.Gen.GdnInRefIdeal.Read
public import Idealize.ShloMosaic.Lib.Pipeline.ValueKit
public import Idealize.ShloMosaic.Lib.Pipeline.ValueKit.Held

@[expose] public section

set_option maxRecDepth 16384

noncomputable section

namespace Cert.GdnInProof

open Cert.GdnInIdeal Cert.GdnInIdeal.Gen Idealize.ShloMosaic Idealize.ShloMosaic.TcCoe Idealize.SL.Sem
open Cert.GdnInRefIdeal.Read

variable (m : (ℓ : Loc nD τ sig) → Buf (Elt Ideal) ℓ)

theorem idx0 : ∀ t : Fin cfg0.N, win0_0.index t = ![(grid0.coords t 1).val, 0] := by decide +kernel
theorem idx1 : ∀ t : Fin cfg0.N, win0_1.index t = ![(grid0.coords t 0).val, 0] := by decide +kernel
theorem idx2 : ∀ t : Fin cfg0.N, win0_2.index t = ![(grid0.coords t 1).val, (grid0.coords t 0).val] := by decide +kernel

/-- The normalised rows. -/
abbrev rows (c : Dev nD) : Vec Ideal S9216x2048 .bf16 := m ((c : Thread nD τ).loc main_arg0)
/-- The weights. -/
abbrev wts (c : Dev nD) : Vec Ideal S1x2048x12352 .f32 := m ((c : Thread nD τ).loc main_arg1)

theorem lt12 (t : Fin cfg0.N) : (grid0.coords t 0).val < 12 := (grid0.coords t 0).isLt
theorem lt9 (t : Fin cfg0.N) : (grid0.coords t 1).val < 9 := (grid0.coords t 1).isLt

/-- The first grid point of a panel works on the panel's columns. -/
theorem panel_first : ∀ t : Fin cfg0.N,
    (grid0.coords (⟨9 * (t.val / 9), Pipeline.run_start_lt t⟩ : Fin cfg0.N) 0).val = (grid0.coords t 0).val := by decide +kernel

/-! ## The scratch -/

/-- What the scratch holds after a grid point. -/
def held (c : Dev nD) (n : ℕ) (h : n < cfg0.N) : Vec Ideal S1024x2048 .bf16 := (outsAt0 m c n h).2

theorem held_first (c : Dev nD) (t : Fin cfg0.N) (h0 : t.val % 9 = 0) :
    held m c t.val t.isLt = k0_pay1 (X0_1 m c t) := by
  unfold held
  rw [outsAt0_A m c t h0]
  frame_out

theorem held_next (c : Dev nD) (t : Fin cfg0.N) (h0 : ¬t.val % 9 = 0) :
    held m c t.val t.isLt = held m c (t.val - 1) (Nat.lt_of_le_of_lt (Nat.sub_le _ _) t.isLt) := by
  unfold held
  rw [outsAt0_B m c t h0]
  rfl

/-- A panel of the transposed weights, which no transfer cuts. -/
theorem panel_read (c : Dev nD) (t : Fin cfg0.N) (n : Fin 1024) (k : Fin 2048) :
    X0_1 m c t (ix2 n k)
      = wts m c (ix3 0 k ⟨1024 * (grid0.coords t 0).val + n.val, by have := lt12 t; have := n.isLt; omega⟩) := by
  have := lt12 t
  unfold X0_1
  unfold Pipeline.Window.fill
  rw [dif_pos (moved0_1 t _)]
  have e : ∀ x : ((cfg0.win 1).xblock (cfg0.grid.coords t)).Idx, (x 0).val = n.val → (x 1).val = k.val →
      iblk m c 1 t x = V m c main_v1 (ix2 ⟨1024 * (grid0.coords t 0).val + n.val, by omega⟩ k) := by
    intro x h0 h1
    blk_ext [iblk, idx1 t, h0, h1]
  refine (e _ rfl rfl).trans ?_
  entry_read
  rw [show ([hostOps0 (F := Ideal)].flatten) = hostOps0 from rfl]
  after_results
  pointwise

/-- At every grid point the scratch holds its panel's columns of the weights. -/
theorem held_read (c : Dev nD) (t : Fin cfg0.N) (n : Fin 1024) (k : Fin 2048) :
    held m c t.val t.isLt (ix2 n k)
      = wts m c (ix3 0 k ⟨1024 * (grid0.coords t 0).val + n.val, by have := lt12 t; have := n.isLt; omega⟩) := by
  rw [Pipeline.eq_of_write_hold (fun n h => held m c n h) 9 (fun t => k0_pay1 (X0_1 m c t)) (held_first m c) (held_next m c) t]
  unfold k0_pay1
  pointwise
  rw [panel_read]
  simp only [panel_first t]

theorem row_read (c : Dev nD) (t : Fin cfg0.N) (i : Fin 1024) (k : Fin 2048) :
    iblk m c 0 t (ix2 i k) = rows m c (ix2 ⟨1024 * (grid0.coords t 1).val + i.val, by have := lt9 t; have := i.isLt; omega⟩ k) := by
  have := lt9 t
  blk_ext [iblk, V, idx0 t]

/-- Every grid point stores the product of its rows and what the scratch holds. -/
theorem out_point (c : Dev nD) (t : Fin cfg0.N) :
    (outsAt0 m c t.val t.isLt).1 = k0_pay2 (iblk m c 0 t) (held m c t.val t.isLt) := by
  by_cases h0 : t.val % 9 = 0
  · rw [held_first m c t h0, outsAt0_A m c t h0]
    frame_out
  · rw [held_next m c t h0, outsAt0_B m c t h0]
    unfold held
    frame_out
    exact congrArg _ ((Memref.isWhole_whole _).read_unread _)

/-- An entry of a grid point's product is the reference's. -/
theorem entry (c : Dev nD) (t : Fin cfg0.N) (i n : Fin 1024) :
    k0_pay2 (iblk m c 0 t) (held m c t.val t.isLt) (ix2 i n)
      = val_main_v3 (F := Ideal) (rows m c) (wts m c)
          (ix2 ⟨1024 * (grid0.coords t 1).val + i.val, by have := lt9 t; have := i.isLt; omega⟩
            ⟨1024 * (grid0.coords t 0).val + n.val, by have := lt12 t; have := n.isLt; omega⟩) := by
  unfold k0_pay2
  pointwise
  simp only [row_read, held_read]
  unfold val_main_v3 val_main_v2 val_main_v1 val_main_v0
  pointwise

/-- The result after the run is the reference's product. -/
theorem product (c : Dev nD) :
    (dats m 0 c).arrAt 2 cfg0.N = val_main_v3 (F := Ideal) (rows m c) (wts m c) := by
  refine (dats m 0 c).arrAt_eq_of_covers 2 _ (by decide +kernel) fun t hf y => ?_
  blk_simp
  rw [after0_2, out_point]
  have h9 := lt9 t
  have h12 := lt12 t
  obtain ⟨i, n, rfl⟩ : ∃ i n : Fin 1024, y = ix2 i n := ⟨y 0, y 1, by funext a; fin_cases a <;> rfl⟩
  refine (entry m c t i n).trans ?_
  blk_ext [idx2 t]

/-- What the host lines after the call start from. -/
abbrev exitV (c : Dev nD) : Valuation τ sig (Elt Ideal) :=
  Pipeline.withArrays spec0 c (V0 m c) fun w => (dats m 0 c).arrAt w cfg0.N

theorem exit_read (c : Dev nD) :
    exitV m c (Proc.devRef .tc main_v2) = val_main_v3 (F := Ideal) (rows m c) (wts m c) :=
  (Pipeline.withArrays_arr spec0 (by decide) c (V0 m c) _ 2).trans (product m c)

/-- The rows in eights. -/
def eights (X : Vec Ideal S9216x12288 .f32) : Vec Ideal S1152x8x12288 .f32 := shapeCast _ X shapeCasts_S9216x12288_S1152x8x12288

/-- The host lines that cut the prompt's rows out of the product. -/
def cutP (X : Vec Ideal S9216x12288 .f32) : Vec Ideal S1x4x3x8192 .f32 :=
  broadcastInDim S1x4x3x8192 ![1, 2, 3] bcast_S4x3x8192_S1x4x3x8192_1_2_3 (concatenate S4x3x8192 0
    [⟨S1x3x8192, extractStridedSlice S1x3x8192 ![255, 5, 0] (eights X) slices_S1152x8x12288_S1x3x8192_255_5_0⟩,
     ⟨S1x3x8192, extractStridedSlice S1x3x8192 ![511, 5, 0] (eights X) slices_S1152x8x12288_S1x3x8192_511_5_0⟩,
     ⟨S1x3x8192, extractStridedSlice S1x3x8192 ![767, 5, 0] (eights X) slices_S1152x8x12288_S1x3x8192_767_5_0⟩,
     ⟨S1x3x8192, extractStridedSlice S1x3x8192 ![1023, 5, 0] (eights X) slices_S1152x8x12288_S1x3x8192_1023_5_0⟩]
    concatenates_S1x3x8192_S1x3x8192_S1x3x8192_S1x3x8192_S4x3x8192_d0)

/-- The host lines that cut the samples' rows out of the product. -/
def cutS (X : Vec Ideal S9216x12288 .f32) : Vec Ideal S1x128x3x8192 .f32 :=
  broadcastInDim S1x128x3x8192 ![1, 2, 3] bcast_S128x3x8192_S1x128x3x8192_1_2_3
    (extractStridedSlice S128x3x8192 ![1024, 5, 0] (eights X) slices_S1152x8x12288_S128x3x8192_1024_5_0)

/-- The last three rows of each prompt sequence, in the columns the convolution reads, are the reference's. -/
theorem cutP_eq (x : Vec Ideal S9216x2048 .bf16) (w : Vec Ideal S1x2048x12352 .f32) :
    cutP (val_main_v3 (F := Ideal) x w) = val_main_v10 (F := Ideal) x w := by
  funext y
  obtain ⟨s, i, n, rfl⟩ : ∃ (s : Fin 4) (i : Fin 3) (n : Fin 8192), y = ix4 0 s i n :=
    ⟨y 1, y 2, y 3, by funext a; fin_cases a <;> first | rfl | exact Subsingleton.elim (α := Fin 1) _ _⟩
  unfold cutP val_main_v10 val_main_v6 val_main_v5 val_main_v4 eights
  generalize val_main_v3 (F := Ideal) x w = X
  fin_cases s <;> pointwise <;> exact congrArg (fun r => X (ix2 r _)) (Fin.ext (by dsimp only; omega))

theorem cutS_eq (x : Vec Ideal S9216x2048 .bf16) (w : Vec Ideal S1x2048x12352 .f32) :
    cutS (val_main_v3 (F := Ideal) x w) = val_main_v11 (F := Ideal) x w := by
  funext y
  obtain ⟨s, i, n, rfl⟩ : ∃ (s : Fin 128) (i : Fin 3) (n : Fin 8192), y = ix4 0 s i n :=
    ⟨y 1, y 2, y 3, by funext a; fin_cases a <;> first | rfl | exact Subsingleton.elim (α := Fin 1) _ _⟩
  unfold cutS val_main_v11 val_main_v9 val_main_v8 val_main_v7 eights
  generalize val_main_v3 (F := Ideal) x w = X
  pointwise
  exact congrArg (fun r => X (ix2 r _)) (Fin.ext (by dsimp only; omega))

theorem conv_prompt (c : Dev nD) :
    Pipeline.afterTail₀ cfgs (dats m) 0 (V0 m) [hostOps1] c main_v10 = val_main_v10 (F := Ideal) (rows m c) (wts m c) := by
  rw [← cutP_eq, ← exit_read]
  unfold Pipeline.afterTail₀
  rw [show ([hostOps1 (F := Ideal)].flatten) = hostOps1 from rfl]
  after_results
  rfl

theorem conv_sample (c : Dev nD) :
    Pipeline.afterTail₀ cfgs (dats m) 0 (V0 m) [hostOps1] c main_v11 = val_main_v11 (F := Ideal) (rows m c) (wts m c) := by
  rw [← cutS_eq, ← exit_read]
  unfold Pipeline.afterTail₀
  rw [show ([hostOps1 (F := Ideal)].flatten) = hostOps1 from rfl]
  after_results
  rfl

/-- The run ends with the reference's product and its cuts in the results and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v2) = val_main_v3 (F := Ideal) (rows m c) (wts m c)
      ∧ r.2.mem ((c : Thread nD τ).loc main_v10) = val_main_v10 (F := Ideal) (rows m c) (wts m c)
      ∧ r.2.mem ((c : Thread nD τ).loc main_v11) = val_main_v11 (F := Ideal) (rows m c) (wts m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (product m c),
      ((h.1 c).2 main_v10 (by decide +kernel)).trans (conv_prompt m c),
      ((h.1 c).2 main_v11 (by decide +kernel)).trans (conv_sample m c), h.2 c⟩)
    (θ_run_and (run_main m ρ) (unchanged m ρ))

end Cert.GdnInProof

end
-- ==== Proof.RetOutEq.lean ====
/- The retention layer's output projection with the residual: a grid of 4 column panels by 18 row tiles, sixteen of them rows of the
   prompt group and two of the sample group. A panel of the weights is rounded into the scratch at its first row tile and held there.
   Over the extended reals the rounding is the identity, so an entry of the result is the sum over the 4096 features and the residual
   that the reference states. -/
module

public import proofs.«01_k».proof.Proof.Gen.RetOutIdeal.Frame
public import proofs.«01_k».proof.Proof.Gen.RetOutRefIdeal.Read
public import Idealize.ShloMosaic.Lib.Pipeline.ValueKit
public import Idealize.ShloMosaic.Lib.Pipeline.ValueKit.Held

@[expose] public section

set_option maxRecDepth 16384

noncomputable section

namespace Cert.RetOutProof

open Cert.RetOutIdeal Cert.RetOutIdeal.Gen Idealize.ShloMosaic Idealize.ShloMosaic.TcCoe Idealize.SL.Sem
open Cert.RetOutRefIdeal.Read

variable (m : (ℓ : Loc nD τ sig) → Buf (Elt Ideal) ℓ)

theorem idx0 : ∀ t : Fin cfg0.N, t.val % 18 ≤ 15 → win0_0.index t = ![(grid0.coords t 1).val, 0] := by decide +kernel
theorem idx1 : ∀ t : Fin cfg0.N, 16 ≤ t.val % 18 → win0_1.index t = ![(grid0.coords t 1).val - 16, 0] := by decide +kernel
theorem idx2 : ∀ t : Fin cfg0.N, win0_2.index t = ![0, 0, (grid0.coords t 0).val] := by decide +kernel
theorem idx3 : ∀ t : Fin cfg0.N, t.val % 18 ≤ 15 → win0_3.index t = ![(grid0.coords t 1).val, (grid0.coords t 0).val] := by
  decide +kernel
theorem idx4 : ∀ t : Fin cfg0.N, 16 ≤ t.val % 18 → win0_4.index t = ![(grid0.coords t 1).val - 16, (grid0.coords t 0).val] := by
  decide +kernel
theorem idx5 : ∀ t : Fin cfg0.N, win0_5.index t = ![(grid0.coords t 1).val, (grid0.coords t 0).val] := by decide +kernel

/-- The prompt group's heads. -/
abbrev headsP (c : Dev nD) : Vec Ideal S8192x4096 .bf16 := m ((c : Thread nD τ).loc main_arg0)
/-- The sample group's heads. -/
abbrev headsS (c : Dev nD) : Vec Ideal S1024x4096 .bf16 := m ((c : Thread nD τ).loc main_arg1)
/-- The weights. -/
abbrev wts (c : Dev nD) : Vec Ideal S1x4096x2048 .f32 := m ((c : Thread nD τ).loc main_arg2)
/-- The prompt group's residual. -/
abbrev resP (c : Dev nD) : Vec Ideal S4x2048x2048 .f32 := m ((c : Thread nD τ).loc main_arg3)
/-- The sample group's residual. -/
abbrev resS (c : Dev nD) : Vec Ideal S128x8x2048 .f32 := m ((c : Thread nD τ).loc main_arg4)

theorem lt4 (t : Fin cfg0.N) : (grid0.coords t 0).val < 4 := (grid0.coords t 0).isLt
theorem lt18 (t : Fin cfg0.N) : (grid0.coords t 1).val < 18 := (grid0.coords t 1).isLt

/-- The row tile of a grid point. -/
theorem row_tile : ∀ t : Fin cfg0.N, (grid0.coords t 1).val = t.val % 18 := by decide +kernel

/-- The first grid point of a panel works on the panel's columns. -/
theorem panel_first : ∀ t : Fin cfg0.N,
    (grid0.coords (⟨18 * (t.val / 18), Pipeline.run_start_lt t⟩ : Fin cfg0.N) 0).val = (grid0.coords t 0).val := by decide +kernel

/-! ## The scratch -/

/-- What the scratch holds after a grid point. -/
def held (c : Dev nD) (n : ℕ) (h : n < cfg0.N) : Vec Ideal S4096x512 .bf16 := (outsAt0 m c n h).2

theorem held_first (c : Dev nD) (t : Fin cfg0.N) (h0 : t.val % 18 = 0) :
    held m c t.val t.isLt = k0_pay1 (iblk m c 2 t) := by
  unfold held
  rw [outsAt0_A m c t h0 (by omega) (by omega)]
  frame_out

theorem held_next (c : Dev nD) (t : Fin cfg0.N) (h0 : ¬t.val % 18 = 0) :
    held m c t.val t.isLt = held m c (t.val - 1) (Nat.lt_of_le_of_lt (Nat.sub_le _ _) t.isLt) := by
  unfold held
  by_cases h1 : t.val % 18 ≤ 15
  · rw [outsAt0_B m c t h0 h1 (by omega)]
    rfl
  · rw [outsAt0_C m c t h0 h1 (by omega)]
    rfl

/-- At every grid point the scratch holds its panel's columns of the weights. -/
theorem held_read (c : Dev nD) (t : Fin cfg0.N) (k : Fin 4096) (n : Fin 512) :
    held m c t.val t.isLt (ix2 k n)
      = wts m c (ix3 0 k ⟨512 * (grid0.coords t 0).val + n.val, by have := lt4 t; have := n.isLt; omega⟩) := by
  rw [Pipeline.eq_of_write_hold (fun n h => held m c n h) 18 (fun t => k0_pay1 (iblk m c 2 t)) (held_first m c) (held_next m c) t]
  unfold k0_pay1
  pointwise
  have := lt4 t
  have e := panel_first t
  blk_ext [iblk, V, idx2 _, e]

/-! ## The operands of a grid point -/

theorem rowP_read (c : Dev nD) (t : Fin cfg0.N) (h : t.val % 18 ≤ 15) (i : Fin 512) (k : Fin 4096) :
    iblk m c 0 t (ix2 i k) = headsP m c (ix2 ⟨512 * (grid0.coords t 1).val + i.val, by have := row_tile t; omega⟩ k) := by
  have := row_tile t
  blk_ext [iblk, V, idx0 t h]

theorem rowS_read (c : Dev nD) (t : Fin cfg0.N) (h : 16 ≤ t.val % 18) (i : Fin 512) (k : Fin 4096) :
    iblk m c 1 t (ix2 i k)
      = headsS m c (ix2 ⟨512 * ((grid0.coords t 1).val - 16) + i.val, by have := row_tile t; omega⟩ k) := by
  have := row_tile t
  blk_ext [iblk, V, idx1 t h]

theorem resP_read (c : Dev nD) (t : Fin cfg0.N) (h : t.val % 18 ≤ 15) (i n : Fin 512) :
    iblk m c 3 t (ix2 i n)
      = val_main_v1 (F := Ideal) (resP m c) (ix2 ⟨512 * (grid0.coords t 1).val + i.val, by have := row_tile t; omega⟩
          ⟨512 * (grid0.coords t 0).val + n.val, by have := lt4 t; omega⟩) := by
  have := row_tile t
  have := lt4 t
  have e : iblk m c 3 t (ix2 i n) = V m c main_v0 (ix2 ⟨512 * (grid0.coords t 1).val + i.val, by omega⟩
      ⟨512 * (grid0.coords t 0).val + n.val, by omega⟩) := by blk_ext [iblk, idx3 t h]
  rw [e]
  rfl

theorem resS_read (c : Dev nD) (t : Fin cfg0.N) (h : 16 ≤ t.val % 18) (i n : Fin 512) :
    iblk m c 4 t (ix2 i n)
      = val_main_v5 (F := Ideal) (resS m c) (ix2 ⟨512 * ((grid0.coords t 1).val - 16) + i.val, by have := row_tile t; omega⟩
          ⟨512 * (grid0.coords t 0).val + n.val, by have := lt4 t; omega⟩) := by
  have := row_tile t
  have := lt4 t
  have e : iblk m c 4 t (ix2 i n) = V m c main_v1 (ix2 ⟨512 * ((grid0.coords t 1).val - 16) + i.val, by omega⟩
      ⟨512 * (grid0.coords t 0).val + n.val, by omega⟩) := by blk_ext [iblk, idx4 t h]
  rw [e]
  rfl

/-! ## The points -/

/-- A grid point of the prompt group stores its product with its residual. -/
theorem outP (c : Dev nD) (t : Fin cfg0.N) (h : t.val % 18 ≤ 15) :
    (outsAt0 m c t.val t.isLt).1 = k0_pay2 (iblk m c 0 t) (held m c t.val t.isLt) (iblk m c 3 t) := by
  by_cases h0 : t.val % 18 = 0
  · rw [held_first m c t h0, outsAt0_A m c t h0 h (by omega)]
    frame_out
  · rw [held_next m c t h0, outsAt0_B m c t h0 h (by omega)]
    unfold held
    frame_out
    exact congrArg (fun w => k0_pay2 (iblk m c 0 t) w (iblk m c 3 t)) ((Memref.isWhole_whole _).read_unread _)

/-- A grid point of the sample group stores its product with its residual. -/
theorem outS (c : Dev nD) (t : Fin cfg0.N) (h : 16 ≤ t.val % 18) :
    (outsAt0 m c t.val t.isLt).1 = k0_pay3 (iblk m c 1 t) (held m c t.val t.isLt) (iblk m c 4 t) := by
  rw [held_next m c t (by omega), outsAt0_C m c t (by omega) (by omega) h]
  unfold held
  frame_out
  exact congrArg (fun w => k0_pay3 (iblk m c 1 t) w (iblk m c 4 t)) ((Memref.isWhole_whole _).read_unread _)

theorem entryP (c : Dev nD) (t : Fin cfg0.N) (h : t.val % 18 ≤ 15) (i n : Fin 512) :
    k0_pay2 (iblk m c 0 t) (held m c t.val t.isLt) (iblk m c 3 t) (ix2 i n)
      = val_main_v9 (F := Ideal) (headsP m c) (headsS m c) (wts m c) (resP m c) (resS m c)
          (ix2 ⟨512 * (grid0.coords t 1).val + i.val, by have := lt18 t; omega⟩
            ⟨512 * (grid0.coords t 0).val + n.val, by have := lt4 t; omega⟩) := by
  have := row_tile t
  unfold k0_pay2
  pointwise
  simp only [rowP_read m c t h, resP_read m c t h, held_read]
  unfold val_main_v9 val_main_v4 val_main_v3 val_main_v2 val_main_v0
  pointwise
  rw [dif_pos (by omega), add_comm]

theorem entryS (c : Dev nD) (t : Fin cfg0.N) (h : 16 ≤ t.val % 18) (i n : Fin 512) :
    k0_pay3 (iblk m c 1 t) (held m c t.val t.isLt) (iblk m c 4 t) (ix2 i n)
      = val_main_v9 (F := Ideal) (headsP m c) (headsS m c) (wts m c) (resP m c) (resS m c)
          (ix2 ⟨512 * (grid0.coords t 1).val + i.val, by have := lt18 t; omega⟩
            ⟨512 * (grid0.coords t 0).val + n.val, by have := lt4 t; omega⟩) := by
  have := row_tile t
  unfold k0_pay3
  pointwise
  simp only [rowS_read m c t h, resS_read m c t h, held_read]
  unfold val_main_v9 val_main_v8 val_main_v7 val_main_v6 val_main_v0
  pointwise
  have e : 512 * ((grid0.coords t 1).val - 16) + i.val = 512 * (grid0.coords t 1).val + i.val - 8192 := by omega
  rw [dif_neg (by omega), add_comm]
  simp only [e]

/-- The result after the run is the reference's. -/
theorem product (c : Dev nD) :
    (dats m 0 c).arrAt 5 cfg0.N
      = val_main_v9 (F := Ideal) (headsP m c) (headsS m c) (wts m c) (resP m c) (resS m c) := by
  refine (dats m 0 c).arrAt_eq_of_covers 5 _ (by decide +kernel) fun t hf y => ?_
  blk_simp
  rw [after0_5]
  have h18 := lt18 t
  have h4 := lt4 t
  obtain ⟨i, n, rfl⟩ : ∃ i n : Fin 512, y = ix2 i n := ⟨y 0, y 1, by funext a; fin_cases a <;> rfl⟩
  by_cases h : t.val % 18 ≤ 15
  · rw [outP m c t h]
    refine (entryP m c t h i n).trans ?_
    blk_ext [idx5 t]
  · rw [outS m c t (by omega)]
    refine (entryS m c t (by omega) i n).trans ?_
    blk_ext [idx5 t]

/-- The run ends with the reference's result and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v2)
          = val_main_v9 (F := Ideal) (headsP m c) (headsS m c) (wts m c) (resP m c) (resS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (product m c), h.2 c⟩)
    (θ_run_and (run_main m ρ) (unchanged m ρ))

end Cert.RetOutProof

end
-- ==== Proof.GdnOutEq.lean ====
/- The gated-delta layer's output projection with the residual: a grid of 4 column panels by 18 row tiles, sixteen of them rows of the
   prompt group and two of the sample group. A panel of the weights is rounded into the scratch at its first row tile and held there.
   Over the extended reals the rounding is the identity, so an entry of the result is the sum over the 4096 features and the residual
   that the reference states. -/
module

public import proofs.«01_k».proof.Proof.Gen.GdnOutIdeal.Frame
public import proofs.«01_k».proof.Proof.Gen.GdnOutRefIdeal.Read
public import Idealize.ShloMosaic.Lib.Pipeline.ValueKit
public import Idealize.ShloMosaic.Lib.Pipeline.ValueKit.Held

@[expose] public section

set_option maxRecDepth 16384

noncomputable section

namespace Cert.GdnOutProof

open Cert.GdnOutIdeal Cert.GdnOutIdeal.Gen Idealize.ShloMosaic Idealize.ShloMosaic.TcCoe Idealize.SL.Sem
open Cert.GdnOutRefIdeal.Read

variable (m : (ℓ : Loc nD τ sig) → Buf (Elt Ideal) ℓ)

theorem idx0 : ∀ t : Fin cfg0.N, t.val % 18 ≤ 15 → win0_0.index t = ![(grid0.coords t 1).val, 0] := by decide +kernel
theorem idx1 : ∀ t : Fin cfg0.N, 16 ≤ t.val % 18 → win0_1.index t = ![(grid0.coords t 1).val - 16, 0] := by decide +kernel
theorem idx2 : ∀ t : Fin cfg0.N, win0_2.index t = ![0, 0, (grid0.coords t 0).val] := by decide +kernel
theorem idx3 : ∀ t : Fin cfg0.N, t.val % 18 ≤ 15 → win0_3.index t = ![(grid0.coords t 1).val, (grid0.coords t 0).val] := by
  decide +kernel
theorem idx4 : ∀ t : Fin cfg0.N, 16 ≤ t.val % 18 → win0_4.index t = ![(grid0.coords t 1).val, (grid0.coords t 0).val] := by
  decide +kernel
theorem idx5 : ∀ t : Fin cfg0.N, win0_5.index t = ![(grid0.coords t 1).val, (grid0.coords t 0).val] := by decide +kernel

/-- The prompt group's heads. -/
abbrev headsP (c : Dev nD) : Vec Ideal S8192x4096 .bf16 := m ((c : Thread nD τ).loc main_arg0)
/-- The sample group's heads. -/
abbrev headsS (c : Dev nD) : Vec Ideal S1024x4096 .bf16 := m ((c : Thread nD τ).loc main_arg1)
/-- The weights. -/
abbrev wts (c : Dev nD) : Vec Ideal S1x4096x2048 .f32 := m ((c : Thread nD τ).loc main_arg2)
/-- The residual, the rows of the prompt group before those of the sample group. -/
abbrev res (c : Dev nD) : Vec Ideal S9216x2048 .f32 := m ((c : Thread nD τ).loc main_arg3)

theorem lt4 (t : Fin cfg0.N) : (grid0.coords t 0).val < 4 := (grid0.coords t 0).isLt
theorem lt18 (t : Fin cfg0.N) : (grid0.coords t 1).val < 18 := (grid0.coords t 1).isLt

/-- The row tile of a grid point. -/
theorem row_tile : ∀ t : Fin cfg0.N, (grid0.coords t 1).val = t.val % 18 := by decide +kernel

/-- The first grid point of a panel works on the panel's columns. -/
theorem panel_first : ∀ t : Fin cfg0.N,
    (grid0.coords (⟨18 * (t.val / 18), Pipeline.run_start_lt t⟩ : Fin cfg0.N) 0).val = (grid0.coords t 0).val := by decide +kernel

/-! ## The scratch -/

/-- What the scratch holds after a grid point. -/
def held (c : Dev nD) (n : ℕ) (h : n < cfg0.N) : Vec Ideal S4096x512 .bf16 := (outsAt0 m c n h).2

theorem held_first (c : Dev nD) (t : Fin cfg0.N) (h0 : t.val % 18 = 0) :
    held m c t.val t.isLt = k0_pay1 (iblk m c 2 t) := by
  unfold held
  rw [outsAt0_A m c t h0 (by omega) (by omega)]
  frame_out

theorem held_next (c : Dev nD) (t : Fin cfg0.N) (h0 : ¬t.val % 18 = 0) :
    held m c t.val t.isLt = held m c (t.val - 1) (Nat.lt_of_le_of_lt (Nat.sub_le _ _) t.isLt) := by
  unfold held
  by_cases h1 : t.val % 18 ≤ 15
  · rw [outsAt0_B m c t h0 h1 (by omega)]
    rfl
  · rw [outsAt0_C m c t h0 h1 (by omega)]
    rfl

/-- At every grid point the scratch holds its panel's columns of the weights. -/
theorem held_read (c : Dev nD) (t : Fin cfg0.N) (k : Fin 4096) (n : Fin 512) :
    held m c t.val t.isLt (ix2 k n)
      = wts m c (ix3 0 k ⟨512 * (grid0.coords t 0).val + n.val, by have := lt4 t; have := n.isLt; omega⟩) := by
  rw [Pipeline.eq_of_write_hold (fun n h => held m c n h) 18 (fun t => k0_pay1 (iblk m c 2 t)) (held_first m c) (held_next m c) t]
  unfold k0_pay1
  pointwise
  have := lt4 t
  have e := panel_first t
  blk_ext [iblk, V, idx2 _, e]

/-! ## The operands of a grid point -/

theorem rowP_read (c : Dev nD) (t : Fin cfg0.N) (h : t.val % 18 ≤ 15) (i : Fin 512) (k : Fin 4096) :
    iblk m c 0 t (ix2 i k) = headsP m c (ix2 ⟨512 * (grid0.coords t 1).val + i.val, by have := row_tile t; omega⟩ k) := by
  have := row_tile t
  blk_ext [iblk, V, idx0 t h]

theorem rowS_read (c : Dev nD) (t : Fin cfg0.N) (h : 16 ≤ t.val % 18) (i : Fin 512) (k : Fin 4096) :
    iblk m c 1 t (ix2 i k)
      = headsS m c (ix2 ⟨512 * ((grid0.coords t 1).val - 16) + i.val, by have := row_tile t; omega⟩ k) := by
  have := row_tile t
  blk_ext [iblk, V, idx1 t h]

theorem resP_read (c : Dev nD) (t : Fin cfg0.N) (h : t.val % 18 ≤ 15) (i n : Fin 512) :
    iblk m c 3 t (ix2 i n)
      = val_main_v1 (F := Ideal) (res m c) (ix2 ⟨512 * (grid0.coords t 1).val + i.val, by have := row_tile t; omega⟩
          ⟨512 * (grid0.coords t 0).val + n.val, by have := lt4 t; omega⟩) := by
  have := row_tile t
  have := lt4 t
  unfold val_main_v1
  pointwise
  blk_ext [iblk, V, idx3 t h]

theorem resS_read (c : Dev nD) (t : Fin cfg0.N) (h : 16 ≤ t.val % 18) (i n : Fin 512) :
    iblk m c 4 t (ix2 i n)
      = val_main_v5 (F := Ideal) (res m c) (ix2 ⟨512 * ((grid0.coords t 1).val - 16) + i.val, by have := row_tile t; omega⟩
          ⟨512 * (grid0.coords t 0).val + n.val, by have := lt4 t; omega⟩) := by
  have := row_tile t
  have := lt4 t
  unfold val_main_v5
  pointwise
  blk_ext [iblk, V, idx4 t h]

/-! ## The points -/

/-- A grid point of the prompt group stores its product with its residual. -/
theorem outP (c : Dev nD) (t : Fin cfg0.N) (h : t.val % 18 ≤ 15) :
    (outsAt0 m c t.val t.isLt).1 = k0_pay2 (iblk m c 0 t) (held m c t.val t.isLt) (iblk m c 3 t) := by
  by_cases h0 : t.val % 18 = 0
  · rw [held_first m c t h0, outsAt0_A m c t h0 h (by omega)]
    frame_out
  · rw [held_next m c t h0, outsAt0_B m c t h0 h (by omega)]
    unfold held
    frame_out
    exact congrArg (fun w => k0_pay2 (iblk m c 0 t) w (iblk m c 3 t)) ((Memref.isWhole_whole _).read_unread _)

/-- A grid point of the sample group stores its product with its residual. -/
theorem outS (c : Dev nD) (t : Fin cfg0.N) (h : 16 ≤ t.val % 18) :
    (outsAt0 m c t.val t.isLt).1 = k0_pay3 (iblk m c 1 t) (held m c t.val t.isLt) (iblk m c 4 t) := by
  rw [held_next m c t (by omega), outsAt0_C m c t (by omega) (by omega) h]
  unfold held
  frame_out
  exact congrArg (fun w => k0_pay3 (iblk m c 1 t) w (iblk m c 4 t)) ((Memref.isWhole_whole _).read_unread _)

theorem entryP (c : Dev nD) (t : Fin cfg0.N) (h : t.val % 18 ≤ 15) (i n : Fin 512) :
    k0_pay2 (iblk m c 0 t) (held m c t.val t.isLt) (iblk m c 3 t) (ix2 i n)
      = val_main_v9 (F := Ideal) (headsP m c) (headsS m c) (wts m c) (res m c)
          (ix2 ⟨512 * (grid0.coords t 1).val + i.val, by have := lt18 t; omega⟩
            ⟨512 * (grid0.coords t 0).val + n.val, by have := lt4 t; omega⟩) := by
  have := row_tile t
  unfold k0_pay2
  pointwise
  simp only [rowP_read m c t h, resP_read m c t h, held_read]
  unfold val_main_v9 val_main_v4 val_main_v3 val_main_v2 val_main_v0
  pointwise
  rw [dif_pos (by omega), add_comm]

theorem entryS (c : Dev nD) (t : Fin cfg0.N) (h : 16 ≤ t.val % 18) (i n : Fin 512) :
    k0_pay3 (iblk m c 1 t) (held m c t.val t.isLt) (iblk m c 4 t) (ix2 i n)
      = val_main_v9 (F := Ideal) (headsP m c) (headsS m c) (wts m c) (res m c)
          (ix2 ⟨512 * (grid0.coords t 1).val + i.val, by have := lt18 t; omega⟩
            ⟨512 * (grid0.coords t 0).val + n.val, by have := lt4 t; omega⟩) := by
  have := row_tile t
  unfold k0_pay3
  pointwise
  simp only [rowS_read m c t h, resS_read m c t h, held_read]
  unfold val_main_v9 val_main_v8 val_main_v7 val_main_v6 val_main_v0
  pointwise
  have e : 512 * ((grid0.coords t 1).val - 16) + i.val = 512 * (grid0.coords t 1).val + i.val - 8192 := by omega
  rw [dif_neg (by omega), add_comm]
  simp only [e]

/-- The result after the run is the reference's. -/
theorem product (c : Dev nD) :
    (dats m 0 c).arrAt 5 cfg0.N
      = val_main_v9 (F := Ideal) (headsP m c) (headsS m c) (wts m c) (res m c) := by
  refine (dats m 0 c).arrAt_eq_of_covers 5 _ (by decide +kernel) fun t hf y => ?_
  blk_simp
  rw [after0_5]
  have h18 := lt18 t
  have h4 := lt4 t
  obtain ⟨i, n, rfl⟩ : ∃ i n : Fin 512, y = ix2 i n := ⟨y 0, y 1, by funext a; fin_cases a <;> rfl⟩
  by_cases h : t.val % 18 ≤ 15
  · rw [outP m c t h]
    refine (entryP m c t h i n).trans ?_
    blk_ext [idx5 t]
  · rw [outS m c t (by omega)]
    refine (entryS m c t (by omega) i n).trans ?_
    blk_ext [idx5 t]

/-- The run ends with the reference's result and the arguments as they were. -/
theorem run (ρ : Dev nD → PrngReg) :
    θ_run defs (onTc (τ := τ) (main (F := Ideal))) ⟨m, fun _ => 0, ρ⟩ fun r => ∀ c : Dev nD,
      r.2.mem ((c : Thread nD τ).loc main_v0)
          = val_main_v9 (F := Ideal) (headsP m c) (headsS m c) (wts m c) (res m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 5).trans (product m c), h.2 c⟩)
    (θ_run_and (run_main m ρ) (unchanged m ρ))

end Cert.GdnOutProof

end
-- ==== Proof.PromptBlock.lean ====
/- What one block of the prompt retention computes, stated uniformly in the chunk: a block is one sequence of 2048 tokens at one
   head, and the body treats its sixteen chunks of 128 tokens one after another with the same operations, handing the state on.
   Here each chunk's share is one function of its rows and the incoming state, and the printed payloads are shown to be that
   function. -/
module

public import proofs.«01_k».proof.Proof.Gen.RetPromptIdeal.Frame
public import Idealize.ShloMosaic.Lib.Pipeline.ValueKit

@[expose] public section

set_option maxRecDepth 16384

noncomputable section

namespace Cert.RetPromptProof

open Cert.RetPromptIdeal Cert.RetPromptIdeal.Gen Idealize.ShloMosaic Idealize.ShloMosaic.TcCoe Idealize.SL.Sem

variable {F : FTy → Type} [FloatOps F]

/-! ## The operations on one chunk -/

/-- The rotary embedding of a chunk's rows. -/
def rotBlk (co si : Vec F S128x128 .f32) (q : Vec F S128x256 .f32) : FVec F S128x256 .f32 :=
  let a := extractStridedSlice S128x128 ![0, 0] q slices_S128x256_o0_0_S128x128
  let b := extractStridedSlice S128x128 ![0, 128] q slices_S128x256_o0_128_S128x128
  let c := shapeCast S128x128 co shapeCasts_S128x128_S128x128
  let s := shapeCast S128x128 si shapeCasts_S128x128_S128x128
  concatenate S128x256 1 [⟨S128x128, subf (mulf a c) (mulf b s)⟩, ⟨S128x128, addf (mulf a s) (mulf b c)⟩]
    concatenates_S128x128_S128x128_S128x256_d1

/-- The keys of a chunk: rotated and scaled by 1/16. -/
def keyBlk (co si : Vec F S128x128 .f32) (k : Vec F S128x256 .f32) : FVec F S128x256 .f32 :=
  mulf (rotBlk co si k) (broadcast S128x256 (Scalar.ofBits .f32 0x3D800000#32))

/-- The retention output of a chunk before the norm: the decayed scores against the values, plus the queries against the
    state the chunks before left. -/
def mixBlk (dec : FVec F S128x128 .f32) (qd : FVec F S128x1 .f32) (S : FVec F S256x512 .f32) (q k : FVec F S128x256 .f32)
    (v : Vec F S128x512 .f32) : FVec F S128x512 .f32 :=
  addf
    (matmul dot_S128x128_S128x512_S128x512_1_0_0_1_n_n none
      (truncf .bf16 (mulf (matmul dot_S128x256_S128x256_S128x128_1_1_0_0_n_n none (truncf .bf16 q bitsLt_bf16_f32)
        (truncf .bf16 k bitsLt_bf16_f32) (constant S128x128 .f32 0x00000000#32)) dec) bitsLt_bf16_f32)
      (truncf .bf16 v bitsLt_bf16_f32) (constant S128x512 .f32 0x00000000#32))
    (mulf (matmul dot_S128x256_S256x512_S128x512_1_0_0_1_n_n none (truncf .bf16 q bitsLt_bf16_f32)
        (truncf .bf16 S bitsLt_bf16_f32) (constant S128x512 .f32 0x00000000#32))
      (broadcastTo S128x512 qd broadcasts_S128x1_S128x512))

/-- The group norm of a chunk's output and the gate. -/
def normBlk (gn : FVec F S1x512 .f32) (o : FVec F S128x512 .f32) (g : Vec F S128x512 .f32) : FVec F S128x512 .bf16 :=
  k0_pay18 gn o (multiReduction .add [1] S128 o 0x00000000#32 reduces_S128x512_S128 (.inl rfl) rfl) g

/-- The state after a chunk. -/
def stateBlk (kd : FVec F S128x1 .f32) (cd : FVec F S1x1 .f32) (S : FVec F S256x512 .f32) (k : FVec F S128x256 .f32)
    (v : Vec F S128x512 .f32) : FVec F S256x512 .f32 :=
  addf (mulf S (broadcastTo S256x512 cd broadcasts_S1x1_S256x512))
    (matmul dot_S128x256_S128x512_S256x512_0_0_1_1_n_n none
      (truncf .bf16 (mulf k (broadcastTo S128x256 kd broadcasts_S128x1_S128x256)) bitsLt_bf16_f32)
      (truncf .bf16 v bitsLt_bf16_f32) (constant S256x512 .f32 0x00000000#32))

/-! ## The rows of chunk `s` in a block's operands -/

theorem rows_inb (n : Nat) (s : Fin 16) :
    ∀ a, (![128 * s.val, 0] : Fin 2 → Nat) a + (![128, n] : Fin 2 → Nat) a ≤ (![2048, n] : Fin 2 → Nat) a := by
  intro a; have := s.isLt; fin_cases a <;> simp <;> omega

def rows256 (X : Vec F S2048x256 .f32) (s : Fin 16) : Vec F S128x256 .f32 :=
  View.ld X (Rect.unit (s := S2048x256) ![128 * s.val, 0] ![128, 256] (rows_inb 256 s))

def rows512 (X : Vec F S2048x512 .f32) (s : Fin 16) : Vec F S128x512 .f32 :=
  View.ld X (Rect.unit (s := S2048x512) ![128 * s.val, 0] ![128, 512] (rows_inb 512 s))

def rows128 (X : Vec F S2048x128 .f32) (s : Fin 16) : Vec F S128x128 .f32 :=
  View.ld X (Rect.unit (s := S2048x128) ![128 * s.val, 0] ![128, 128] (rows_inb 128 s))

/-- The state after the first `n` chunks, from the block's operands. -/
def stateAfter (lg : Elt F .f32) (k : Vec F S2048x256 .f32) (v : Vec F S2048x512 .f32) (co si : Vec F S2048x128 .f32) :
    ℕ → FVec F S256x512 .f32
  | 0 => k0_pay10 k0_pay3
  | n + 1 => stateBlk (k0_pay7 lg) (k0_pay8 lg) (stateAfter lg k v co si n)
      (keyBlk (rows128 co (Fin.ofNat 16 n)) (rows128 si (Fin.ofNat 16 n)) (rows256 k (Fin.ofNat 16 n))) (rows512 v (Fin.ofNat 16 n))

/-- The output of chunk `s` before the norm. -/
def chunkMix (lg : Elt F .f32) (q k : Vec F S2048x256 .f32) (v : Vec F S2048x512 .f32) (co si : Vec F S2048x128 .f32)
    (s : Fin 16) : FVec F S128x512 .f32 :=
  mixBlk (k0_pay5 lg) (k0_pay6 lg) (stateAfter lg k v co si s.val) (rotBlk (rows128 co s) (rows128 si s) (rows256 q s))
    (keyBlk (rows128 co s) (rows128 si s) (rows256 k s)) (rows512 v s)

/-- The output of chunk `s`. -/
def chunkOut (lg : Elt F .f32) (gn : Vec F S1x1x512 .f32) (q k : Vec F S2048x256 .f32) (v g : Vec F S2048x512 .f32)
    (co si : Vec F S2048x128 .f32) (s : Fin 16) : FVec F S128x512 .bf16 :=
  normBlk (k0_pay9 gn) (chunkMix lg q k v co si s) (rows512 g s)

/-! ## The arrays after the run -/

variable (m : (ℓ : Loc nD τ sig) → Buf (Elt F) ℓ)

/-- The logarithm of the decay of the head that grid point `t` works on. -/
def lgAt (c : Dev nD) (t : Fin cfg0.N) : Elt F .f32 :=
  View.ld (iblk m c 0 t) (Rect.unit (s := S8) (k0_off1 (grid0.coords t)) S1.size (k0_off1_inb (grid0.coords t)))
    (Shape.Idx.first (show 0 < S1.numel by decide))

/-- The final states after the run are `G`, if at each grid point the state the sixteen chunks leave is `G` there. -/
theorem state_array (c : Dev nD) (G : Vec F S4x8x256x512 .f32)
    (hG : ∀ (t : Fin cfg0.N) (y : S1x1x256x512.Idx),
      k0_pay2 (stateAfter (lgAt m c t) (X0_2 m c t) (X0_3 m c t) (iblk m c 5 t) (iblk m c 6 t) 16) y
        = G (((cfg0.win 9).blk t).view.emb y)) :
    (dats m 0 c).arrAt 9 cfg0.N = G := by
  refine (dats m 0 c).arrAt_eq_of_covers 9 _ (by decide +kernel) fun t hf y => ?_
  blk_simp
  rw [after0_9]
  unfold outsAt0
  frame_out
  exact hG t y

set_option maxHeartbeats 8000000 in
/-- The outputs after the run are `G`, if at each grid point the output of each chunk is `G` there. -/
theorem out_array (c : Dev nD) (G : Vec F S8192x4096 .bf16)
    (hG : ∀ (t : Fin cfg0.N) (s : Fin 16) (y : S128x512.Idx) (z : S2048x512.Idx),
      (z 0).val = 128 * s.val + (y 0).val → (z 1).val = (y 1).val →
      chunkOut (lgAt m c t) (iblk m c 7 t) (X0_1 m c t) (X0_2 m c t) (X0_3 m c t) (X0_4 m c t) (iblk m c 5 t)
        (iblk m c 6 t) s y = G (((cfg0.win 8).blk t).view.emb z)) :
    (dats m 0 c).arrAt 8 cfg0.N = G := by
  refine (dats m 0 c).arrAt_eq_of_covers 8 _ (by decide +kernel) fun t hf y => ?_
  blk_simp
  rw [after0_8]
  unfold outsAt0
  frame_out
  canon_tiles y h
  · exact hG t 15 _ _ h0 h1
  · exact hG t 14 _ _ h0 h1
  · exact hG t 13 _ _ h0 h1
  · exact hG t 12 _ _ h0 h1
  · exact hG t 11 _ _ h0 h1
  · exact hG t 10 _ _ h0 h1
  · exact hG t 9 _ _ h0 h1
  · exact hG t 8 _ _ h0 h1
  · exact hG t 7 _ _ h0 h1
  · exact hG t 6 _ _ h0 h1
  · exact hG t 5 _ _ h0 h1
  · exact hG t 4 _ _ h0 h1
  · exact hG t 3 _ _ h0 h1
  · exact hG t 2 _ _ h0 h1
  · exact hG t 1 _ _ h0 h1
  · exact hG t 0 _ _ (h0.trans (Nat.zero_add _).symm) h1

end Cert.RetPromptProof

end
-- ==== Proof.PromptRead.lean ====
/- The operands of a grid point of the prompt retention, read at an index: which elements of the arguments a block holds. -/
module

public import proofs.«01_k».proof.Proof.PromptBlock
public import proofs.«01_k».proof.Proof.Gen.RetPromptRefIdeal.Read

@[expose] public section

set_option maxRecDepth 16384

noncomputable section

namespace Cert.RetPromptProof

open Cert.RetPromptIdeal Cert.RetPromptIdeal.Gen Idealize.ShloMosaic Idealize.ShloMosaic.TcCoe Idealize.SL.Sem
open Cert.RetPromptRefIdeal.Read

variable (m : (ℓ : Loc nD τ sig) → Buf (Elt Ideal) ℓ)

theorem idx0 : ∀ t : Fin cfg0.N, win0_0.index t = ![0] := by decide +kernel
theorem idx1 : ∀ t : Fin cfg0.N, win0_1.index t = ![(grid0.coords t 0).val, (grid0.coords t 1).val] := by decide +kernel
theorem idx2 : ∀ t : Fin cfg0.N, win0_2.index t = ![(grid0.coords t 0).val, 8 + (grid0.coords t 1).val] := by decide +kernel
theorem idx3 : ∀ t : Fin cfg0.N, win0_3.index t = ![(grid0.coords t 0).val, 8 + (grid0.coords t 1).val] := by decide +kernel
theorem idx4 : ∀ t : Fin cfg0.N, win0_4.index t = ![(grid0.coords t 0).val, 16 + (grid0.coords t 1).val] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![(grid0.coords t 1).val, 0, 0] := by decide +kernel
theorem idx8 : ∀ t : Fin cfg0.N, win0_8.index t = ![(grid0.coords t 0).val, (grid0.coords t 1).val] := by decide +kernel
theorem idx9 : ∀ t : Fin cfg0.N, win0_9.index t = ![(grid0.coords t 0).val, (grid0.coords t 1).val, 0, 0] := by decide +kernel

/-- The first argument, the projected queries, keys, values and gates. -/
abbrev proj (c : Dev nD) : Vec Ideal S9216x12288 .f32 := m ((c : Thread nD τ).loc main_arg0)
/-- The second argument, the weights of the group norm. -/
abbrev gnw (c : Dev nD) : Vec Ideal S1x8x512 .f32 := m ((c : Thread nD τ).loc main_arg1)

theorem lt4 (t : Fin cfg0.N) : (grid0.coords t 0).val < 4 := (grid0.coords t 0).isLt
theorem lt8 (t : Fin cfg0.N) : (grid0.coords t 1).val < 8 := (grid0.coords t 1).isLt

/-- The sequence grid point `t` works on. -/
def sq (t : Fin cfg0.N) : Fin 4 := ⟨(grid0.coords t 0).val, lt4 t⟩
/-- The head grid point `t` works on. -/
def hd (t : Fin cfg0.N) : Fin 8 := ⟨(grid0.coords t 1).val, lt8 t⟩
/-- The position of row `i` of chunk `s`. -/
def ps (s : Fin 16) (i : Fin 128) : Fin 2048 := ⟨128 * s.val + i.val, by omega⟩

/-! ## The rows of a chunk -/

section Rows
variable {F : FTy → Type} [FloatOps F]

theorem rows256_apply (X : Vec F S2048x256 .f32) (s : Fin 16) (i : Fin 128) (d : Fin 256) :
    rows256 X s (ix2 i d) = X (ix2 (ps s i) d) := by
  unfold rows256 ps
  pointwise

theorem rows512_apply (X : Vec F S2048x512 .f32) (s : Fin 16) (i : Fin 128) (d : Fin 512) :
    rows512 X s (ix2 i d) = X (ix2 (ps s i) d) := by
  unfold rows512 ps
  pointwise

theorem rows128_apply (X : Vec F S2048x128 .f32) (s : Fin 16) (i : Fin 128) (d : Fin 128) :
    rows128 X s (ix2 i d) = X (ix2 (ps s i) d) := by
  unfold rows128 ps
  pointwise

end Rows

/-! ## The blocks -/

theorem off1 : ∀ t : Fin cfg0.N, k0_off1 (grid0.coords t) 0 = (grid0.coords t 1).val := by decide +kernel

theorem lg_read (c : Dev nD) (t : Fin cfg0.N) : lgAt m c t = val_main_v76 (F := Ideal) (ix1 (hd t)) := by
  have := lt8 t
  have e : lgAt m c t = iblk m c 0 t (ix1 (hd t)) := by
    unfold lgAt
    pointwise
    blk_ext [off1 t, hd]
  rw [e]
  have e2 : iblk m c 0 t (ix1 (hd t)) = V m c main_v31 (ix1 (hd t)) := by
    blk_ext [iblk, idx0 t, hd]
  rw [e2]
  unfold val_main_v76 val_main_v75 val_main_v74 val_main_v73 val_main_v72 val_main_v71 val_main_v70 val_main_v69
    val_main_cst_5 val_main_cst_4
  entry_read
  pointwise

theorem q_read (c : Dev nD) (t : Fin cfg0.N) (r : Fin 2048) (d : Fin 256) :
    X0_1 m c t (ix2 r d)
      = proj m c (ix2 ⟨(sq t).val * 2048 + r.val, by have := (sq t).isLt; omega⟩
          ⟨(hd t).val * 256 + d.val, by have := (hd t).isLt; omega⟩) := by
  have := lt4 t
  have := lt8 t
  unfold X0_1
  unfold Pipeline.Window.fill
  rw [dif_pos (moved0_1 t _)]
  have e : ∀ x : ((cfg0.win 1).xblock (cfg0.grid.coords t)).Idx, (x 0).val = r.val → (x 1).val = d.val →
      iblk m c 1 t x = proj m c (ix2 ⟨(sq t).val * 2048 + r.val, by have := (sq t).isLt; omega⟩
          ⟨(hd t).val * 256 + d.val, by have := (hd t).isLt; omega⟩) := by
    intro x h0 h1
    blk_ext [iblk, V, idx1 t, proj, sq, hd, h0, h1]
  exact e _ rfl rfl

theorem k_read (c : Dev nD) (t : Fin cfg0.N) (r : Fin 2048) (d : Fin 256) :
    X0_2 m c t (ix2 r d)
      = proj m c (ix2 ⟨(sq t).val * 2048 + r.val, by have := (sq t).isLt; omega⟩
          ⟨2048 + ((hd t).val * 256 + d.val), by have := (hd t).isLt; omega⟩) := by
  have := lt4 t
  have := lt8 t
  unfold X0_2
  unfold Pipeline.Window.fill
  rw [dif_pos (moved0_2 t _)]
  have e : ∀ x : ((cfg0.win 2).xblock (cfg0.grid.coords t)).Idx, (x 0).val = r.val → (x 1).val = d.val →
      iblk m c 2 t x = proj m c (ix2 ⟨(sq t).val * 2048 + r.val, by have := (sq t).isLt; omega⟩
          ⟨2048 + ((hd t).val * 256 + d.val), by have := (hd t).isLt; omega⟩) := by
    intro x h0 h1
    blk_ext [iblk, V, idx2 t, proj, sq, hd, h0, h1]
  exact e _ rfl rfl

theorem v_read (c : Dev nD) (t : Fin cfg0.N) (r : Fin 2048) (d : Fin 512) :
    X0_3 m c t (ix2 r d)
      = proj m c (ix2 ⟨(sq t).val * 2048 + r.val, by have := (sq t).isLt; omega⟩
          ⟨4096 + ((hd t).val * 512 + d.val), by have := (hd t).isLt; omega⟩) := by
  have := lt4 t
  have := lt8 t
  unfold X0_3
  unfold Pipeline.Window.fill
  rw [dif_pos (moved0_3 t _)]
  have e : ∀ x : ((cfg0.win 3).xblock (cfg0.grid.coords t)).Idx, (x 0).val = r.val → (x 1).val = d.val →
      iblk m c 3 t x = proj m c (ix2 ⟨(sq t).val * 2048 + r.val, by have := (sq t).isLt; omega⟩
          ⟨4096 + ((hd t).val * 512 + d.val), by have := (hd t).isLt; omega⟩) := by
    intro x h0 h1
    blk_ext [iblk, V, idx3 t, proj, sq, hd, h0, h1]
  exact e _ rfl rfl

theorem g_read (c : Dev nD) (t : Fin cfg0.N) (r : Fin 2048) (d : Fin 512) :
    X0_4 m c t (ix2 r d)
      = proj m c (ix2 ⟨(sq t).val * 2048 + r.val, by have := (sq t).isLt; omega⟩
          ⟨8192 + ((hd t).val * 512 + d.val), by have := (hd t).isLt; omega⟩) := by
  have := lt4 t
  have := lt8 t
  unfold X0_4
  unfold Pipeline.Window.fill
  rw [dif_pos (moved0_4 t _)]
  have e : ∀ x : ((cfg0.win 4).xblock (cfg0.grid.coords t)).Idx, (x 0).val = r.val → (x 1).val = d.val →
      iblk m c 4 t x = proj m c (ix2 ⟨(sq t).val * 2048 + r.val, by have := (sq t).isLt; omega⟩
          ⟨8192 + ((hd t).val * 512 + d.val), by have := (hd t).isLt; omega⟩) := by
    intro x h0 h1
    blk_ext [iblk, V, idx4 t, proj, sq, hd, h0, h1]
  exact e _ rfl rfl

theorem cos_read (c : Dev nD) (t : Fin cfg0.N) (r : Fin 2048) (d : Fin 128) :
    iblk m c 5 t (ix2 r d) = val_main_v20 (F := Ideal) (ix2 r d) := by
  have e2 : iblk m c 5 t (ix2 r d) = V m c main_v19 (ix2 r d) := by
    blk_ext [iblk, idx5 t]
  rw [e2]
  unfold val_main_v20 val_main_v19 val_main_v18 val_main_v17 val_main_v16 val_main_v15
    val_main_v14 val_main_v13 val_main_v12 val_main_v11 val_main_v10 val_main_v9 val_main_v7 val_main_v6
    val_main_cst val_main_cst_0
  entry_read
  pointwise
  rw [show IntOp.addi (0#32) (BitVec.ofNat 32 r.val) = BitVec.ofNat 32 r.val from BitVec.zero_add _]

theorem sin_read (c : Dev nD) (t : Fin cfg0.N) (r : Fin 2048) (d : Fin 128) :
    iblk m c 6 t (ix2 r d) = val_main_v22 (F := Ideal) (ix2 r d) := by
  have e2 : iblk m c 6 t (ix2 r d) = V m c main_v23 (ix2 r d) := by
    blk_ext [iblk, idx6 t]
  rw [e2]
  unfold val_main_v22 val_main_v19 val_main_v18 val_main_v17 val_main_v16 val_main_v15
    val_main_v14 val_main_v13 val_main_v12 val_main_v11 val_main_v10 val_main_v9 val_main_v7 val_main_v6
    val_main_cst val_main_cst_0
  entry_read
  pointwise
  rw [show IntOp.addi (0#32) (BitVec.ofNat 32 r.val) = BitVec.ofNat 32 r.val from BitVec.zero_add _]

theorem gn_read (c : Dev nD) (t : Fin cfg0.N) (d : Fin 512) :
    iblk m c 7 t (ix3 0 0 d) = gnw m c (ix3 0 (hd t) d) := by
  have := lt8 t
  have e : iblk m c 7 t (ix3 0 0 d) = V m c main_v32 (ix3 (hd t) 0 d) := by
    blk_ext [iblk, idx7 t, hd]
  rw [e]
  entry_read
  pointwise

end Cert.RetPromptProof

end
-- ==== Proof.PromptMath.lean ====
/- The mathematics of the prompt retention, over the reals: a decayed running state taken in chunks of 128 positions is the sum over
   all the positions before, and a row of the output, made of the chunk's own decayed scores and of the state carried into the
   chunk, is one sum over all the positions up to the row's. Also what it takes to read the extended-real operations as real ones. -/
module

public import Idealize.ShloMosaic.Lib.IdealHost
public import Idealize.ShloMosaic.PureOps.Ideal.Laws

@[expose] public section

noncomputable section

namespace Cert.RetPromptProof

open Idealize.ShloMosaic

/-! ## Extended reals that are real -/

/-- The value is a real number. -/
def IsFin (x : EReal) : Prop := ∃ r : ℝ, x = (r : EReal)

theorem IsFin.coe (r : ℝ) : IsFin (r : EReal) := ⟨r, rfl⟩

theorem IsFin.eq_toReal {x : EReal} (h : IsFin x) : x = ((x.toReal : ℝ) : EReal) := by
  obtain ⟨r, rfl⟩ := h
  rfl

theorem IsFin.add {x y : EReal} (hx : IsFin x) (hy : IsFin y) : IsFin (x + y) := by
  obtain ⟨a, rfl⟩ := hx
  obtain ⟨b, rfl⟩ := hy
  exact ⟨a + b, (EReal.coe_add a b).symm⟩

theorem IsFin.sub {x y : EReal} (hx : IsFin x) (hy : IsFin y) : IsFin (x - y) := by
  obtain ⟨a, rfl⟩ := hx
  obtain ⟨b, rfl⟩ := hy
  exact ⟨a - b, (EReal.coe_sub a b).symm⟩

theorem IsFin.mul {x y : EReal} (hx : IsFin x) (hy : IsFin y) : IsFin (x * y) := by
  obtain ⟨a, rfl⟩ := hx
  obtain ⟨b, rfl⟩ := hy
  exact ⟨a * b, (EReal.coe_mul a b).symm⟩

theorem IsFin.neg {x : EReal} (hx : IsFin x) : IsFin (-x) := by
  obtain ⟨a, rfl⟩ := hx
  exact ⟨-a, (EReal.coe_neg a).symm⟩

theorem IsFin.div {x y : EReal} (hx : IsFin x) (hy : IsFin y) (h0 : y ≠ 0) : IsFin (Ideal.div x y) := by
  obtain ⟨a, rfl⟩ := hx
  obtain ⟨b, rfl⟩ := hy
  unfold Ideal.div
  rw [if_neg h0]
  exact ⟨a * b⁻¹, by rw [EReal.coe_mul, EReal.coe_inv]⟩

theorem IsFin.pow {x y : EReal} (hx : IsFin x) (hy : IsFin y) : IsFin (Ideal.pow x y) := by
  obtain ⟨a, rfl⟩ := hx
  obtain ⟨b, rfl⟩ := hy
  exact ⟨Real.rpow a b, rfl⟩

theorem IsFin.cos {x : EReal} (hx : IsFin x) : IsFin (Ideal.cos x) := by
  obtain ⟨a, rfl⟩ := hx
  exact ⟨Real.cos a, rfl⟩

theorem IsFin.sin {x : EReal} (hx : IsFin x) : IsFin (Ideal.sin x) := by
  obtain ⟨a, rfl⟩ := hx
  exact ⟨Real.sin a, rfl⟩

/-- Below infinity in absolute value is real. -/
theorem IsFin.of_abs_lt {x : EReal} (h : max x (-x) < ⊤) : IsFin x := by
  induction x using EReal.rec with
  | bot => simp at h
  | coe r => exact ⟨r, rfl⟩
  | top => simp at h

/-- The logarithm of one minus the exponential of a negative real is a real. -/
theorem log1p_fin (a : ℝ) (h : a < 0) : IsFin (Ideal.log1p (-Ideal.exp (a : EReal))) := by
  have e : Real.exp a < 1 := by rw [← Real.exp_zero]; exact Real.exp_lt_exp.2 h
  have h1 : (1 : EReal) + -((Real.exp a : ℝ) : EReal) = ((1 - Real.exp a : ℝ) : EReal) := by
    rw [EReal.coe_sub, sub_eq_add_neg, EReal.coe_one]
  show IsFin (Ideal.log (1 + -((Real.exp a : ℝ) : EReal)))
  rw [h1]
  show IsFin (if 1 - Real.exp a ≤ 0 then ⊥ else ((Real.log (1 - Real.exp a) : ℝ) : EReal))
  rw [if_neg (by linarith)]
  exact ⟨_, rfl⟩

theorem exp_coe (a : ℝ) : Ideal.exp (a : EReal) = ((Real.exp a : ℝ) : EReal) := rfl

/-- A small natural number converted from its word. -/
theorem sitofp_nat (n : ℕ) (h : n < 2048) : FloatOps.sitofp (F := Ideal) FTy.f32 (BitVec.ofNat 32 n) = ((n : ℝ) : EReal) := by
  show (((BitVec.ofNat 32 n).toInt : ℝ) : EReal) = _
  have : (BitVec.ofNat 32 n).toInt = (n : ℤ) := by
    rw [BitVec.toInt_eq_toNat_of_lt (by rw [BitVec.toNat_ofNat]; omega), BitVec.toNat_ofNat]
    omega
  rw [this]
  norm_num

theorem ofBits_127 : Ideal.ofBits FTy.f32 1123942400#32 = ((127 : ℝ) : EReal) := by
  simp [Ideal.ofBits, Ideal.ieee, -EReal.coe_mul, -EReal.coe_neg]; norm_num
theorem ofBits_128 : Ideal.ofBits FTy.f32 1124073472#32 = ((128 : ℝ) : EReal) := by
  simp [Ideal.ofBits, Ideal.ieee, -EReal.coe_mul, -EReal.coe_neg]; norm_num
theorem ofBits_2047 : Ideal.ofBits FTy.f32 1157619712#32 = ((2047 : ℝ) : EReal) := by
  simp [Ideal.ofBits, Ideal.ieee, -EReal.coe_mul, -EReal.coe_neg]; norm_num
theorem ofBits_neg5 : Ideal.ofBits FTy.f32 3231711232#32 = ((-5 : ℝ) : EReal) := by
  simp [Ideal.ofBits, Ideal.ieee, -EReal.coe_mul, -EReal.coe_neg]; norm_num
theorem ofBits_2048 : IsFin (Ideal.ofBits FTy.f32 1157627904#32) := by
  simp [Ideal.ofBits, Ideal.ieee]; exact ⟨_, by norm_cast⟩
theorem ofBits_base : IsFin (Ideal.ofBits FTy.f32 1176256512#32) := by
  simp [Ideal.ofBits, Ideal.ieee]; exact ⟨_, by norm_cast⟩
theorem ofBits_scale : IsFin (Ideal.ofBits FTy.f32 1031798784#32) := by
  simp [Ideal.ofBits, Ideal.ieee]; exact ⟨_, by norm_cast⟩
/-- The single-precision logarithm of two is a positive real. -/
theorem ofBits_ln2 : ∃ a : ℝ, 0 < a ∧ Ideal.ofBits FTy.f32 1060205080#32 = (a : EReal) := by
  refine ⟨11629080 * 2 ^ (-24 : ℤ), by positivity, ?_⟩
  simp [Ideal.ofBits, Ideal.ieee, -EReal.coe_mul]

/-- A finite sum of reals, read as an extended real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The decays -/

/-- The decay between positions `i` and `j`, nothing before the diagonal. -/
def decay (L : ℝ) (i j : ℕ) : ℝ := if j ≤ i then Real.exp (L * ((i : ℝ) - j)) else 0

theorem decay_read (L : ℝ) (i j : ℕ) :
    (if (0 : EReal) ≤ ((i : ℝ) : EReal) - ((j : ℝ) : EReal) then
      Ideal.exp ((L : EReal) * if (0 : EReal) ≤ ((i : ℝ) : EReal) - ((j : ℝ) : EReal) then ((i : ℝ) : EReal) - ((j : ℝ) : EReal) else 0)
      else 0) = ((decay L i j : ℝ) : EReal) := by
  have h : (0 : EReal) ≤ ((i : ℝ) : EReal) - ((j : ℝ) : EReal) ↔ j ≤ i := by
    rw [← EReal.coe_sub, EReal.coe_nonneg, sub_nonneg, Nat.cast_le]
  unfold decay
  by_cases hj : j ≤ i
  · rw [if_pos (h.2 hj), if_pos (h.2 hj), if_pos hj, ← EReal.coe_sub, ← EReal.coe_mul, exp_coe]
  · rw [if_neg (fun x => hj (h.1 x)), if_neg hj, EReal.coe_zero]

/-! ## The two identities -/

/-- The state after the positions below `n`, with the decay up to position `n - 1`. -/
def stateSum (L : ℝ) (K V : ℕ → ℝ) (n : ℕ) : ℝ := ∑ j ∈ Finset.range n, K j * Real.exp (L * ((n : ℝ) - 1 - j)) * V j

theorem stateSum_step (L : ℝ) (K V : ℕ → ℝ) (n : ℕ) :
    stateSum L K V (128 * n) * Real.exp (L * 128)
        + ∑ i : Fin 128, K (128 * n + i.val) * Real.exp (L * (127 - (i.val : ℝ))) * V (128 * n + i.val)
      = stateSum L K V (128 * (n + 1)) := by
  unfold stateSum
  rw [show 128 * (n + 1) = 128 * n + 128 by ring, Finset.sum_range_add, Finset.sum_mul]
  congr 1
  · refine Finset.sum_congr rfl fun j _ => ?_
    have e : Real.exp (L * (((128 * n + 128 : ℕ) : ℝ) - 1 - j)) = Real.exp (L * (((128 * n : ℕ) : ℝ) - 1 - j)) * Real.exp (L * 128) := by
      rw [← Real.exp_add]
      congr 1
      push_cast
      ring
    rw [e]
    ring
  · rw [Finset.sum_range fun x => K (128 * n + x) * Real.exp (L * (((128 * n + 128 : ℕ) : ℝ) - 1 - ((128 * n + x : ℕ) : ℝ))) * V (128 * n + x)]
    refine Finset.sum_congr rfl fun i _ => ?_
    congr 3
    push_cast
    ring

theorem row_sum {ι : Type} [Fintype ι] (L : ℝ) (q : ι → ℝ) (K : ℕ → ι → ℝ) (V : ℕ → ℝ) (s : ℕ) (hs : s < 16) (i : ℕ) (hi : i < 128) :
    (∑ j : Fin 128, (∑ d, q d * K (128 * s + j.val) d) * decay L i j.val * V (128 * s + j.val))
        + (∑ d, q d * stateSum L (fun j => K j d) V (128 * s)) * Real.exp (L * ((i : ℝ) + 1))
      = ∑ j : Fin 2048, (∑ d, q d * K j.val d) * decay L (128 * s + i) j.val * V j.val := by
  obtain ⟨r, hr⟩ : ∃ r, 2048 = 128 * s + 128 + r := ⟨2048 - (128 * s + 128), by omega⟩
  rw [← Finset.sum_range fun j => (∑ d, q d * K j d) * decay L (128 * s + i) j * V j]
  rw [hr, Finset.sum_range_add, Finset.sum_range_add]
  have tail : ∑ x ∈ Finset.range r, (∑ d, q d * K (128 * s + 128 + x) d) * decay L (128 * s + i) (128 * s + 128 + x) * V (128 * s + 128 + x) = 0 := by
    refine Finset.sum_eq_zero fun x _ => ?_
    unfold decay
    rw [if_neg (by omega)]
    ring
  rw [tail, add_zero, add_comm]
  congr 1
  · have e : ∀ d, q d * stateSum L (fun j => K j d) V (128 * s) * Real.exp (L * ((i : ℝ) + 1))
        = ∑ j ∈ Finset.range (128 * s), q d * K j d * decay L (128 * s + i) j * V j := by
      intro d
      unfold stateSum
      rw [Finset.mul_sum, Finset.sum_mul]
      refine Finset.sum_congr rfl fun j hj => ?_
      have hj' := Finset.mem_range.1 hj
      unfold decay
      rw [if_pos (by omega)]
      have e2 : Real.exp (L * (((128 * s + i : ℕ) : ℝ) - j)) = Real.exp (L * (((128 * s : ℕ) : ℝ) - 1 - j)) * Real.exp (L * ((i : ℝ) + 1)) := by
        rw [← Real.exp_add]
        congr 1
        push_cast
        ring
      rw [e2]
      ring
    rw [Finset.sum_mul, Finset.sum_congr rfl fun d _ => e d, Finset.sum_comm]
    refine Finset.sum_congr rfl fun j _ => ?_
    rw [Finset.sum_mul, Finset.sum_mul]
  · rw [Finset.sum_range fun x => (∑ d, q d * K (128 * s + x) d) * decay L (128 * s + i) (128 * s + x) * V (128 * s + x)]
    refine Finset.sum_congr rfl fun j _ => ?_
    congr 2
    unfold decay
    by_cases h : j.val ≤ i
    · rw [if_pos h, if_pos (by omega)]
      congr 2
      push_cast
      ring
    · rw [if_neg h, if_neg (by omega)]

end Cert.RetPromptProof

end
-- ==== Proof.PromptEq.lean ====
/- The prompt retention: the rotated queries and keys and the decays of a chunk are the reference's, the state the chunks hand on is
   the decayed sum over all the positions before, and so each chunk's output and the final states are the reference's, which takes a
   whole sequence at once. The projected values are taken finite: only then may the queries be multiplied into the sum. -/
module

public import proofs.«01_k».proof.Proof.PromptRead
public import proofs.«01_k».proof.Proof.PromptMath

@[expose] public section

set_option maxRecDepth 16384

noncomputable section

namespace Cert.RetPromptProof

open Cert.RetPromptIdeal Cert.RetPromptIdeal.Gen Idealize.ShloMosaic Idealize.ShloMosaic.TcCoe Idealize.SL.Sem
open Cert.RetPromptRefIdeal.Read

/-! ## The reference's stages are real -/

section Stages

variable (x : Vec Ideal S9216x12288 .f32) (b : Fin 4) (h : Fin 8)

theorem angle_fin (r : Fin 2048) (d : Fin 128) : IsFin (val_main_v19 (F := Ideal) (ix2 r d)) := by
  unfold val_main_v19 val_main_v18 val_main_v17 val_main_v16 val_main_v15
    val_main_v14 val_main_v13 val_main_v12 val_main_v11 val_main_v10 val_main_v9 val_main_v7 val_main_v6
    val_main_cst val_main_cst_0
  pointwise
  rw [sitofp_nat _ r.isLt, sitofp_nat _ (by omega), ofBits_128]
  refine (IsFin.coe _).mul (ofBits_base.pow ((IsFin.coe _).neg.div (IsFin.coe _) ?_))
  norm_num

theorem cos_fin (r : Fin 2048) (d : Fin 128) : IsFin (val_main_v20 (F := Ideal) (ix2 r d)) := by
  have := angle_fin r d
  unfold val_main_v20
  pointwise
  exact this.cos

theorem sin_fin (r : Fin 2048) (d : Fin 128) : IsFin (val_main_v22 (F := Ideal) (ix2 r d)) := by
  have := angle_fin r d
  unfold val_main_v22
  pointwise
  exact this.sin

/-- The logarithm of a head's decay is a real number. -/
theorem lg_fin : IsFin (val_main_v76 (F := Ideal) (ix1 h)) := by
  unfold val_main_v76 val_main_v75 val_main_v74 val_main_v73 val_main_v72 val_main_v71 val_main_v70 val_main_v69
    val_main_cst_5 val_main_cst_4
  pointwise
  obtain ⟨a, ha, e⟩ := ofBits_ln2
  rw [sitofp_nat _ (by omega), ofBits_neg5, e, ← EReal.coe_sub, ← EReal.coe_mul]
  refine log1p_fin _ (mul_neg_of_pos_of_neg ha ?_)
  have : (0 : ℝ) ≤ (h.val : ℝ) := Nat.cast_nonneg _
  linarith

/-- The element of the argument that feature `d` of the queries (`o = 0`) or the keys (`o = 2048`) of a position and head is. -/
def feat (o : ℕ) (ho : o ≤ 2048) (r : Fin 2048) (d : Fin 256) : EReal :=
  x (ix2 (⟨b.val * 2048 + r.val, by omega⟩ : Fin 9216) (⟨o + (h.val * 256 + d.val), by omega⟩ : Fin 12288))

/-- A rotated feature: the angles' cosines and sines against the feature and its partner in the other half. -/
def rotFeat (o : ℕ) (ho : o ≤ 2048) (r : Fin 2048) (d : Fin 256) : EReal :=
  if hd : d.val < 128 then
    feat x b h o ho r ⟨d.val, by omega⟩ * val_main_v20 (F := Ideal) (ix2 r ⟨d.val, hd⟩)
      - feat x b h o ho r ⟨128 + d.val, by omega⟩ * val_main_v22 (F := Ideal) (ix2 r ⟨d.val, hd⟩)
  else
    feat x b h o ho r ⟨d.val - 128, by omega⟩ * val_main_v22 (F := Ideal) (ix2 r ⟨d.val - 128, by omega⟩)
      + feat x b h o ho r ⟨128 + (d.val - 128), by omega⟩ * val_main_v20 (F := Ideal) (ix2 r ⟨d.val - 128, by omega⟩)

theorem rotFeat_fin (hx : ∀ i, IsFin (x i)) (o : ℕ) (ho : o ≤ 2048) (r : Fin 2048) (d : Fin 256) :
    IsFin (rotFeat x b h o ho r d) := by
  unfold rotFeat feat
  split
  · exact ((hx _).mul (cos_fin _ _)).sub ((hx _).mul (sin_fin _ _))
  · exact ((hx _).mul (sin_fin _ _)).add ((hx _).mul (cos_fin _ _))

section Halves
variable (r : Fin 2048) (d : Fin 128)

theorem v8_read (d : Fin 256) : val_main_v8 (F := Ideal) x (ix4 b r h d) = feat x b h 0 (by omega) r d := by
  unfold val_main_v8 val_main_v2 val_main_v1 val_main_v0 feat
  pointwise

theorem v37_read (d : Fin 256) : val_main_v37 (F := Ideal) x (ix4 b r h d) = feat x b h 2048 (by omega) r d := by
  unfold val_main_v37 val_main_v3 val_main_v1 val_main_v0 feat
  pointwise

theorem v24_read : val_main_v24 (F := Ideal) x (ix4 b r h d) = feat x b h 0 (by omega) r ⟨d.val, by omega⟩ := by
  rw [val_main_v24_apply, ← v8_read]
  exact congrArg (val_main_v8 (F := Ideal) x) (by funext a; fin_cases a <;> rfl)

theorem v25_read : val_main_v25 (F := Ideal) x (ix4 b r h d) = feat x b h 0 (by omega) r ⟨128 + d.val, by omega⟩ := by
  rw [val_main_v25_apply, ← v8_read]
  exact congrArg (val_main_v8 (F := Ideal) x) (by funext a; fin_cases a <;> rfl)

theorem v53_read : val_main_v53 (F := Ideal) x (ix4 b r h d) = feat x b h 2048 (by omega) r ⟨d.val, by omega⟩ := by
  rw [val_main_v53_apply, ← v37_read]
  exact congrArg (val_main_v37 (F := Ideal) x) (by funext a; fin_cases a <;> rfl)

theorem v54_read : val_main_v54 (F := Ideal) x (ix4 b r h d) = feat x b h 2048 (by omega) r ⟨128 + d.val, by omega⟩ := by
  rw [val_main_v54_apply, ← v37_read]
  exact congrArg (val_main_v37 (F := Ideal) x) (by funext a; fin_cases a <;> rfl)

end Halves

theorem q_val (r : Fin 2048) (d : Fin 256) : val_main_v36 (F := Ideal) x (ix4 b r h d) = rotFeat x b h 0 (by omega) r d := by
  unfold rotFeat val_main_v36 val_main_v35 val_main_v34 val_main_v33 val_main_v32 val_main_v31
    val_main_v30 val_main_v29 val_main_v28 val_main_v27 val_main_v26 val_main_v23 val_main_v21
  pointwise
  simp only [v24_read, v25_read]

theorem k_val (r : Fin 2048) (d : Fin 256) : val_main_v67 (F := Ideal) x (ix4 b r h d)
    = rotFeat x b h 2048 (by omega) r d * Ideal.ofBits FTy.f32 1031798784#32 := by
  unfold rotFeat val_main_v67 val_main_v66 val_main_cst_3 val_main_v65 val_main_v64 val_main_v63
    val_main_v62 val_main_v61 val_main_v60 val_main_v59 val_main_v58 val_main_v57 val_main_v56 val_main_v55
    val_main_v52 val_main_v50
  rw [show val_main_v49 (F := Ideal) = val_main_v20 from rfl, show val_main_v51 (F := Ideal) = val_main_v22 from rfl]
  pointwise
  simp only [v53_read, v54_read]

theorem q_fin (hx : ∀ i, IsFin (x i)) (r : Fin 2048) (d : Fin 256) : IsFin (val_main_v36 (F := Ideal) x (ix4 b r h d)) := by
  rw [q_val]
  exact rotFeat_fin x b h hx _ _ _ _

theorem k_fin (hx : ∀ i, IsFin (x i)) (r : Fin 2048) (d : Fin 256) : IsFin (val_main_v67 (F := Ideal) x (ix4 b r h d)) := by
  rw [k_val]
  exact (rotFeat_fin x b h hx _ _ _ _).mul ofBits_scale

/-- The logarithm of head `h`'s decay, the rotated queries and keys and the values, as real numbers. -/
def lgR : ℝ := (val_main_v76 (F := Ideal) (ix1 h)).toReal
def qR (r : Fin 2048) (d : Fin 256) : ℝ := (val_main_v36 (F := Ideal) x (ix4 b r h d)).toReal
def kR (r : ℕ) (d : Fin 256) : ℝ := (val_main_v67 (F := Ideal) x (ix4 b (Fin.ofNat 2048 r) h d)).toReal
def vR (r : ℕ) (e : Fin 512) : ℝ :=
  (x (ix2 ⟨b.val * 2048 + (Fin.ofNat 2048 r).val, by have := (Fin.ofNat 2048 r).isLt; omega⟩
    ⟨4096 + (h.val * 512 + e.val), by omega⟩)).toReal

theorem ofNat_val (r : Fin 2048) : Fin.ofNat 2048 r.val = r := Fin.ext (Nat.mod_eq_of_lt r.isLt)

theorem lg_real : val_main_v76 (F := Ideal) (ix1 h) = ((lgR h : ℝ) : EReal) := (lg_fin h).eq_toReal

theorem q_real (hx : ∀ i, IsFin (x i)) (r : Fin 2048) (d : Fin 256) :
    val_main_v36 (F := Ideal) x (ix4 b r h d) = ((qR x b h r d : ℝ) : EReal) := (q_fin x b h hx r d).eq_toReal

theorem k_real (hx : ∀ i, IsFin (x i)) (r : Fin 2048) (d : Fin 256) :
    val_main_v67 (F := Ideal) x (ix4 b r h d) = ((kR x b h r.val d : ℝ) : EReal) := by
  unfold kR
  rw [ofNat_val]
  exact (k_fin x b h hx r d).eq_toReal

theorem v_real (hx : ∀ i, IsFin (x i)) (r : Fin 2048) (e : Fin 512) :
    x (ix2 (⟨b.val * 2048 + r.val, by omega⟩ : Fin 9216) (⟨4096 + (h.val * 512 + e.val), by omega⟩ : Fin 12288))
      = ((vR x b h r.val e : ℝ) : EReal) := by
  unfold vR
  simp only [ofNat_val]
  exact (hx _).eq_toReal

/-! ## The decays -/

theorem kdec (i j : Fin 128) :
    k0_pay5 (F := Ideal) (val_main_v76 (ix1 h)) (ix2 i j) = ((decay (lgR h) i.val j.val : ℝ) : EReal) := by
  unfold k0_pay5 k0_pay4
  pointwise
  rw [sitofp_nat _ (by omega), sitofp_nat _ (by omega), lg_real]
  exact decay_read _ _ _

theorem kqd (i : Fin 128) :
    k0_pay6 (F := Ideal) (val_main_v76 (ix1 h)) (ix2 i 0) = ((Real.exp (lgR h * ((i.val : ℝ) + 1)) : ℝ) : EReal) := by
  unfold k0_pay6 k0_pay4
  pointwise
  rw [sitofp_nat _ (by omega), lg_real, ← EReal.coe_one, ← EReal.coe_add, ← EReal.coe_mul, exp_coe]

theorem kkd (i : Fin 128) :
    k0_pay7 (F := Ideal) (val_main_v76 (ix1 h)) (ix2 i 0) = ((Real.exp (lgR h * (127 - (i.val : ℝ))) : ℝ) : EReal) := by
  unfold k0_pay7 k0_pay4
  pointwise
  rw [sitofp_nat _ (by omega), lg_real, ofBits_127, ← EReal.coe_sub, ← EReal.coe_mul, exp_coe]

theorem kcd : k0_pay8 (F := Ideal) (val_main_v76 (ix1 h)) (ix2 0 0) = ((Real.exp (lgR h * 128) : ℝ) : EReal) := by
  unfold k0_pay8
  pointwise
  rw [lg_real, ofBits_128, ← EReal.coe_mul, exp_coe]

theorem rdec (i j : Fin 2048) : val_main_v92 (F := Ideal) (ix3 h i j) = ((decay (lgR h) i.val j.val : ℝ) : EReal) := by
  unfold val_main_v92 val_main_call1_v2 val_main_call1_v1 val_main_call1_v0 val_main_v91 val_main_v90 val_main_v89 val_main_v88
    val_main_v87 val_main_v86 val_main_v85 val_main_v84 val_main_v83 val_main_v82 val_main_v81 val_main_v80 val_main_v79
    val_main_v78 val_main_v77 val_main_call0_v1 val_main_call0_v0 val_main_cst_6 val_main_cst_7 val_main_cst_8
  simp only [id]
  pointwise
  rw [sitofp_nat _ i.isLt, sitofp_nat _ j.isLt, lg_real]
  exact decay_read _ _ _

theorem rkd (i : Fin 2048) :
    val_main_v109 (F := Ideal) (ix2 h i) = ((Real.exp (lgR h * (2047 - (i.val : ℝ))) : ℝ) : EReal) := by
  unfold val_main_v109 val_main_v108 val_main_v107 val_main_v106 val_main_v105 val_main_v104 val_main_v103 val_main_v102
    val_main_v77 val_main_cst_10
  pointwise
  rw [sitofp_nat _ i.isLt, lg_real, ofBits_2047, ← EReal.coe_sub, ← EReal.coe_mul, exp_coe]

end Stages

/-! ## The chunks -/

variable (m : (ℓ : Loc nD τ sig) → Buf (Elt Ideal) ℓ)

theorem q_eq (c : Dev nD) (t : Fin cfg0.N) (s : Fin 16) (i : Fin 128) (d : Fin 256) :
    rotBlk (rows128 (iblk m c 5 t) s) (rows128 (iblk m c 6 t) s) (rows256 (X0_1 m c t) s) (ix2 i d)
      = val_main_v36 (F := Ideal) (proj m c) (ix4 (sq t) (ps s i) (hd t) d) := by
  rw [q_val]
  unfold rotBlk rotFeat feat
  pointwise
  simp only [rows256_apply, rows128_apply, q_read, cos_read, sin_read, Nat.zero_add]

theorem k_eq (c : Dev nD) (t : Fin cfg0.N) (s : Fin 16) (i : Fin 128) (d : Fin 256) :
    keyBlk (rows128 (iblk m c 5 t) s) (rows128 (iblk m c 6 t) s) (rows256 (X0_2 m c t) s) (ix2 i d)
      = val_main_v67 (F := Ideal) (proj m c) (ix4 (sq t) (ps s i) (hd t) d) := by
  rw [k_val]
  unfold keyBlk rotBlk rotFeat feat
  pointwise
  simp only [rows256_apply, rows128_apply, k_read, cos_read, sin_read]

theorem stateBlk_apply (kd : FVec Ideal S128x1 .f32) (cd : FVec Ideal S1x1 .f32) (S : FVec Ideal S256x512 .f32)
    (k : FVec Ideal S128x256 .f32) (v : Vec Ideal S128x512 .f32) (d : Fin 256) (e : Fin 512) :
    stateBlk kd cd S k v (ix2 d e)
      = S (ix2 d e) * cd (ix2 0 0) + ∑ i : Fin 128, k (ix2 i d) * kd (ix2 i 0) * v (ix2 i e) := by
  unfold stateBlk
  pointwise

theorem mixBlk_apply (dec : FVec Ideal S128x128 .f32) (qd : FVec Ideal S128x1 .f32) (S : FVec Ideal S256x512 .f32)
    (q k : FVec Ideal S128x256 .f32) (v : Vec Ideal S128x512 .f32) (i : Fin 128) (e : Fin 512) :
    mixBlk dec qd S q k v (ix2 i e)
      = (∑ j : Fin 128, (∑ d : Fin 256, q (ix2 i d) * k (ix2 j d)) * dec (ix2 i j) * v (ix2 j e))
        + (∑ d : Fin 256, q (ix2 i d) * S (ix2 d e)) * qd (ix2 i 0) := by
  unfold mixBlk
  pointwise

theorem zeros_apply (d : Fin 256) (e : Fin 512) : k0_pay10 (F := Ideal) (k0_pay3 (F := Ideal)) (ix2 d e) = 0 := by
  unfold k0_pay10 k0_pay3
  pointwise

/-- The state after `n` chunks is the decayed sum over their positions. -/
theorem state_sum (c : Dev nD) (t : Fin cfg0.N) (hx : ∀ i, IsFin (proj m c i)) (d : Fin 256) (e : Fin 512) :
    ∀ n : ℕ, n ≤ 16 → stateAfter (lgAt m c t) (X0_2 m c t) (X0_3 m c t) (iblk m c 5 t) (iblk m c 6 t) n (ix2 d e)
      = ((stateSum (lgR (hd t)) (fun j => kR (proj m c) (sq t) (hd t) j d) (fun j => vR (proj m c) (sq t) (hd t) j e) (128 * n) : ℝ)
          : EReal) := by
  intro n
  induction n with
  | zero =>
    intro _
    refine (zeros_apply d e).trans ?_
    simp [stateSum]
  | succ n ih =>
    intro hn
    have hs : (Fin.ofNat 16 n).val = n := Nat.mod_eq_of_lt (by omega)
    refine (stateBlk_apply _ _ _ _ _ _ _).trans ?_
    rw [ih (by omega), lg_read, kcd, ← EReal.coe_mul, ← stateSum_step, EReal.coe_add, ← coe_sum]
    congr 1
    refine Finset.sum_congr rfl fun i _ => ?_
    rw [k_eq, kkd, rows512_apply, v_read, k_real _ _ _ hx, v_real _ _ _ hx, ← EReal.coe_mul, ← EReal.coe_mul]
    rw [show (ps (Fin.ofNat 16 n) i).val = 128 * n + i.val by
      show 128 * (Fin.ofNat 16 n).val + i.val = _
      rw [hs]]

theorem state_eq (c : Dev nD) (t : Fin cfg0.N) (hx : ∀ i, IsFin (proj m c i)) (d : Fin 256) (e : Fin 512) :
    stateAfter (lgAt m c t) (X0_2 m c t) (X0_3 m c t) (iblk m c 5 t) (iblk m c 6 t) 16 (ix2 d e)
      = val_main_v132 (F := Ideal) (proj m c) (ix4 (sq t) (hd t) d e) := by
  rw [state_sum m c t hx d e 16 le_rfl]
  unfold val_main_v132 val_main_v131 val_main_v130 val_main_v129 val_main_v128 val_main_v127 val_main_v118
    val_main_v117 val_main_v115 val_main_v114 val_main_cst_12 val_main_v110 val_main_v68 val_main_v4 val_main_v1 val_main_v0
  pointwise
  rw [zero_mul, zero_add]
  unfold stateSum
  rw [Finset.sum_range, ← coe_sum]
  refine Finset.sum_congr rfl fun j _ => ?_
  rw [rkd, k_real _ _ _ hx, v_real _ _ _ hx, ← EReal.coe_mul, ← EReal.coe_mul]
  norm_num

/-- The output of a chunk before the norm. -/
theorem mix_eq (c : Dev nD) (t : Fin cfg0.N) (hx : ∀ i, IsFin (proj m c i)) (s : Fin 16) (i : Fin 128) (e : Fin 512) :
    chunkMix (lgAt m c t) (X0_1 m c t) (X0_2 m c t) (X0_3 m c t) (iblk m c 5 t) (iblk m c 6 t) s (ix2 i e)
      = val_main_v134 (F := Ideal) (proj m c) (ix4 (sq t) (ps s i) (hd t) e) := by
  have hS := fun d => state_sum m c t hx d e s.val (by omega)
  unfold chunkMix
  rw [lg_read] at hS ⊢
  rw [mixBlk_apply]
  simp only [q_eq, k_eq, kdec, kqd, hS, rows512_apply, v_read, q_real _ _ _ hx, k_real _ _ _ hx, v_real _ _ _ hx]
  unfold val_main_v134 val_main_v133 val_main_v126 val_main_v125 val_main_v124 val_main_v123 val_main_v122 val_main_v121
    val_main_v120 val_main_v119 val_main_v118 val_main_v117 val_main_v116 val_main_v115 val_main_cst_12 val_main_v101
    val_main_v68 val_main_v4 val_main_v1 val_main_v0
  pointwise
  simp only [rdec, q_real _ _ _ hx, k_real _ _ _ hx, v_real _ _ _ hx, mul_zero, Finset.sum_const_zero, zero_mul, add_zero]
  simp only [← EReal.coe_mul, coe_sum, ← EReal.coe_add]
  exact congrArg _ (row_sum (lgR (hd t)) (qR (proj m c) (sq t) (hd t) (ps s i)) (fun j d => kR (proj m c) (sq t) (hd t) j d)
    (fun j => vR (proj m c) (sq t) (hd t) j e) s.val s.isLt i.val i.isLt)

/-- The output of a chunk. -/
theorem out_eq (c : Dev nD) (t : Fin cfg0.N) (hx : ∀ i, IsFin (proj m c i)) (s : Fin 16) (i : Fin 128) (e : Fin 512) :
    chunkOut (lgAt m c t) (iblk m c 7 t) (X0_1 m c t) (X0_2 m c t) (X0_3 m c t) (X0_4 m c t) (iblk m c 5 t) (iblk m c 6 t) s
        (ix2 i e)
      = val_main_v161 (F := Ideal) (proj m c) (gnw m c)
          (ix2 ⟨(sq t).val * 2048 + (ps s i).val, by have := (sq t).isLt; omega⟩
            ⟨(hd t).val * 512 + e.val, by have := (hd t).isLt; omega⟩) := by
  have hO := mix_eq m c t hx s
  unfold chunkOut
  generalize chunkMix (lgAt m c t) (X0_1 m c t) (X0_2 m c t) (X0_3 m c t) (iblk m c 5 t) (iblk m c 6 t) s = O at hO ⊢
  unfold normBlk k0_pay18 k0_pay9
  pointwise
  simp only [hO, rows512_apply, g_read, gn_read]
  unfold val_main_v161 val_main_v160 val_main_v159 val_main_v158 val_main_v157 val_main_v156
    val_main_v155 val_main_v154 val_main_v153 val_main_v152 val_main_v151 val_main_v150 val_main_v149 val_main_v148
    val_main_v147 val_main_v146 val_main_v145 val_main_v144 val_main_v143 val_main_v142 val_main_v141 val_main_v140
    val_main_v139 val_main_v138 val_main_v137 val_main_v136 val_main_v135 val_main_cst_13 val_main_cst_14 val_main_cst_15
    val_main_cst_16 val_main_cst_17
    val_main_call2_v5 val_main_call2_v4 val_main_call2_v3 val_main_call2_v2 val_main_call2_v1 val_main_call2_v0
    val_main_call2_cst val_main_call2_cst_0 val_main_v5 val_main_v1 val_main_v0
  pointwise
  simp only [zero_sub]

theorem states (c : Dev nD) (hx : ∀ i, IsFin (proj m c i)) :
    (dats m 0 c).arrAt 9 cfg0.N = val_main_v132 (F := Ideal) (proj m c) := by
  refine state_array m c _ fun t y => ?_
  obtain ⟨d, e, rfl⟩ : ∃ (d : Fin 256) (e : Fin 512), y = ix4 0 0 d e :=
    ⟨y 2, y 3, by funext a; fin_cases a <;> first | rfl | exact Subsingleton.elim (α := Fin 1) _ _⟩
  have hs := state_eq m c t hx d e
  generalize stateAfter (lgAt m c t) (X0_2 m c t) (X0_3 m c t) (iblk m c 5 t) (iblk m c 6 t) 16 = S at hs ⊢
  unfold k0_pay2
  pointwise
  refine hs.trans ?_
  have := lt4 t
  have := lt8 t
  blk_ext [idx9 t, sq, hd]

theorem outs (c : Dev nD) (hx : ∀ i, IsFin (proj m c i)) :
    (dats m 0 c).arrAt 8 cfg0.N = val_main_v161 (F := Ideal) (proj m c) (gnw m c) := by
  refine out_array m c _ fun t s y z h0 h1 => ?_
  obtain ⟨i, e, rfl⟩ : ∃ (i : Fin 128) (e : Fin 512), y = ix2 i e := ⟨y 0, y 1, by funext a; fin_cases a <;> rfl⟩
  refine (out_eq m c t hx s i e).trans ?_
  have := lt4 t
  have := lt8 t
  blk_ext [idx8 t, sq, hd, ps, h0, h1]

/-- The final memory of a run: the two result arrays are the reference's stages and the arguments are as at the start. -/
theorem run (ρ : Dev nD → PrngReg) (hx : ∀ c i, IsFin (proj m c i)) :
    θ_run defs (onTc (τ := τ) (main (F := Ideal))) ⟨m, fun _ => 0, ρ⟩ fun r => ∀ c : Dev nD,
      r.2.mem ((c.tc : Thread nD τ).loc main_v33_0) = val_main_v161 (F := Ideal) (proj m c) (gnw m c)
      ∧ r.2.mem ((c.tc : Thread nD τ).loc main_v33_1) = val_main_v132 (F := Ideal) (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 8).trans (outs m c (hx c)), ((h.1 c).1 9).trans (states m c (hx c)), h.2 c⟩)
    (θ_run_and (run_main m ρ) (unchanged m ρ))

end Cert.RetPromptProof

end
-- ==== Proof.LayerNorm.lean ====
/- The root-mean-square norm of the retention layer, as the first call of the step. Its grid runs over the two groups of rows,
   sixteen blocks of the prompts' and then two of the samples'. At each point the body stores the norm of that point's block of
   rows of the one or the other group. The contents of the buffers are stated at any contents the call finds. -/
module

public import proofs.«01_k».proof.Proof.Gen.RetLayerIdeal.Launch
public import proofs.«01_k».proof.Proof.Gen.RetLayerIdeal.Skeleton
public import proofs.«01_k».proof.Proof.Gen.RetLayerIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.RetLayerProof

open Cert.RetLayerIdeal Cert.RetLayerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def nblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point lies in the prompts' part of the grid. -/
abbrev inPrompt (i : grid0.Coords) : Prop := k0_cond1 i = 1#1
theorem inPrompt_iff : ∀ t : Fin cfg0.N, inPrompt (grid0.coords t) ↔ t.val < 16 :=
  (by decide +kernel : ∀ t : Fin grid0.N, inPrompt (grid0.coords t) ↔ t.val < 16)
/-- The point lies in the samples' part of the grid. -/
abbrev inSample (i : grid0.Coords) : Prop := k0_cond2 i = 1#1
theorem inSample_iff : ∀ t : Fin cfg0.N, inSample (grid0.coords t) ↔ ¬t.val < 16 :=
  (by decide +kernel : ∀ t : Fin grid0.N, inSample (grid0.coords t) ↔ ¬t.val < 16)
/-- No point idles the result's window. -/
theorem nlive : ∀ t : Fin cfg0.N, cfg0.idle 3 (grid0.coords t) = false := by decide +kernel

set_option maxHeartbeats 1000000 in
/-- The body on a block of the prompts' rows: what it writes to the result's buffer. -/
noncomputable def normPrompt (c : Dev nD) (i : grid0.Coords) (a1 : Memref sig .tc .vmem S512x2048 .f32) (h1 : a1.IsWhole) (a2 : Memref sig .tc .vmem S512x2048 .f32) (h2 : a2.IsWhole) (a3 : Memref sig .tc .vmem S1x2048 .f32) (h3 : a3.IsWhole) (a4 : Memref sig .tc .vmem S512x2048 .bf16) (h4 : a4.IsWhole)
    (hp : inPrompt i) (hs : ¬inSample i)
    (x0 x1 : Vec F S512x2048 .f32) (x2 : Vec F S1x2048 .f32) :
    { L : List (View.Piece (Elt F) S512x2048 .bf16) //
      ∀ (E : Set ℕ) (K : PUnit → sProp 𝕄),
        iprop(owns (c : Thread nD τ) a1 fullShare x0 ∗ owns (c : Thread nD τ) a2 fullShare x1 ∗ owns (c : Thread nD τ) a3 fullShare x2
            ∗ (∃ d, owns (c : Thread nD τ) a4 fullShare d)
            ∗ (iprop(owns (c : Thread nD τ) a1 fullShare x0 ∗ owns (c : Thread nD τ) a2 fullShare x1 ∗ owns (c : Thread nD τ) a3 fullShare x2
                ∗ (∃ f, a4.view.loc (c : Thread nD τ) ↦[a4.view.set]{fullShare} a4.view.writes (Elt F) f L)) -∗ K ⟨⟩))
          ⊢ wp frame (wpE (defs₀ (F := F)) Variants.none c none) E (cc0_rmsnorm i a1 h1 a2 h2 a3 h3 a4 h4) K } := by
  refine ⟨?_, fun E K => ?run⟩
  case run =>
    simp only [cc0_rmsnorm_eq_skeleton]; unfold cc0_rmsnorm_skel
    unfold owns
    iintro ⟨⟨%f0, %e0, H0⟩, ⟨%f1, %e1, H1⟩, ⟨%f2, %e2, H2⟩, ⟨%d3, %f3, -, H3⟩, Hk⟩
    obtain rfl := h1.eq_unread e0; obtain rfl := h2.eq_unread e1; obtain rfl := h3.eq_unread e2
    sl_exec (disch := first | sl_exact hp | sl_exact hs)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    iexists _; iexact H3

set_option maxHeartbeats 1000000 in
/-- The body on a block of the samples' rows. -/
noncomputable def normSample (c : Dev nD) (i : grid0.Coords) (a1 : Memref sig .tc .vmem S512x2048 .f32) (h1 : a1.IsWhole) (a2 : Memref sig .tc .vmem S512x2048 .f32) (h2 : a2.IsWhole) (a3 : Memref sig .tc .vmem S1x2048 .f32) (h3 : a3.IsWhole) (a4 : Memref sig .tc .vmem S512x2048 .bf16) (h4 : a4.IsWhole)
    (hp : ¬inPrompt i) (hs : inSample i)
    (x0 x1 : Vec F S512x2048 .f32) (x2 : Vec F S1x2048 .f32) :
    { L : List (View.Piece (Elt F) S512x2048 .bf16) //
      ∀ (E : Set ℕ) (K : PUnit → sProp 𝕄),
        iprop(owns (c : Thread nD τ) a1 fullShare x0 ∗ owns (c : Thread nD τ) a2 fullShare x1 ∗ owns (c : Thread nD τ) a3 fullShare x2
            ∗ (∃ d, owns (c : Thread nD τ) a4 fullShare d)
            ∗ (iprop(owns (c : Thread nD τ) a1 fullShare x0 ∗ owns (c : Thread nD τ) a2 fullShare x1 ∗ owns (c : Thread nD τ) a3 fullShare x2
                ∗ (∃ f, a4.view.loc (c : Thread nD τ) ↦[a4.view.set]{fullShare} a4.view.writes (Elt F) f L)) -∗ K ⟨⟩))
          ⊢ wp frame (wpE (defs₀ (F := F)) Variants.none c none) E (cc0_rmsnorm i a1 h1 a2 h2 a3 h3 a4 h4) K } := by
  refine ⟨?_, fun E K => ?run⟩
  case run =>
    simp only [cc0_rmsnorm_eq_skeleton]; unfold cc0_rmsnorm_skel
    unfold owns
    iintro ⟨⟨%f0, %e0, H0⟩, ⟨%f1, %e1, H1⟩, ⟨%f2, %e2, H2⟩, ⟨%d3, %f3, -, H3⟩, Hk⟩
    obtain rfl := h1.eq_unread e0; obtain rfl := h2.eq_unread e1; obtain rfl := h3.eq_unread e2
    sl_exec (disch := first | sl_exact hp | sl_exact hs)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    iexists _; iexact H3

/-- What the first writes. -/
theorem normPrompt_out (c : Dev nD) (i : grid0.Coords) (a1 : Memref sig .tc .vmem S512x2048 .f32) (h1 : a1.IsWhole) (a2 : Memref sig .tc .vmem S512x2048 .f32) (h2 : a2.IsWhole) (a3 : Memref sig .tc .vmem S1x2048 .f32) (h3 : a3.IsWhole) (a4 : Memref sig .tc .vmem S512x2048 .bf16) (h4 : a4.IsWhole)
    (hp : inPrompt i) (hs : ¬inSample i)
    (x0 x1 : Vec F S512x2048 .f32) (x2 : Vec F S1x2048 .f32) (f) :
    a4.view.read (Elt F) (a4.view.writes (Elt F) f (normPrompt c i a1 h1 a2 h2 a3 h3 a4 h4 hp hs x0 x1 x2).1) = k0_pay1 x0 x2 := by
  rw [View.read_writes_of_cover a4.view f a4.view a4.view.junk _
    (View.cover_of_tiledL (normPrompt c i a1 h1 a2 h2 a3 h3 a4 h4 hp hs x0 x1 x2).1 S512x2048.size (by sl_kernel_rfl))]
  frame_out

/-- What the second writes. -/
theorem normSample_out (c : Dev nD) (i : grid0.Coords) (a1 : Memref sig .tc .vmem S512x2048 .f32) (h1 : a1.IsWhole) (a2 : Memref sig .tc .vmem S512x2048 .f32) (h2 : a2.IsWhole) (a3 : Memref sig .tc .vmem S1x2048 .f32) (h3 : a3.IsWhole) (a4 : Memref sig .tc .vmem S512x2048 .bf16) (h4 : a4.IsWhole)
    (hp : ¬inPrompt i) (hs : inSample i)
    (x0 x1 : Vec F S512x2048 .f32) (x2 : Vec F S1x2048 .f32) (f) :
    a4.view.read (Elt F) (a4.view.writes (Elt F) f (normSample c i a1 h1 a2 h2 a3 h3 a4 h4 hp hs x0 x1 x2).1) = k0_pay2 x1 x2 := by
  rw [View.read_writes_of_cover a4.view f a4.view a4.view.junk _
    (View.cover_of_tiledL (normSample c i a1 h1 a2 h2 a3 h3 a4 h4 hp hs x0 x1 x2).1 S512x2048.size (by sl_kernel_rfl))]
  frame_out

/-- The rows the body leaves at a point. -/
def normOut (c : Dev nD) (t : Fin cfg0.N) : Vec F S512x2048 .bf16 :=
  if t.val < 16 then k0_pay1 (nblk V c 0 t) (nblk V c 2 t) else k0_pay2 (nblk V c 1 t) (nblk V c 2 t)

/-- The contents of the four windows' buffers after each point. -/
def ndata (c : Dev nD) : Dat τ (Elt F) Unit ℕ (UR sig nD τ) ℕ cfg0 c where
  A w := V c (Pipeline.arrRef spec0 w)
  after w t := match w with
    | ⟨0, _⟩ => nblk V c 0 t
    | ⟨1, _⟩ => nblk V c 1 t
    | ⟨2, _⟩ => nblk V c 2 t
    | ⟨3, _⟩ => normOut V c t
  Φ _ := Pipeline.ΦA spec0 c
  q _ := fullShare
  owed _ := 0

theorem ndata_A (c : Dev nD) (w : Fin cfg0.W) : (ndata V c).A w = V c (Pipeline.arrRef spec0 w) := by dsimp only [ndata]
theorem ndata_0 (c : Dev nD) (t : Fin cfg0.N) : (ndata V c).after 0 t = nblk V c 0 t := by dsimp only [ndata]
theorem ndata_1 (c : Dev nD) (t : Fin cfg0.N) : (ndata V c).after 1 t = nblk V c 1 t := by dsimp only [ndata]
theorem ndata_2 (c : Dev nD) (t : Fin cfg0.N) : (ndata V c).after 2 t = nblk V c 2 t := by dsimp only [ndata]
theorem ndata_3 (c : Dev nD) (t : Fin cfg0.N) : (ndata V c).after 3 t = normOut V c t := by dsimp only [ndata]
theorem nfound_0 (c : Dev nD) (t : Fin cfg0.N) (d) : (ndata V c).before 0 t d = nblk V c 0 t :=
  ((ndata V c).before_in_eq_fetched 0 rfl (fun _ => rfl) (fun _ _ _ => rfl)
    (fun t => by rw [ndata_0]; unfold Dat.blockOf nblk; rw [ndata_A]; try rfl) t d).trans
    (by unfold Dat.fetched Dat.blockOf nblk; rw [ndata_A]; try rfl)
theorem nfound_1 (c : Dev nD) (t : Fin cfg0.N) (d) : (ndata V c).before 1 t d = nblk V c 1 t :=
  ((ndata V c).before_in_eq_fetched 1 rfl (fun _ => rfl) (fun _ _ _ => rfl)
    (fun t => by rw [ndata_1]; unfold Dat.blockOf nblk; rw [ndata_A]; try rfl) t d).trans
    (by unfold Dat.fetched Dat.blockOf nblk; rw [ndata_A]; try rfl)
theorem nfound_2 (c : Dev nD) (t : Fin cfg0.N) (d) : (ndata V c).before 2 t d = nblk V c 2 t :=
  ((ndata V c).before_in_eq_fetched 2 rfl (fun _ => rfl) (fun _ _ _ => rfl)
    (fun t => by rw [ndata_2]; unfold Dat.blockOf nblk; rw [ndata_A]; try rfl) t d).trans
    (by unfold Dat.fetched Dat.blockOf nblk; rw [ndata_A]; try rfl)

/-- The windows' current buffers at a point. -/
abbrev nm0 (t : Fin cfg0.N) : Memref sig .tc .vmem S512x2048 .f32 := win0_0.stage (cfg0.slots t 0)
abbrev nm1 (t : Fin cfg0.N) : Memref sig .tc .vmem S512x2048 .f32 := win0_1.stage (cfg0.slots t 1)
abbrev nm2 (t : Fin cfg0.N) : Memref sig .tc .vmem S1x2048 .f32 := win0_2.stage (cfg0.slots t 2)
abbrev nm3 (t : Fin cfg0.N) : Memref sig .tc .vmem S512x2048 .bf16 := win0_3.stage (cfg0.slots t 3)

/-- What the body is called with. -/
def npre (c : Dev nD) (t : Fin cfg0.N) : sProp 𝕄 :=
  iprop((ndata V c).Φ t.castSucc ∗ (ndata V c).owesAt () t.castSucc
    ∗ (∃ d, owns (c : Thread nD τ) (nm0 t) fullShare ((ndata V c).before 0 t d))
    ∗ (∃ d, owns (c : Thread nD τ) (nm1 t) fullShare ((ndata V c).before 1 t d))
    ∗ (∃ d, owns (c : Thread nD τ) (nm2 t) fullShare ((ndata V c).before 2 t d))
    ∗ (∃ d, owns (c : Thread nD τ) (nm3 t) fullShare ((ndata V c).before 3 t d)))

/-- What it returns. -/
def npost (c : Dev nD) (t : Fin cfg0.N) : sProp 𝕄 :=
  iprop((ndata V c).Φ t.succ ∗ (ndata V c).owesAt () t.succ
    ∗ owns (c : Thread nD τ) (nm0 t) fullShare ((ndata V c).after 0 t)
    ∗ owns (c : Thread nD τ) (nm1 t) fullShare ((ndata V c).after 1 t)
    ∗ owns (c : Thread nD τ) (nm2 t) fullShare ((ndata V c).after 2 t)
    ∗ (ndata V c).leavesExact 3 t)

set_option maxHeartbeats 800000 in
theorem nsound (c : Dev nD) (t : Fin cfg0.N) :
    npre V c t ⊢ wp frame (wpE (defs₀ (F := F)) Variants.none c none) Set.univ (bodyAt0 t) (fun _ => npost V c t) := by
  unfold npre npost bodyAt0
  simp only [nfound_0, nfound_1, nfound_2]
  rw [show (ndata V c).Φ t.succ = (ndata V c).Φ t.castSucc from rfl,
    show (ndata V c).owesAt () t.succ = (ndata V c).owesAt () t.castSucc from rfl,
    show (ndata V c).leavesExact 3 t = owns (c : Thread nD τ) (nm3 t) fullShare ((ndata V c).after 3 t) from by
      unfold Dat.leavesExact; rw [nlive t], ndata_0, ndata_1, ndata_2, ndata_3]
  unfold normOut
  by_cases h : t.val < 16
  · rw [if_pos h]
    iintro ⟨HΦ, Ho, ⟨%d0, H0⟩, ⟨%d1, H1⟩, ⟨%d2, H2⟩, ⟨%d3, H3⟩⟩
    iapply ((normPrompt c (grid0.coords t) _ _ _ _ _ _ _ _ ((inPrompt_iff t).mpr h) (fun e => (inSample_iff t).mp e h)
      (nblk V c 0 t) (nblk V c 1 t) (nblk V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact normPrompt_out c _ _ _ _ _ _ _ _ _ _ _ _ _ _ _
  · rw [if_neg h]
    iintro ⟨HΦ, Ho, ⟨%d0, H0⟩, ⟨%d1, H1⟩, ⟨%d2, H2⟩, ⟨%d3, H3⟩⟩
    iapply ((normSample c (grid0.coords t) _ _ _ _ _ _ _ _ (fun e => h ((inPrompt_iff t).mp e)) ((inSample_iff t).mpr h)
      (nblk V c 0 t) (nblk V c 1 t) (nblk V c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact normSample_out c _ _ _ _ _ _ _ _ _ _ _ _ _ _ _

theorem nobligation (c : Dev nD) : BodyObligation (ndata (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (nsound V c t) rfl .rfl fun _ => .rfl

end Cert.RetLayerProof

end
-- ==== Proof.LayerProd.lean ====
/- The retention layer's input projection, as the second call of the step. Its grid runs over twelve panels of the weight's
   columns and, inside one, nine blocks of rows. The first block of a panel rounds the panel into a scratch that the other eight
   read. The contents of the buffers are stated at any contents the call finds. -/
module

public import proofs.«01_k».proof.Proof.Gen.RetLayerIdeal.Launch
public import proofs.«01_k».proof.Proof.Gen.RetLayerIdeal.Skeleton
public import proofs.«01_k».proof.Proof.Gen.RetLayerIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Pipeline.ValueKit.Held
public import Idealize.ShloMosaic.Lib.Ring
public import Idealize.ShloMosaic.Lib.Tactic
public import Idealize.ShloMosaic.Lib.WordCmp

@[expose] public section

set_option maxRecDepth 16384

noncomputable section

namespace Cert.RetLayerProof

open Cert.RetLayerIdeal Cert.RetLayerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def pblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point is the first of its panel. -/
abbrev isFirst (i : grid1.Coords) : Prop :=
  Scalar.cmpi .ne (Scalar.extui (Scalar.cmpi .eq (BitVec.ofNat 32 (i 1).val) 0#32) : BitVec 32) 0#32 = 1#1
theorem isFirst_iff : ∀ t : Fin cfg1.N, isFirst (grid1.coords t) ↔ t.val % 9 = 0 :=
  (by decide +kernel : ∀ t : Fin grid1.N, isFirst (grid1.coords t) ↔ t.val % 9 = 0)

/-- The scratch. -/
abbrev panelRef : Memref sig .tc .vmem S2048x1024 .bf16 := Memref.whole cc1_scratch0

set_option maxHeartbeats 1000000 in
/-- The body at the first point of a panel: what it writes to the product's buffer and to the scratch. -/
noncomputable def prodFirst (c : Dev nD) (i : grid1.Coords) (a2 : Memref sig .tc .vmem S1024x2048 .bf16) (h2 : a2.IsWhole)
    (a3 : Memref sig .tc .vmem S1x2048x1024 .f32) (h3 : a3.IsWhole) (a4 : Memref sig .tc .vmem S1024x1024 .f32) (h4 : a4.IsWhole)
    (a5 : Memref sig .tc .vmem S2048x1024 .bf16) (h5 : a5.IsWhole) (hc : isFirst i)
    (x0 : Vec F S1024x2048 .bf16) (x1 : Vec F S1x2048x1024 .f32) :
    Σ' (L : List (View.Piece (Elt F) S1024x1024 .f32)), { M : List (View.Piece (Elt F) S2048x1024 .bf16) //
      ∀ (E : Set ℕ) (K : PUnit → sProp 𝕄),
        iprop(owns (c : Thread nD τ) a2 fullShare x0 ∗ owns (c : Thread nD τ) a3 fullShare x1
            ∗ (∃ d, owns (c : Thread nD τ) a4 fullShare d) ∗ (∃ d, owns (c : Thread nD τ) a5 fullShare d)
            ∗ (iprop(owns (c : Thread nD τ) a2 fullShare x0 ∗ owns (c : Thread nD τ) a3 fullShare x1
                ∗ (∃ f, a4.view.loc (c : Thread nD τ) ↦[a4.view.set]{fullShare} a4.view.writes (Elt F) f L)
                ∗ (∃ f, a5.view.loc (c : Thread nD τ) ↦[a5.view.set]{fullShare} a5.view.writes (Elt F) f M)) -∗ K ⟨⟩))
          ⊢ wp frame (wpE (defs₀ (F := F)) Variants.none c none) E (cc1_matmul i a2 h2 a3 h3 a4 h4 a5 h5) K } := by
  refine ⟨?_, ?_, fun E K => ?run⟩
  case run =>
    simp only [cc1_matmul_eq_skeleton]; unfold cc1_matmul_skel
    unfold owns
    iintro ⟨⟨%f0, %e0, H0⟩, ⟨%f1, %e1, H1⟩, ⟨%d2, %f2, -, H2⟩, ⟨%d3, %f3, -, H3⟩, Hk⟩
    obtain rfl := h2.eq_unread e0; obtain rfl := h3.eq_unread e1
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]; · iexists _; iexact H2
    iexists _; iexact H3

set_option maxHeartbeats 1000000 in
/-- The body at the other points of a panel: it reads the scratch and leaves it. -/
noncomputable def prodNext (c : Dev nD) (i : grid1.Coords) (a2 : Memref sig .tc .vmem S1024x2048 .bf16) (h2 : a2.IsWhole)
    (a3 : Memref sig .tc .vmem S1x2048x1024 .f32) (h3 : a3.IsWhole) (a4 : Memref sig .tc .vmem S1024x1024 .f32) (h4 : a4.IsWhole)
    (a5 : Memref sig .tc .vmem S2048x1024 .bf16) (h5 : a5.IsWhole) (hc : ¬isFirst i)
    (x0 : Vec F S1024x2048 .bf16) (x1 : Vec F S1x2048x1024 .f32) (y : Vec F S2048x1024 .bf16) :
    { L : List (View.Piece (Elt F) S1024x1024 .f32) //
      ∀ (E : Set ℕ) (K : PUnit → sProp 𝕄),
        iprop(owns (c : Thread nD τ) a2 fullShare x0 ∗ owns (c : Thread nD τ) a3 fullShare x1
            ∗ (∃ d, owns (c : Thread nD τ) a4 fullShare d) ∗ owns (c : Thread nD τ) a5 fullShare y
            ∗ (iprop(owns (c : Thread nD τ) a2 fullShare x0 ∗ owns (c : Thread nD τ) a3 fullShare x1
                ∗ (∃ f, a4.view.loc (c : Thread nD τ) ↦[a4.view.set]{fullShare} a4.view.writes (Elt F) f L)
                ∗ owns (c : Thread nD τ) a5 fullShare y) -∗ K ⟨⟩))
          ⊢ wp frame (wpE (defs₀ (F := F)) Variants.none c none) E (cc1_matmul i a2 h2 a3 h3 a4 h4 a5 h5) K } := by
  refine ⟨?_, fun E K => ?run⟩
  case run =>
    simp only [cc1_matmul_eq_skeleton]; unfold cc1_matmul_skel
    unfold owns
    iintro ⟨⟨%f0, %e0, H0⟩, ⟨%f1, %e1, H1⟩, ⟨%d2, %f2, -, H2⟩, ⟨%f3, %e3, H3⟩, Hk⟩
    obtain rfl := h2.eq_unread e0; obtain rfl := h3.eq_unread e1; obtain rfl := h5.eq_unread e3
    sl_exec (disch := first | sl_exact hc)
    sl_step
    iapply Hk
    isplitl [H0]
    · iexists _; isplitr; · ipureintro; exact h2.read_unread _
      iexact H0
    isplitl [H1]
    · iexists _; isplitr; · ipureintro; exact h3.read_unread _
      iexact H1
    isplitl [H2]; · iexists _; iexact H2
    iexists _; isplitr; · ipureintro; exact h5.read_unread _
    iexact H3

/-- What the first point leaves in the product's buffer. -/
theorem prodFirst_out (c : Dev nD) (i : grid1.Coords) (a2 : Memref sig .tc .vmem S1024x2048 .bf16) (h2 : a2.IsWhole)
    (a3 : Memref sig .tc .vmem S1x2048x1024 .f32) (h3 : a3.IsWhole) (a4 : Memref sig .tc .vmem S1024x1024 .f32) (h4 : a4.IsWhole)
    (a5 : Memref sig .tc .vmem S2048x1024 .bf16) (h5 : a5.IsWhole) (hc : isFirst i)
    (x0 : Vec F S1024x2048 .bf16) (x1 : Vec F S1x2048x1024 .f32) (f) :
    a4.view.read (Elt F) (a4.view.writes (Elt F) f (prodFirst c i a2 h2 a3 h3 a4 h4 a5 h5 hc x0 x1).1) = k1_pay2 x0 (k1_pay1 x1) := by
  rw [View.read_writes_of_cover a4.view f a4.view a4.view.junk _
    (View.cover_of_tiledL (prodFirst c i a2 h2 a3 h3 a4 h4 a5 h5 hc x0 x1).1 S1024x1024.size (by sl_kernel_rfl))]
  frame_out

/-- What the first point leaves in the scratch. -/
theorem prodFirst_scratch (c : Dev nD) (i : grid1.Coords) (a2 : Memref sig .tc .vmem S1024x2048 .bf16) (h2 : a2.IsWhole)
    (a3 : Memref sig .tc .vmem S1x2048x1024 .f32) (h3 : a3.IsWhole) (a4 : Memref sig .tc .vmem S1024x1024 .f32) (h4 : a4.IsWhole)
    (a5 : Memref sig .tc .vmem S2048x1024 .bf16) (h5 : a5.IsWhole) (hc : isFirst i)
    (x0 : Vec F S1024x2048 .bf16) (x1 : Vec F S1x2048x1024 .f32) (f) :
    a5.view.read (Elt F) (a5.view.writes (Elt F) f (prodFirst c i a2 h2 a3 h3 a4 h4 a5 h5 hc x0 x1).2.1) = k1_pay1 x1 := by
  rw [View.read_writes_of_cover a5.view f a5.view a5.view.junk _
    (View.cover_of_tiledL (prodFirst c i a2 h2 a3 h3 a4 h4 a5 h5 hc x0 x1).2.1 S2048x1024.size (by sl_kernel_rfl))]
  frame_out

/-- What another point leaves in the product's buffer. -/
theorem prodNext_out (c : Dev nD) (i : grid1.Coords) (a2 : Memref sig .tc .vmem S1024x2048 .bf16) (h2 : a2.IsWhole)
    (a3 : Memref sig .tc .vmem S1x2048x1024 .f32) (h3 : a3.IsWhole) (a4 : Memref sig .tc .vmem S1024x1024 .f32) (h4 : a4.IsWhole)
    (a5 : Memref sig .tc .vmem S2048x1024 .bf16) (h5 : a5.IsWhole) (hc : ¬isFirst i)
    (x0 : Vec F S1024x2048 .bf16) (x1 : Vec F S1x2048x1024 .f32) (y : Vec F S2048x1024 .bf16) (f) :
    a4.view.read (Elt F) (a4.view.writes (Elt F) f (prodNext c i a2 h2 a3 h3 a4 h4 a5 h5 hc x0 x1 y).1) = k1_pay2 x0 y := by
  rw [View.read_writes_of_cover a4.view f a4.view a4.view.junk _
    (View.cover_of_tiledL (prodNext c i a2 h2 a3 h3 a4 h4 a5 h5 hc x0 x1 y).1 S1024x1024.size (by sl_kernel_rfl))]
  frame_out
  try exact congrArg _ (h5.read_unread _)

/-! ## The contents point by point -/

/-- The first point of the panel that a position lies in. -/
def panelStart (n : ℕ) (h : n < cfg1.N) : Fin cfg1.N := ⟨9 * (n / 9), Pipeline.run_start_lt ⟨n, h⟩⟩

/-- What the scratch holds after a position. -/
def panel (c : Dev nD) (n : ℕ) (h : n < cfg1.N) : Vec F S2048x1024 .bf16 := k1_pay1 (pblk V c 1 (panelStart n h))

theorem panel_first (c : Dev nD) (t : Fin cfg1.N) (h : t.val % 9 = 0) : panel V c t.val t.isLt = k1_pay1 (pblk V c 1 t) := by
  unfold panel
  rw [show panelStart t.val t.isLt = t from Fin.ext (by simp only [panelStart]; omega)]

theorem panel_next (c : Dev nD) (t : Fin cfg1.N) (h : ¬t.val % 9 = 0) :
    panel V c (t.val - 1) (Nat.lt_of_le_of_lt (Nat.sub_le _ _) t.isLt) = panel V c t.val t.isLt := by
  unfold panel
  rw [show panelStart (t.val - 1) (Nat.lt_of_le_of_lt (Nat.sub_le _ _) t.isLt) = panelStart t.val t.isLt from
    Fin.ext (by simp only [panelStart]; omega)]

/-- The scoped buffers that are neither a staging buffer of this call nor its scratch. -/
abbrev others (c : Dev nD) : sProp 𝕄 :=
  Pipeline.scopedRestBut (Ix := Unit) (Name := ℕ) (U := UR sig nD τ) (Lvl := ℕ) (Val := Elt F) spec1 c [cc1_scratch0]

/-- The invariant before a position: anything in the scratch at first, then what the position before left. -/
def Inv (c : Dev nD) : (n : ℕ) → n ≤ cfg1.N → sProp 𝕄
  | 0, _ => Pipeline.ΦA spec1 c
  | n + 1, h => iprop((owns (c : Thread nD τ) panelRef fullShare (panel V c n h) ∗ others c) ∗ (∃ r, prngReg c r))

theorem Inv_zero (c : Dev nD) (n : ℕ) (h : n ≤ cfg1.N) (hz : n = 0) : Inv V c n h = Pipeline.ΦA spec1 c := by
  subst hz; rfl

theorem Inv_pos (c : Dev nD) (n : ℕ) (h : n ≤ cfg1.N) (hz : n ≠ 0) :
    Inv V c n h = iprop((owns (c : Thread nD τ) panelRef fullShare (panel V c (n - 1) (by omega)) ∗ others c) ∗ (∃ r, prngReg c r)) := by
  cases n with
  | zero => exact absurd rfl hz
  | succ n => rfl

/-- The scratch among the scoped buffers. -/
theorem split_scratch (c : Dev nD) : (Pipeline.ΦA spec1 c : sProp 𝕄)
    = iprop(((∃ d, owns (c : Thread nD τ) panelRef fullShare d) ∗ others c) ∗ (∃ r, prngReg c r)) := by
  unfold Pipeline.ΦA; rw [scopedRest1_split]; simp only [panelRef, owns_whole]; try rfl

/-- The contents of the three windows' buffers after each point. -/
def pdata (c : Dev nD) : Dat τ (Elt F) Unit ℕ (UR sig nD τ) ℕ cfg1 c where
  A w := V c (Pipeline.arrRef spec1 w)
  after w t := match w with
    | ⟨0, _⟩ => pblk V c 0 t
    | ⟨1, _⟩ => pblk V c 1 t
    | ⟨2, _⟩ => k1_pay2 (pblk V c 0 t) (panel V c t.val t.isLt)
  Φ t := Inv V c t.val (Nat.le_of_lt_succ t.isLt)
  q _ := fullShare
  owed _ := 0

theorem pdata_A (c : Dev nD) (w : Fin cfg1.W) : (pdata V c).A w = V c (Pipeline.arrRef spec1 w) := by dsimp only [pdata]
theorem pdata_inv (c : Dev nD) (t : Fin cfg1.N) : (pdata V c).Φ t.castSucc = Inv V c t.val (Nat.le_of_lt t.isLt) := by
  dsimp only [pdata]; exact Pipeline.Dat.Φ_castSucc (Inv V c) t
theorem pdata_0 (c : Dev nD) (t : Fin cfg1.N) : (pdata V c).after 0 t = pblk V c 0 t := by dsimp only [pdata]
theorem pdata_1 (c : Dev nD) (t : Fin cfg1.N) : (pdata V c).after 1 t = pblk V c 1 t := by dsimp only [pdata]
theorem pdata_2 (c : Dev nD) (t : Fin cfg1.N) : (pdata V c).after 2 t = k1_pay2 (pblk V c 0 t) (panel V c t.val t.isLt) := by
  dsimp only [pdata]
theorem pfound_0 (c : Dev nD) (t : Fin cfg1.N) (d) : (pdata V c).before 0 t d = pblk V c 0 t :=
  ((pdata V c).before_in_eq_fetched 0 rfl (fun _ => rfl) (fun _ _ _ => rfl)
    (fun t => by rw [pdata_0]; unfold Dat.blockOf pblk; rw [pdata_A]; try rfl) t d).trans
    (by unfold Dat.fetched Dat.blockOf pblk; rw [pdata_A]; try rfl)
theorem pfound_1 (c : Dev nD) (t : Fin cfg1.N) (d) : (pdata V c).before 1 t d = pblk V c 1 t :=
  ((pdata V c).before_in_eq_fetched 1 rfl (fun _ => rfl) (fun _ _ _ => rfl)
    (fun t => by rw [pdata_1]; unfold Dat.blockOf pblk; rw [pdata_A]; try rfl) t d).trans
    (by unfold Dat.fetched Dat.blockOf pblk; rw [pdata_A]; try rfl)

/-! ## The body meets the contents -/

/-- The windows' current buffers at a point. -/
abbrev pm0 (t : Fin cfg1.N) : Memref sig .tc .vmem S1024x2048 .bf16 := win1_0.stage (cfg1.slots t 0)
abbrev pm1 (t : Fin cfg1.N) : Memref sig .tc .vmem S1x2048x1024 .f32 := win1_1.stage (cfg1.slots t 1)
abbrev pm2 (t : Fin cfg1.N) : Memref sig .tc .vmem S1024x1024 .f32 := win1_2.stage (cfg1.slots t 2)

/-- What the body is called with. -/
def ppre (c : Dev nD) (t : Fin cfg1.N) : sProp 𝕄 :=
  iprop((pdata V c).Φ t.castSucc ∗ (pdata V c).owesAt () t.castSucc
    ∗ (∃ d, owns (c : Thread nD τ) (pm0 t) fullShare ((pdata V c).before 0 t d))
    ∗ (∃ d, owns (c : Thread nD τ) (pm1 t) fullShare ((pdata V c).before 1 t d))
    ∗ (∃ d, owns (c : Thread nD τ) (pm2 t) fullShare ((pdata V c).before 2 t d)))

/-- What it returns. -/
def ppost (c : Dev nD) (t : Fin cfg1.N) : sProp 𝕄 :=
  iprop((pdata V c).Φ t.succ ∗ (pdata V c).owesAt () t.succ
    ∗ owns (c : Thread nD τ) (pm0 t) fullShare ((pdata V c).after 0 t)
    ∗ owns (c : Thread nD τ) (pm1 t) fullShare ((pdata V c).after 1 t)
    ∗ owns (c : Thread nD τ) (pm2 t) fullShare ((pdata V c).after 2 t))

/-- Before the first point of a panel the scratch holds something. -/
theorem Inv_some (c : Dev nD) (n : ℕ) (h : n ≤ cfg1.N) :
    Inv V c n h ⊢ iprop(((∃ d, owns (c : Thread nD τ) panelRef fullShare d) ∗ others c) ∗ (∃ r, prngReg c r)) := by
  by_cases hz : n = 0
  · rw [Inv_zero V c n h hz, split_scratch]
  · rw [Inv_pos V c n h hz]
    iintro ⟨⟨HS, HR⟩, Hg⟩
    isplitl [HS HR]
    · isplitl [HS]
      · iexists _; iexact HS
      iexact HR
    iexact Hg

set_option maxHeartbeats 3200000 in
theorem psound (c : Dev nD) (t : Fin cfg1.N) :
    ppre V c t ⊢ wp frame (wpE (defs₀ (F := F)) Variants.none c none) Set.univ (bodyAt1 t) (fun _ => ppost V c t) := by
  unfold ppre ppost bodyAt1
  simp only [pfound_0, pfound_1]
  rw [show (pdata V c).owesAt () t.succ = (pdata V c).owesAt () t.castSucc from rfl, pdata_0, pdata_1, pdata_2, pdata_inv V c t]
  rw [show (pdata V c).Φ t.succ
    = iprop((owns (c : Thread nD τ) panelRef fullShare (panel V c t.val t.isLt) ∗ others c) ∗ (∃ r, prngReg c r)) from rfl]
  by_cases h0 : t.val % 9 = 0
  · refine Idealize.SL.BI.BIBase.Entails.trans (sep_mono (Inv_some V c _ _) .rfl) ?_
    rw [panel_first V c t h0]
    iintro ⟨⟨⟨HS, HR⟩, Hg⟩, Ho, ⟨%d0, H0⟩, ⟨%d1, H1⟩, ⟨%d2, H2⟩⟩
    iapply ((prodFirst c (grid1.coords t) _ _ _ _ _ _ _ _ ((isFirst_iff t).mpr h0) (pblk V c 0 t) (pblk V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%e3, HS⟩⟩
    isplitl [HS HR Hg]
    · isplitl [HS HR]
      · isplitl [HS]
        · unfold owns; iexists _; isplitr
          swap; · iexact HS
          ipureintro; exact prodFirst_scratch c _ _ _ _ _ _ _ _ _ _ _ _ _
        iexact HR
      iexact Hg
    isplitl [Ho]; · iexact Ho
    isplitl [H0]; · iexact H0
    isplitl [H1]; · iexact H1
    unfold owns; iexists _; isplitr
    swap; · iexact H2
    ipureintro; exact prodFirst_out c _ _ _ _ _ _ _ _ _ _ _ _ _
  · have hz : t.val ≠ 0 := by omega
    rw [Inv_pos V c _ _ hz, panel_next V c t h0]
    iintro ⟨⟨⟨HS, HR⟩, Hg⟩, Ho, ⟨%d0, H0⟩, ⟨%d1, H1⟩, ⟨%d2, H2⟩⟩
    iapply ((prodNext c (grid1.coords t) _ _ _ _ _ _ _ _ (fun h => h0 ((isFirst_iff t).mp h)) (pblk V c 0 t) (pblk V c 1 t)
      (panel V c t.val t.isLt)).2 Set.univ _)
    isplitl [H0]; · iexact H0
    isplitl [H1]; · iexact H1
    isplitl [H2]; · iexists _; iexact H2
    isplitl [HS]; · iexact HS
    iintro ⟨H0, H1, ⟨%e2, H2⟩, HS⟩
    isplitl [HS HR Hg]
    · isplitl [HS HR]
      · isplitl [HS]
        · iexact HS
        iexact HR
      iexact Hg
    isplitl [Ho]; · iexact Ho
    isplitl [H0]; · iexact H0
    isplitl [H1]; · iexact H1
    unfold owns; iexists _; isplitr
    swap; · iexact H2
    ipureintro; exact prodNext_out c _ _ _ _ _ _ _ _ _ _ _ _ _ _

theorem pobligation (c : Dev nD) : BodyObligation (pdata (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (psound V c t) rfl .rfl fun _ => .rfl

theorem inv_enter (c : Dev nD) : Pipeline.ΦA spec1 c ⊢ (pdata V c).Φ 0 := by
  rw [show (pdata V c).Φ 0 = Inv V c 0 (Nat.zero_le _) from rfl, Inv_zero V c 0 _ rfl]

theorem inv_leave (c : Dev nD) : (pdata V c).Φ (Fin.last cfg1.N) ⊢ Pipeline.ΦA spec1 c := by
  rw [show (pdata V c).Φ (Fin.last cfg1.N) = Inv V c cfg1.N (Nat.le_refl _) from rfl, split_scratch]
  exact Inv_some V c _ _

end Cert.RetLayerProof

end
-- ==== Proof.LayerRet.lean ====
/- The retention of the samples, as the third call of the step: at each point, eight sequences of one head. Four of its windows
   read the projection and two read the states. The contents of the buffers are stated at any contents the call finds. -/
module

public import proofs.«01_k».proof.Proof.Gen.RetLayerIdeal.Launch
public import proofs.«01_k».proof.Proof.Gen.RetLayerIdeal.Skeleton
public import proofs.«01_k».proof.Proof.Gen.RetLayerIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Ring
public import Idealize.ShloMosaic.Lib.Tactic
public import Idealize.ShloMosaic.Lib.WordCmp

@[expose] public section

set_option maxRecDepth 16384

noncomputable section

namespace Cert.RetLayerProof

open Cert.RetLayerIdeal Cert.RetLayerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def rblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

set_option maxHeartbeats 1000000 in
/-- The body at a point: what it writes to the buffers of the two results. -/
noncomputable def retRun (c : Dev nD) (i : grid2.Coords) (a3 : Memref sig .tc .smem S8 .f32) (h3 : a3.IsWhole) (a4 : Memref sig .tc .vmem S64x256 .f32) (h4 : a4.IsWhole)
    (a5 : Memref sig .tc .vmem S64x256 .f32) (h5 : a5.IsWhole) (a6 : Memref sig .tc .vmem S64x512 .f32) (h6 : a6.IsWhole)
    (a7 : Memref sig .tc .vmem S64x512 .f32) (h7 : a7.IsWhole) (a8 : Memref sig .tc .vmem S64x128 .f32) (h8 : a8.IsWhole)
    (a9 : Memref sig .tc .vmem S64x128 .f32) (h9 : a9.IsWhole) (a10 : Memref sig .tc .vmem S1x1x512 .f32) (h10 : a10.IsWhole)
    (a11 : Memref sig .tc .vmem S8x1x128x512 .f32) (h11 : a11.IsWhole) (a12 : Memref sig .tc .vmem S8x1x128x512 .f32) (h12 : a12.IsWhole)
    (a13 : Memref sig .tc .vmem S64x512 .bf16) (h13 : a13.IsWhole) (a14 : Memref sig .tc .vmem S8x1x256x512 .f32) (h14 : a14.IsWhole)
    (x0 : Vec F S8 .f32) (x1 x2 : Vec F S64x256 .f32) (x3 x4 : Vec F S64x512 .f32) (x5 x6 : Vec F S64x128 .f32)
    (x7 : Vec F S1x1x512 .f32) (x8 x9 : Vec F S8x1x128x512 .f32) :
    Σ' (L : List (View.Piece (Elt F) S64x512 .bf16)), { M : List (View.Piece (Elt F) S8x1x256x512 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗
            owns (c : Thread nD τ) a6 fullShare x3 ∗ owns (c : Thread nD τ) a7 fullShare x4 ∗ owns (c : Thread nD τ) a8 fullShare x5 ∗
            owns (c : Thread nD τ) a9 fullShare x6 ∗ owns (c : Thread nD τ) a10 fullShare x7 ∗ owns (c : Thread nD τ) a11 fullShare x8 ∗
            owns (c : Thread nD τ) a12 fullShare x9
            ∗ (∃ d, owns (c : Thread nD τ) a13 fullShare d) ∗ (∃ d, owns (c : Thread nD τ) a14 fullShare d)
            ∗ (iprop(owns (c : Thread nD τ) a3 fullShare x0 ∗ owns (c : Thread nD τ) a4 fullShare x1 ∗ owns (c : Thread nD τ) a5 fullShare x2 ∗
            owns (c : Thread nD τ) a6 fullShare x3 ∗ owns (c : Thread nD τ) a7 fullShare x4 ∗ owns (c : Thread nD τ) a8 fullShare x5 ∗
            owns (c : Thread nD τ) a9 fullShare x6 ∗ owns (c : Thread nD τ) a10 fullShare x7 ∗ owns (c : Thread nD τ) a11 fullShare x8 ∗
            owns (c : Thread nD τ) a12 fullShare x9
                ∗ (∃ f, a13.view.loc (c : Thread nD τ) ↦[a13.view.set]{fullShare} a13.view.writes (Elt F) f L)
                ∗ (∃ f, a14.view.loc (c : Thread nD τ) ↦[a14.view.set]{fullShare} a14.view.writes (Elt F) f M)) -∗ K ⟨⟩))
          ⊢ wp frame (wpE (defs₀ (F := F)) Variants.none c none) E
              (cc2_retention i a3 h3 a4 h4 a5 h5 a6 h6 a7 h7 a8 h8 a9 h9 a10 h10 a11 h11 a12 h12 a13 h13 a14 h14) K } := by
  refine ⟨?_, ?_, fun E K => ?run⟩
  case run =>
    simp only [cc2_retention_eq_skeleton]; unfold cc2_retention_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩,
      ⟨%d10, %f10, -, H10⟩, ⟨%d11, %f11, -, H11⟩, Hk⟩
    obtain rfl := h3.eq_unread e0; obtain rfl := h4.eq_unread e1; obtain rfl := h5.eq_unread e2; obtain rfl := h6.eq_unread e3; obtain rfl := h7.eq_unread e4; obtain rfl := h8.eq_unread e5; obtain rfl := h9.eq_unread e6; obtain rfl := h10.eq_unread e7; obtain rfl := h11.eq_unread e8; obtain rfl := h12.eq_unread e9
    sl_exec
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [H6]
    · iexists _; isplitr; · ipureintro; exact h9.read_unread _
      iexact H6
    isplitl [H7]
    · iexists _; isplitr; · ipureintro; exact h10.read_unread _
      iexact H7
    isplitl [H8]
    · iexists _; isplitr; · ipureintro; exact h11.read_unread _
      iexact H8
    isplitl [H9]
    · iexists _; isplitr; · ipureintro; exact h12.read_unread _
      iexact H9
    isplitl [H10]; · iexists _; iexact H10
    iexists _; iexact H11

/-- What the body leaves in the first result's buffer: its writes read back. -/
def retRows (c : Dev nD) (i : grid2.Coords) (a3 : Memref sig .tc .smem S8 .f32) (h3 : a3.IsWhole) (a4 : Memref sig .tc .vmem S64x256 .f32) (h4 : a4.IsWhole)
    (a5 : Memref sig .tc .vmem S64x256 .f32) (h5 : a5.IsWhole) (a6 : Memref sig .tc .vmem S64x512 .f32) (h6 : a6.IsWhole)
    (a7 : Memref sig .tc .vmem S64x512 .f32) (h7 : a7.IsWhole) (a8 : Memref sig .tc .vmem S64x128 .f32) (h8 : a8.IsWhole)
    (a9 : Memref sig .tc .vmem S64x128 .f32) (h9 : a9.IsWhole) (a10 : Memref sig .tc .vmem S1x1x512 .f32) (h10 : a10.IsWhole)
    (a11 : Memref sig .tc .vmem S8x1x128x512 .f32) (h11 : a11.IsWhole) (a12 : Memref sig .tc .vmem S8x1x128x512 .f32) (h12 : a12.IsWhole)
    (a13 : Memref sig .tc .vmem S64x512 .bf16) (h13 : a13.IsWhole) (a14 : Memref sig .tc .vmem S8x1x256x512 .f32) (h14 : a14.IsWhole)
    (x0 : Vec F S8 .f32) (x1 x2 : Vec F S64x256 .f32) (x3 x4 : Vec F S64x512 .f32) (x5 x6 : Vec F S64x128 .f32)
    (x7 : Vec F S1x1x512 .f32) (x8 x9 : Vec F S8x1x128x512 .f32) : Vec F S64x512 .bf16 :=
  (Memref.whole cc2_stg10_0 : Memref sig .tc .vmem S64x512 .bf16).view.read (Elt F)
    ((Memref.whole cc2_stg10_0 : Memref sig .tc .vmem S64x512 .bf16).view.writes (Elt F)
      (Memref.whole cc2_stg10_0 : Memref sig .tc .vmem S64x512 .bf16).view.junk
      (retRun c i a3 h3 a4 h4 a5 h5 a6 h6 a7 h7 a8 h8 a9 h9 a10 h10 a11 h11 a12 h12 a13 h13 a14 h14 x0 x1 x2 x3 x4 x5 x6 x7 x8 x9).1)

/-- What the body leaves in the second result's buffer. -/
def retState (c : Dev nD) (i : grid2.Coords) (a3 : Memref sig .tc .smem S8 .f32) (h3 : a3.IsWhole) (a4 : Memref sig .tc .vmem S64x256 .f32) (h4 : a4.IsWhole)
    (a5 : Memref sig .tc .vmem S64x256 .f32) (h5 : a5.IsWhole) (a6 : Memref sig .tc .vmem S64x512 .f32) (h6 : a6.IsWhole)
    (a7 : Memref sig .tc .vmem S64x512 .f32) (h7 : a7.IsWhole) (a8 : Memref sig .tc .vmem S64x128 .f32) (h8 : a8.IsWhole)
    (a9 : Memref sig .tc .vmem S64x128 .f32) (h9 : a9.IsWhole) (a10 : Memref sig .tc .vmem S1x1x512 .f32) (h10 : a10.IsWhole)
    (a11 : Memref sig .tc .vmem S8x1x128x512 .f32) (h11 : a11.IsWhole) (a12 : Memref sig .tc .vmem S8x1x128x512 .f32) (h12 : a12.IsWhole)
    (a13 : Memref sig .tc .vmem S64x512 .bf16) (h13 : a13.IsWhole) (a14 : Memref sig .tc .vmem S8x1x256x512 .f32) (h14 : a14.IsWhole)
    (x0 : Vec F S8 .f32) (x1 x2 : Vec F S64x256 .f32) (x3 x4 : Vec F S64x512 .f32) (x5 x6 : Vec F S64x128 .f32)
    (x7 : Vec F S1x1x512 .f32) (x8 x9 : Vec F S8x1x128x512 .f32) : Vec F S8x1x256x512 .f32 :=
  (Memref.whole cc2_stg11_0 : Memref sig .tc .vmem S8x1x256x512 .f32).view.read (Elt F)
    ((Memref.whole cc2_stg11_0 : Memref sig .tc .vmem S8x1x256x512 .f32).view.writes (Elt F)
      (Memref.whole cc2_stg11_0 : Memref sig .tc .vmem S8x1x256x512 .f32).view.junk
      (retRun c i a3 h3 a4 h4 a5 h5 a6 h6 a7 h7 a8 h8 a9 h9 a10 h10 a11 h11 a12 h12 a13 h13 a14 h14 x0 x1 x2 x3 x4 x5 x6 x7 x8 x9).2.1)

theorem retRows_of (c : Dev nD) (i : grid2.Coords) (a3 : Memref sig .tc .smem S8 .f32) (h3 : a3.IsWhole) (a4 : Memref sig .tc .vmem S64x256 .f32) (h4 : a4.IsWhole)
    (a5 : Memref sig .tc .vmem S64x256 .f32) (h5 : a5.IsWhole) (a6 : Memref sig .tc .vmem S64x512 .f32) (h6 : a6.IsWhole)
    (a7 : Memref sig .tc .vmem S64x512 .f32) (h7 : a7.IsWhole) (a8 : Memref sig .tc .vmem S64x128 .f32) (h8 : a8.IsWhole)
    (a9 : Memref sig .tc .vmem S64x128 .f32) (h9 : a9.IsWhole) (a10 : Memref sig .tc .vmem S1x1x512 .f32) (h10 : a10.IsWhole)
    (a11 : Memref sig .tc .vmem S8x1x128x512 .f32) (h11 : a11.IsWhole) (a12 : Memref sig .tc .vmem S8x1x128x512 .f32) (h12 : a12.IsWhole)
    (a13 : Memref sig .tc .vmem S64x512 .bf16) (h13 : a13.IsWhole) (a14 : Memref sig .tc .vmem S8x1x256x512 .f32) (h14 : a14.IsWhole)
    (x0 : Vec F S8 .f32) (x1 x2 : Vec F S64x256 .f32) (x3 x4 : Vec F S64x512 .f32) (x5 x6 : Vec F S64x128 .f32)
    (x7 : Vec F S1x1x512 .f32) (x8 x9 : Vec F S8x1x128x512 .f32) (f) :
    a13.view.read (Elt F) (a13.view.writes (Elt F) f
      (retRun c i a3 h3 a4 h4 a5 h5 a6 h6 a7 h7 a8 h8 a9 h9 a10 h10 a11 h11 a12 h12 a13 h13 a14 h14 x0 x1 x2 x3 x4 x5 x6 x7 x8 x9).1)
      = retRows c i a3 h3 a4 h4 a5 h5 a6 h6 a7 h7 a8 h8 a9 h9 a10 h10 a11 h11 a12 h12 a13 h13 a14 h14 x0 x1 x2 x3 x4 x5 x6 x7 x8 x9 :=
  View.read_writes_of_cover _ _ _ _ _
    (View.cover_of_tiledL (retRun c i a3 h3 a4 h4 a5 h5 a6 h6 a7 h7 a8 h8 a9 h9 a10 h10 a11 h11 a12 h12 a13 h13 a14 h14 x0 x1 x2 x3 x4 x5 x6 x7 x8 x9).1
      S64x512.size (by sl_kernel_rfl))

theorem retState_of (c : Dev nD) (i : grid2.Coords) (a3 : Memref sig .tc .smem S8 .f32) (h3 : a3.IsWhole) (a4 : Memref sig .tc .vmem S64x256 .f32) (h4 : a4.IsWhole)
    (a5 : Memref sig .tc .vmem S64x256 .f32) (h5 : a5.IsWhole) (a6 : Memref sig .tc .vmem S64x512 .f32) (h6 : a6.IsWhole)
    (a7 : Memref sig .tc .vmem S64x512 .f32) (h7 : a7.IsWhole) (a8 : Memref sig .tc .vmem S64x128 .f32) (h8 : a8.IsWhole)
    (a9 : Memref sig .tc .vmem S64x128 .f32) (h9 : a9.IsWhole) (a10 : Memref sig .tc .vmem S1x1x512 .f32) (h10 : a10.IsWhole)
    (a11 : Memref sig .tc .vmem S8x1x128x512 .f32) (h11 : a11.IsWhole) (a12 : Memref sig .tc .vmem S8x1x128x512 .f32) (h12 : a12.IsWhole)
    (a13 : Memref sig .tc .vmem S64x512 .bf16) (h13 : a13.IsWhole) (a14 : Memref sig .tc .vmem S8x1x256x512 .f32) (h14 : a14.IsWhole)
    (x0 : Vec F S8 .f32) (x1 x2 : Vec F S64x256 .f32) (x3 x4 : Vec F S64x512 .f32) (x5 x6 : Vec F S64x128 .f32)
    (x7 : Vec F S1x1x512 .f32) (x8 x9 : Vec F S8x1x128x512 .f32) (f) :
    a14.view.read (Elt F) (a14.view.writes (Elt F) f
      (retRun c i a3 h3 a4 h4 a5 h5 a6 h6 a7 h7 a8 h8 a9 h9 a10 h10 a11 h11 a12 h12 a13 h13 a14 h14 x0 x1 x2 x3 x4 x5 x6 x7 x8 x9).2.1)
      = retState c i a3 h3 a4 h4 a5 h5 a6 h6 a7 h7 a8 h8 a9 h9 a10 h10 a11 h11 a12 h12 a13 h13 a14 h14 x0 x1 x2 x3 x4 x5 x6 x7 x8 x9 :=
  View.read_writes_of_cover _ _ _ _ _
    (View.cover_of_tiledL (retRun c i a3 h3 a4 h4 a5 h5 a6 h6 a7 h7 a8 h8 a9 h9 a10 h10 a11 h11 a12 h12 a13 h13 a14 h14 x0 x1 x2 x3 x4 x5 x6 x7 x8 x9).2.1
      S1x1x256x512.size (by sl_kernel_rfl))

/-- The windows' current buffers at a point. -/
abbrev rm0 (t : Fin cfg2.N) : Memref sig .tc .smem S8 .f32 := win2_0.stage (cfg2.slots t 0)
abbrev rh0 (t : Fin cfg2.N) : (rm0 t).IsWhole := hstage2_0 ((cfg2.slots t 0).cast nbuf2_0)
abbrev rm1 (t : Fin cfg2.N) : Memref sig .tc .vmem S64x256 .f32 := win2_1.stage (cfg2.slots t 1)
abbrev rh1 (t : Fin cfg2.N) : (rm1 t).IsWhole := hstage2_1 ((cfg2.slots t 1).cast nbuf2_1)
abbrev rm2 (t : Fin cfg2.N) : Memref sig .tc .vmem S64x256 .f32 := win2_2.stage (cfg2.slots t 2)
abbrev rh2 (t : Fin cfg2.N) : (rm2 t).IsWhole := hstage2_2 ((cfg2.slots t 2).cast nbuf2_2)
abbrev rm3 (t : Fin cfg2.N) : Memref sig .tc .vmem S64x512 .f32 := win2_3.stage (cfg2.slots t 3)
abbrev rh3 (t : Fin cfg2.N) : (rm3 t).IsWhole := hstage2_3 ((cfg2.slots t 3).cast nbuf2_3)
abbrev rm4 (t : Fin cfg2.N) : Memref sig .tc .vmem S64x512 .f32 := win2_4.stage (cfg2.slots t 4)
abbrev rh4 (t : Fin cfg2.N) : (rm4 t).IsWhole := hstage2_4 ((cfg2.slots t 4).cast nbuf2_4)
abbrev rm5 (t : Fin cfg2.N) : Memref sig .tc .vmem S64x128 .f32 := win2_5.stage (cfg2.slots t 5)
abbrev rh5 (t : Fin cfg2.N) : (rm5 t).IsWhole := hstage2_5 ((cfg2.slots t 5).cast nbuf2_5)
abbrev rm6 (t : Fin cfg2.N) : Memref sig .tc .vmem S64x128 .f32 := win2_6.stage (cfg2.slots t 6)
abbrev rh6 (t : Fin cfg2.N) : (rm6 t).IsWhole := hstage2_6 ((cfg2.slots t 6).cast nbuf2_6)
abbrev rm7 (t : Fin cfg2.N) : Memref sig .tc .vmem S1x1x512 .f32 := win2_7.stage (cfg2.slots t 7)
abbrev rh7 (t : Fin cfg2.N) : (rm7 t).IsWhole := hstage2_7 ((cfg2.slots t 7).cast nbuf2_7)
abbrev rm8 (t : Fin cfg2.N) : Memref sig .tc .vmem S8x1x128x512 .f32 := win2_8.stage (cfg2.slots t 8)
abbrev rh8 (t : Fin cfg2.N) : (rm8 t).IsWhole := hstage2_8 ((cfg2.slots t 8).cast nbuf2_8)
abbrev rm9 (t : Fin cfg2.N) : Memref sig .tc .vmem S8x1x128x512 .f32 := win2_9.stage (cfg2.slots t 9)
abbrev rh9 (t : Fin cfg2.N) : (rm9 t).IsWhole := hstage2_9 ((cfg2.slots t 9).cast nbuf2_9)
abbrev rm10 (t : Fin cfg2.N) : Memref sig .tc .vmem S64x512 .bf16 := win2_10.stage (cfg2.slots t 10)
abbrev rh10 (t : Fin cfg2.N) : (rm10 t).IsWhole := hstage2_10 ((cfg2.slots t 10).cast nbuf2_10)
abbrev rm11 (t : Fin cfg2.N) : Memref sig .tc .vmem S8x1x256x512 .f32 := win2_11.stage (cfg2.slots t 11)
abbrev rh11 (t : Fin cfg2.N) : (rm11 t).IsWhole := hstage2_11 ((cfg2.slots t 11).cast nbuf2_11)

/-- The rows the body leaves at a point. -/
def rowsAt (c : Dev nD) (t : Fin cfg2.N) : Vec F S64x512 .bf16 :=
  retRows c (grid2.coords t) (rm0 t) (rh0 t) (rm1 t) (rh1 t) (rm2 t) (rh2 t) (rm3 t) (rh3 t) (rm4 t) (rh4 t) (rm5 t) (rh5 t) (rm6 t) (rh6 t) (rm7 t) (rh7 t) (rm8 t) (rh8 t) (rm9 t) (rh9 t) (rm10 t) (rh10 t) (rm11 t) (rh11 t)
    (rblk V c 0 t) (rblk V c 1 t) (rblk V c 2 t) (rblk V c 3 t) (rblk V c 4 t) (rblk V c 5 t) (rblk V c 6 t) (rblk V c 7 t) (rblk V c 8 t) (rblk V c 9 t)

/-- The states the body leaves at a point. -/
def stateAt (c : Dev nD) (t : Fin cfg2.N) : Vec F S8x1x256x512 .f32 :=
  retState c (grid2.coords t) (rm0 t) (rh0 t) (rm1 t) (rh1 t) (rm2 t) (rh2 t) (rm3 t) (rh3 t) (rm4 t) (rh4 t) (rm5 t) (rh5 t) (rm6 t) (rh6 t) (rm7 t) (rh7 t) (rm8 t) (rh8 t) (rm9 t) (rh9 t) (rm10 t) (rh10 t) (rm11 t) (rh11 t)
    (rblk V c 0 t) (rblk V c 1 t) (rblk V c 2 t) (rblk V c 3 t) (rblk V c 4 t) (rblk V c 5 t) (rblk V c 6 t) (rblk V c 7 t) (rblk V c 8 t) (rblk V c 9 t)

/-- The contents of the twelve windows' buffers after each point. Windows on one array share it. -/
def rdata (c : Dev nD) : Dat τ (Elt F) Unit ℕ (UR sig nD τ) ℕ cfg2 c where
  A w := V c (Pipeline.arrRef spec2 w)
  after w t := match w with
    | ⟨0, _⟩ => rblk V c 0 t
    | ⟨1, _⟩ => rblk V c 1 t
    | ⟨2, _⟩ => rblk V c 2 t
    | ⟨3, _⟩ => rblk V c 3 t
    | ⟨4, _⟩ => rblk V c 4 t
    | ⟨5, _⟩ => rblk V c 5 t
    | ⟨6, _⟩ => rblk V c 6 t
    | ⟨7, _⟩ => rblk V c 7 t
    | ⟨8, _⟩ => rblk V c 8 t
    | ⟨9, _⟩ => rblk V c 9 t
    | ⟨10, _⟩ => rowsAt V c t
    | ⟨11, _⟩ => stateAt V c t
  Φ _ := Pipeline.ΦA spec2 c
  q w := Pipeline.shareOf spec2 w
  owed _ := 0

theorem rdata_A (c : Dev nD) (w : Fin cfg2.W) : (rdata V c).A w = V c (Pipeline.arrRef spec2 w) := by dsimp only [rdata]
theorem rdata_10 (c : Dev nD) (t : Fin cfg2.N) : (rdata V c).after 10 t = rowsAt V c t := by dsimp only [rdata]
theorem rdata_11 (c : Dev nD) (t : Fin cfg2.N) : (rdata V c).after 11 t = stateAt V c t := by dsimp only [rdata]
theorem rdata_0 (c : Dev nD) (t : Fin cfg2.N) : (rdata V c).after 0 t = rblk V c 0 t := by dsimp only [rdata]
theorem rfound_0 (c : Dev nD) (t : Fin cfg2.N) (d) : (rdata V c).before 0 t d = rblk V c 0 t :=
  ((rdata V c).before_in_eq_fetched 0 rfl (fun _ => rfl) (fun _ _ _ => rfl)
    (fun t => by rw [rdata_0]; unfold Dat.blockOf rblk; rw [rdata_A]; try rfl) t d).trans
    (by unfold Dat.fetched Dat.blockOf rblk; rw [rdata_A]; try rfl)
theorem rdata_1 (c : Dev nD) (t : Fin cfg2.N) : (rdata V c).after 1 t = rblk V c 1 t := by dsimp only [rdata]
theorem rfound_1 (c : Dev nD) (t : Fin cfg2.N) (d) : (rdata V c).before 1 t d = rblk V c 1 t :=
  ((rdata V c).before_in_eq_fetched 1 rfl (fun _ => rfl) (fun _ _ _ => rfl)
    (fun t => by rw [rdata_1]; unfold Dat.blockOf rblk; rw [rdata_A]; try rfl) t d).trans
    (by unfold Dat.fetched Dat.blockOf rblk; rw [rdata_A]; try rfl)
theorem rdata_2 (c : Dev nD) (t : Fin cfg2.N) : (rdata V c).after 2 t = rblk V c 2 t := by dsimp only [rdata]
theorem rfound_2 (c : Dev nD) (t : Fin cfg2.N) (d) : (rdata V c).before 2 t d = rblk V c 2 t :=
  ((rdata V c).before_in_eq_fetched 2 rfl (fun _ => rfl) (fun _ _ _ => rfl)
    (fun t => by rw [rdata_2]; unfold Dat.blockOf rblk; rw [rdata_A]; try rfl) t d).trans
    (by unfold Dat.fetched Dat.blockOf rblk; rw [rdata_A]; try rfl)
theorem rdata_3 (c : Dev nD) (t : Fin cfg2.N) : (rdata V c).after 3 t = rblk V c 3 t := by dsimp only [rdata]
theorem rfound_3 (c : Dev nD) (t : Fin cfg2.N) (d) : (rdata V c).before 3 t d = rblk V c 3 t :=
  ((rdata V c).before_in_eq_fetched 3 rfl (fun _ => rfl) (fun _ _ _ => rfl)
    (fun t => by rw [rdata_3]; unfold Dat.blockOf rblk; rw [rdata_A]; try rfl) t d).trans
    (by unfold Dat.fetched Dat.blockOf rblk; rw [rdata_A]; try rfl)
theorem rdata_4 (c : Dev nD) (t : Fin cfg2.N) : (rdata V c).after 4 t = rblk V c 4 t := by dsimp only [rdata]
theorem rfound_4 (c : Dev nD) (t : Fin cfg2.N) (d) : (rdata V c).before 4 t d = rblk V c 4 t :=
  ((rdata V c).before_in_eq_fetched 4 rfl (fun _ => rfl) (fun _ _ _ => rfl)
    (fun t => by rw [rdata_4]; unfold Dat.blockOf rblk; rw [rdata_A]; try rfl) t d).trans
    (by unfold Dat.fetched Dat.blockOf rblk; rw [rdata_A]; try rfl)
theorem rdata_5 (c : Dev nD) (t : Fin cfg2.N) : (rdata V c).after 5 t = rblk V c 5 t := by dsimp only [rdata]
theorem rfound_5 (c : Dev nD) (t : Fin cfg2.N) (d) : (rdata V c).before 5 t d = rblk V c 5 t :=
  ((rdata V c).before_in_eq_fetched 5 rfl (fun _ => rfl) (fun _ _ _ => rfl)
    (fun t => by rw [rdata_5]; unfold Dat.blockOf rblk; rw [rdata_A]; try rfl) t d).trans
    (by unfold Dat.fetched Dat.blockOf rblk; rw [rdata_A]; try rfl)
theorem rdata_6 (c : Dev nD) (t : Fin cfg2.N) : (rdata V c).after 6 t = rblk V c 6 t := by dsimp only [rdata]
theorem rfound_6 (c : Dev nD) (t : Fin cfg2.N) (d) : (rdata V c).before 6 t d = rblk V c 6 t :=
  ((rdata V c).before_in_eq_fetched 6 rfl (fun _ => rfl) (fun _ _ _ => rfl)
    (fun t => by rw [rdata_6]; unfold Dat.blockOf rblk; rw [rdata_A]; try rfl) t d).trans
    (by unfold Dat.fetched Dat.blockOf rblk; rw [rdata_A]; try rfl)
theorem rdata_7 (c : Dev nD) (t : Fin cfg2.N) : (rdata V c).after 7 t = rblk V c 7 t := by dsimp only [rdata]
theorem rfound_7 (c : Dev nD) (t : Fin cfg2.N) (d) : (rdata V c).before 7 t d = rblk V c 7 t :=
  ((rdata V c).before_in_eq_fetched 7 rfl (fun _ => rfl) (fun _ _ _ => rfl)
    (fun t => by rw [rdata_7]; unfold Dat.blockOf rblk; rw [rdata_A]; try rfl) t d).trans
    (by unfold Dat.fetched Dat.blockOf rblk; rw [rdata_A]; try rfl)
theorem rdata_8 (c : Dev nD) (t : Fin cfg2.N) : (rdata V c).after 8 t = rblk V c 8 t := by dsimp only [rdata]
theorem rfound_8 (c : Dev nD) (t : Fin cfg2.N) (d) : (rdata V c).before 8 t d = rblk V c 8 t :=
  ((rdata V c).before_in_eq_fetched 8 rfl (fun _ => rfl) (fun _ _ _ => rfl)
    (fun t => by rw [rdata_8]; unfold Dat.blockOf rblk; rw [rdata_A]; try rfl) t d).trans
    (by unfold Dat.fetched Dat.blockOf rblk; rw [rdata_A]; try rfl)
theorem rdata_9 (c : Dev nD) (t : Fin cfg2.N) : (rdata V c).after 9 t = rblk V c 9 t := by dsimp only [rdata]
theorem rfound_9 (c : Dev nD) (t : Fin cfg2.N) (d) : (rdata V c).before 9 t d = rblk V c 9 t :=
  ((rdata V c).before_in_eq_fetched 9 rfl (fun _ => rfl) (fun _ _ _ => rfl)
    (fun t => by rw [rdata_9]; unfold Dat.blockOf rblk; rw [rdata_A]; try rfl) t d).trans
    (by unfold Dat.fetched Dat.blockOf rblk; rw [rdata_A]; try rfl)

/-- What the body is called with. -/
def rpre (c : Dev nD) (t : Fin cfg2.N) : sProp 𝕄 :=
  iprop((rdata V c).Φ t.castSucc ∗ (rdata V c).owesAt () t.castSucc
    ∗ (∃ d, owns (c : Thread nD τ) (rm0 t) fullShare ((rdata V c).before 0 t d))
    ∗ (∃ d, owns (c : Thread nD τ) (rm1 t) fullShare ((rdata V c).before 1 t d))
    ∗ (∃ d, owns (c : Thread nD τ) (rm2 t) fullShare ((rdata V c).before 2 t d))
    ∗ (∃ d, owns (c : Thread nD τ) (rm3 t) fullShare ((rdata V c).before 3 t d))
    ∗ (∃ d, owns (c : Thread nD τ) (rm4 t) fullShare ((rdata V c).before 4 t d))
    ∗ (∃ d, owns (c : Thread nD τ) (rm5 t) fullShare ((rdata V c).before 5 t d))
    ∗ (∃ d, owns (c : Thread nD τ) (rm6 t) fullShare ((rdata V c).before 6 t d))
    ∗ (∃ d, owns (c : Thread nD τ) (rm7 t) fullShare ((rdata V c).before 7 t d))
    ∗ (∃ d, owns (c : Thread nD τ) (rm8 t) fullShare ((rdata V c).before 8 t d))
    ∗ (∃ d, owns (c : Thread nD τ) (rm9 t) fullShare ((rdata V c).before 9 t d))
    ∗ (∃ d, owns (c : Thread nD τ) (rm10 t) fullShare ((rdata V c).before 10 t d))
    ∗ (∃ d, owns (c : Thread nD τ) (rm11 t) fullShare ((rdata V c).before 11 t d)))

/-- What it returns. -/
def rpost (c : Dev nD) (t : Fin cfg2.N) : sProp 𝕄 :=
  iprop((rdata V c).Φ t.succ ∗ (rdata V c).owesAt () t.succ
    ∗ owns (c : Thread nD τ) (rm0 t) fullShare ((rdata V c).after 0 t)
    ∗ owns (c : Thread nD τ) (rm1 t) fullShare ((rdata V c).after 1 t)
    ∗ owns (c : Thread nD τ) (rm2 t) fullShare ((rdata V c).after 2 t)
    ∗ owns (c : Thread nD τ) (rm3 t) fullShare ((rdata V c).after 3 t)
    ∗ owns (c : Thread nD τ) (rm4 t) fullShare ((rdata V c).after 4 t)
    ∗ owns (c : Thread nD τ) (rm5 t) fullShare ((rdata V c).after 5 t)
    ∗ owns (c : Thread nD τ) (rm6 t) fullShare ((rdata V c).after 6 t)
    ∗ owns (c : Thread nD τ) (rm7 t) fullShare ((rdata V c).after 7 t)
    ∗ owns (c : Thread nD τ) (rm8 t) fullShare ((rdata V c).after 8 t)
    ∗ owns (c : Thread nD τ) (rm9 t) fullShare ((rdata V c).after 9 t)
    ∗ owns (c : Thread nD τ) (rm10 t) fullShare ((rdata V c).after 10 t)
    ∗ owns (c : Thread nD τ) (rm11 t) fullShare ((rdata V c).after 11 t))

set_option maxHeartbeats 1200000 in
theorem rsound (c : Dev nD) (t : Fin cfg2.N) :
    rpre V c t ⊢ wp frame (wpE (defs₀ (F := F)) Variants.none c none) Set.univ (bodyAt2 t) (fun _ => rpost V c t) := by
  unfold rpre rpost bodyAt2
  simp only [rfound_0, rfound_1, rfound_2, rfound_3, rfound_4, rfound_5, rfound_6, rfound_7, rfound_8, rfound_9]
  rw [show (rdata V c).Φ t.succ = (rdata V c).Φ t.castSucc from rfl,
    show (rdata V c).owesAt () t.succ = (rdata V c).owesAt () t.castSucc from rfl,
    rdata_0, rdata_1, rdata_2, rdata_3, rdata_4, rdata_5, rdata_6, rdata_7, rdata_8, rdata_9, rdata_10, rdata_11]
  unfold rowsAt stateAt
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((retRun c (grid2.coords t) _ _ _ _ _ _ _ _ _ _ _ _ _ _ _ _ _ _ _ _ _ _ _ _
    (rblk V c 0 t) (rblk V c 1 t) (rblk V c 2 t) (rblk V c 3 t) (rblk V c 4 t) (rblk V c 5 t) (rblk V c 6 t) (rblk V c 7 t) (rblk V c 8 t) (rblk V c 9 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact retRows_of c _ _ _ _ _ _ _ _ _ _ _ _ _ _ _ _ _ _ _ _ _ _ _ _ _ _ _ _ _ _ _ _ _ _ _ _
  unfold owns; iexists _; isplitr
  swap; · iexact H11
  ipureintro; exact retState_of c _ _ _ _ _ _ _ _ _ _ _ _ _ _ _ _ _ _ _ _ _ _ _ _ _ _ _ _ _ _ _ _ _ _ _ _

theorem robligation (c : Dev nD) : BodyObligation (rdata (F := F) V c) (defs₀ (F := F)) Variants.none () Set.univ := fun t => by
  rw [bigSep_W2, bigSep_W2, show defs₀ (F := F) .tc cfg2.body (cfg2.bodyArgs t (cfg2.slots t)) = bodyAt2 t from by
    unfold defs₀; rw [Defs.onTc_tc]]
  exact triple_restated (rsound V c t) rfl .rfl fun _ => .rfl

end Cert.RetLayerProof

end
-- ==== Proof.LayerRun.lean ====
/- The run of the whole step: the host lines before the first call, the norm, the projection, the host lines before the third
   call, the retention. The contents of the buffers are followed from one to the next. At the end every buffer that outlives a
   call holds what the last boundary says, every argument what it held at the start, and every counter is zero. -/
module

public import proofs.«01_k».proof.Proof.Gen.RetLayerIdeal.Regions
public import proofs.«01_k».proof.Proof.LayerNorm
public import proofs.«01_k».proof.Proof.LayerProd
public import proofs.«01_k».proof.Proof.LayerRet

public import Idealize.ShloMosaic.Lib.Pipeline.FrameBody
public import Idealize.ShloMosaic.Lib.Pipeline.RegionsLoop
public import Idealize.ShloMosaic.Lib.Pipeline.FrameSuffix
public import Idealize.ShloMosaic.Lib.Pipeline.ValueKit
public import Idealize.ShloMosaic.Lib.Pipeline.ValueKit.Held
public import Idealize.ShloMosaic.Lib.Ring
public import Idealize.ShloMosaic.Lib.Tactic
public import Idealize.ShloMosaic.Lib.WordCmp

@[expose] public section

set_option maxRecDepth 16384

noncomputable section

namespace Cert.RetLayerProof

open Cert.RetLayerIdeal Cert.RetLayerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (l : Loc nD τ sig) → Buf (Elt F) l) (ρ : Dev nD → PrngReg)

/-- The argument arrays. -/
abbrev argRefs : List (Ref sig .tc) := [main_arg0, main_arg1, main_arg2, main_arg3, main_arg4, main_arg5]

/-! ## The contents at each boundary -/

/-- At the start. -/
abbrev B0 : Dev nD → Valuation τ sig (Elt F) := fun c b => m ((c : Dev nD), b)
/-- After the first host lines. -/
abbrev B1 : Dev nD → Valuation τ sig (Elt F) := fun c => StableHlo.after hostOps0 (B0 m c)
abbrev T1 : (c : Dev nD) → (b : Ref sig .tc) → Buf (Elt F) ((c : Thread nD τ).loc b) := fun c b => B1 m c b
/-- After the norm. -/
def B2 (c : Dev nD) : Valuation τ sig (Elt F) :=
  Pipeline.withArrays spec0 c (B1 m c) fun w => (ndata (T1 m) c).arrAt w cfg0.N
abbrev T2 : (c : Dev nD) → (b : Ref sig .tc) → Buf (Elt F) ((c : Thread nD τ).loc b) := fun c b => B2 m c b
/-- After the projection. -/
def B3 (c : Dev nD) : Valuation τ sig (Elt F) :=
  Pipeline.withArrays spec1 c (B2 m c) fun w => (pdata (T2 m) c).arrAt w cfg1.N
abbrev T3 : (c : Dev nD) → (b : Ref sig .tc) → Buf (Elt F) ((c : Thread nD τ).loc b) := fun c b => B3 m c b
/-- After the second host lines. -/
abbrev B4 : Dev nD → Valuation τ sig (Elt F) := fun c => StableHlo.after hostOps2 (B3 m c)
abbrev T4 : (c : Dev nD) → (b : Ref sig .tc) → Buf (Elt F) ((c : Thread nD τ).loc b) := fun c b => B4 m c b
/-- After the retention. -/
def B5 (c : Dev nD) : Valuation τ sig (Elt F) :=
  Pipeline.withArrays spec2 c (B4 m c) fun w => (rdata (T4 m) c).arrAt w cfg2.N
abbrev T5 : (c : Dev nD) → (b : Ref sig .tc) → Buf (Elt F) ((c : Thread nD τ).loc b) := fun c b => B5 m c b

theorem B1_of (c : Dev nD) (r : Ref sig .tc) (h : r ∉ hostOps0_W) : B1 m c (Proc.devRef .tc r) = B0 m c (Proc.devRef .tc r) :=
  StableHlo.after_of_writes_sub hostOps0 _ hostOps0_writes h
theorem B4_of (c : Dev nD) (r : Ref sig .tc) (h : r ∉ hostOps2_W) : B4 m c (Proc.devRef .tc r) = B3 m c (Proc.devRef .tc r) :=
  StableHlo.after_of_writes_sub hostOps2 _ hostOps2_writes h

theorem B2_arr (c : Dev nD) (w : Fin cfg0.W) :
    B2 m c (Proc.devRef .tc (Pipeline.arrRef spec0 w)) = (ndata (T1 m) c).arrAt w cfg0.N := by
  unfold B2; exact Pipeline.withArrays_arr spec0 launch0.win.arr_inj c _ _ w
theorem B2_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- A buffer that is no output of the call keeps its contents. -/
theorem B2_of (c : Dev nD) (r : Ref sig .tc) (h : ∀ w : Fin cfg0.W, Pipeline.arrRef spec0 w = r → (cfg0.win w).isOut = false) :
    B2 m c (Proc.devRef .tc r) = B1 m c (Proc.devRef .tc r) := by
  by_cases hw : ∃ w : Fin cfg0.W, Pipeline.arrRef spec0 w = r
  · obtain ⟨w, rfl⟩ := hw
    exact (B2_arr m c w).trans (((ndata (T1 m) c).arrAt_in w (h w rfl) _).trans (ndata_A (T1 m) c w))
  · exact B2_ne m c r fun w e => hw ⟨w, e⟩
theorem keeps0 : ∀ a ∈ argRefs, ∀ w : Fin cfg0.W, Pipeline.arrRef spec0 w = a → (cfg0.win w).isOut = false :=
  ListAll.forall_mem_of_all_decide (by decide +kernel)
theorem rest0 (c : Dev nD) : ∀ b, b ∉ Finset.univ.image (Pipeline.arrRef spec0) → T2 m c b = T1 m c b :=
  fun b hb => B2_ne m c b fun w e => hb (Finset.mem_image.mpr ⟨w, Finset.mem_univ _, e⟩)

theorem B3_arr (c : Dev nD) (w : Fin cfg1.W) :
    B3 m c (Proc.devRef .tc (Pipeline.arrRef spec1 w)) = (pdata (T2 m) c).arrAt w cfg1.N := by
  unfold B3; exact Pipeline.withArrays_arr spec1 launch1.win.arr_inj c _ _ w
theorem B3_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
/-- A buffer that is no output of the call keeps its contents. -/
theorem B3_of (c : Dev nD) (r : Ref sig .tc) (h : ∀ w : Fin cfg1.W, Pipeline.arrRef spec1 w = r → (cfg1.win w).isOut = false) :
    B3 m c (Proc.devRef .tc r) = B2 m c (Proc.devRef .tc r) := by
  by_cases hw : ∃ w : Fin cfg1.W, Pipeline.arrRef spec1 w = r
  · obtain ⟨w, rfl⟩ := hw
    exact (B3_arr m c w).trans (((pdata (T2 m) c).arrAt_in w (h w rfl) _).trans (pdata_A (T2 m) c w))
  · exact B3_ne m c r fun w e => hw ⟨w, e⟩
theorem keeps1 : ∀ a ∈ argRefs, ∀ w : Fin cfg1.W, Pipeline.arrRef spec1 w = a → (cfg1.win w).isOut = false :=
  ListAll.forall_mem_of_all_decide (by decide +kernel)
theorem rest1 (c : Dev nD) : ∀ b, b ∉ Finset.univ.image (Pipeline.arrRef spec1) → T3 m c b = T2 m c b :=
  fun b hb => B3_ne m c b fun w e => hb (Finset.mem_image.mpr ⟨w, Finset.mem_univ _, e⟩)

theorem B5_arr (c : Dev nD) (w : Fin cfg2.W) :
    B5 m c (Proc.devRef .tc (Pipeline.arrRef spec2 w)) = (rdata (T4 m) c).arrAt w cfg2.N := by
  unfold B5; exact (rdata (T4 m) c).withArrays_arrAt launch₀2.sharedIn _ (rdata_A (T4 m) c) w
theorem B5_ne (c : Dev nD) (b : Ref sig .tc) (hb : ∀ w, Pipeline.arrRef spec2 w ≠ b) :
    B5 m c (Proc.devRef .tc b) = B4 m c (Proc.devRef .tc b) := by
  unfold B5; exact Pipeline.withArrays_of_ne spec2 c _ _ b hb
/-- A buffer that is no output of the call keeps its contents. -/
theorem B5_of (c : Dev nD) (r : Ref sig .tc) (h : ∀ w : Fin cfg2.W, Pipeline.arrRef spec2 w = r → (cfg2.win w).isOut = false) :
    B5 m c (Proc.devRef .tc r) = B4 m c (Proc.devRef .tc r) := by
  by_cases hw : ∃ w : Fin cfg2.W, Pipeline.arrRef spec2 w = r
  · obtain ⟨w, rfl⟩ := hw
    exact (B5_arr m c w).trans (((rdata (T4 m) c).arrAt_in w (h w rfl) _).trans (rdata_A (T4 m) c w))
  · exact B5_ne m c r fun w e => hw ⟨w, e⟩
theorem keeps2 : ∀ a ∈ argRefs, ∀ w : Fin cfg2.W, Pipeline.arrRef spec2 w = a → (cfg2.win w).isOut = false :=
  ListAll.forall_mem_of_all_decide (by decide +kernel)
theorem rest2 (c : Dev nD) : ∀ b, b ∉ Finset.univ.image (Pipeline.arrRef spec2) → T5 m c b = T4 m c b :=
  fun b hb => B5_ne m c b fun w e => hb (Finset.mem_image.mpr ⟨w, Finset.mem_univ _, e⟩)

theorem lines0_args : ∀ a ∈ argRefs, a ∉ hostOps0_W := ListAll.forall_mem_of_all_decide (by decide +kernel)
theorem lines2_args : ∀ a ∈ argRefs, a ∉ hostOps2_W := ListAll.forall_mem_of_all_decide (by decide +kernel)

/-- An argument keeps its contents throughout. -/
theorem B3_args (c : Dev nD) (a) (ha : a ∈ argRefs) : B3 m c (Proc.devRef .tc a) = m ((c : Thread nD τ).loc a) :=
  (B3_of m c a (keeps1 a ha)).trans ((B2_of m c a (keeps0 a ha)).trans (B1_of m c a (lines0_args a ha)))
theorem B5_args (c : Dev nD) (a) (ha : a ∈ argRefs) : B5 m c (Proc.devRef .tc a) = m ((c : Thread nD τ).loc a) :=
  (B5_of m c a (keeps2 a ha)).trans ((B4_of m c a (lines2_args a ha)).trans (B3_args m c a ha))

/-! ## The calls and the host lines as segments -/

/-- The contents of the three calls' windows, each from its own boundary. -/
def allData : (p : Fin 3) → (c : Dev nD) → Dat τ (Elt F) Unit ℕ (UR sig nD τ) ℕ (Pipeline.pin (pcfgs (F := F)) adm p) c
  | ⟨0, _⟩ => fun c => ndata (T1 m) c
  | ⟨1, _⟩ => fun c => pdata (T2 m) c
  | ⟨2, _⟩ => fun c => rdata (T4 m) c

abbrev noVariants : Variants := Variants.none
abbrev noDues : GSem nD τ sig → Finset Unit := fun _ => ∅
abbrev noLevel : GSem nD τ sig → Unit → ℕ := fun _ _ => 0

/-- What goes beside the buffers from segment to segment: the generator register, and nothing owed. -/
abbrev Beside (c : Dev nD) : sProp 𝕄 := iprop((∃ r, prngReg c r) ∗ ∃ W, owes (c : Thread nD τ) (0 : CellTallies nD τ sig Unit) W)

/-- Host lines as a segment, from given contents. -/
abbrev lines (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noDues noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The state at the end. -/
abbrev Last (c : Dev nD) : sProp 𝕄 := iprop(StableHlo.held (c : Thread nD τ) (Pipeline.ucRefs τ sig) (B5 m c) ∗ ∃ r, prngReg c r)

set_option backward.isDefEq.respectTransparency.types false in
/-- The norm as a segment. Its arrays are taken out of the buffers and put back. -/
def call0 : Pipeline.RegionSeg (pcfgs (F := F)) adm (allData m) () defs₀ noVariants noDues noLevel 0 where
  win := launch0.win.to₀
  block_pos := launch0.block_pos
  stage_whole := launch0.stage_whole
  K := PEmpty
  osem k := k.elim
  ho := Pipeline.OwnSemFacts.none _
  hbody c := (nobligation (T1 m) c).loose
  hwaits := Pipeline.hwaits_of_owed_zero _ _ _ _ noDues noLevel 0 fun _ _ => rfl
  pre c := iprop(StableHlo.held (c : Thread nD τ) (Pipeline.ucRefs τ sig) (B1 m c) ∗ Beside c)
  post c := iprop(StableHlo.held (c : Thread nD τ) (Pipeline.ucRefs τ sig) (B2 m c) ∗ Beside c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) adm (allData m) launch0.win launch0.arr_whole c
      ((allData m 0 c).share_full fun _ => rfl) (T1 m c) (ndata_A (T1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 0 c).Φ 0 = Pipeline.ΦA spec0 c from rfl]; unfold Pipeline.ΦA
    iintro ⟨Hp, -, Hr⟩
    isplitl [Hr]; · iexact Hr
    iexact Hp
  hout c := by
    rw [Pipeline.ownSems0_none, show (allData m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (allData m) ((allData m 0 c).share_full fun _ => rfl)
      (T1 m c) (T2 m c) ((allData m 0 c).arrAt · cfg0.N) (fun w => (B2_arr m c w).symm) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The projection as a segment. Its arrays are taken out of the buffers and put back. -/
def call1 : Pipeline.RegionSeg (pcfgs (F := F)) adm (allData m) () defs₀ noVariants noDues noLevel 1 where
  win := launch1.win.to₀
  block_pos := launch1.block_pos
  stage_whole := launch1.stage_whole
  K := PEmpty
  osem k := k.elim
  ho := Pipeline.OwnSemFacts.none _
  hbody c := (pobligation (T2 m) c).loose
  hwaits := Pipeline.hwaits_of_owed_zero _ _ _ _ noDues noLevel 1 fun _ _ => rfl
  pre c := iprop(StableHlo.held (c : Thread nD τ) (Pipeline.ucRefs τ sig) (B2 m c) ∗ Beside c)
  post c := iprop(StableHlo.held (c : Thread nD τ) (Pipeline.ucRefs τ sig) (B3 m c) ∗ Beside c)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := Pipeline.arrays_of_unscopedBufs (p := 1) (pcfgs (F := F)) adm (allData m) launch1.win launch1.arr_whole c
      ((allData m 1 c).share_full fun _ => rfl) (T2 m c) (pdata_A (T2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (inv_enter (T2 m) c)
    unfold Pipeline.ΦA
    iintro ⟨Hp, -, Hr⟩
    isplitl [Hr]; · iexact Hr
    iexact Hp
  hout c := by
    rw [Pipeline.ownSems0_none]
    refine Idealize.SL.BI.BIBase.Entails.trans (inv_leave (T2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (allData m) ((allData m 1 c).share_full fun _ => rfl)
      (T2 m c) (T3 m c) ((allData m 1 c).arrAt · cfg1.N) (fun w => (B3_arr m c w).symm) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The retention as a segment. Its arrays are taken out of the buffers and put back. -/
def call2 : Pipeline.RegionSeg (pcfgs (F := F)) adm (allData m) () defs₀ noVariants noDues noLevel 2 where
  win := launch₀2.win
  block_pos := launch₀2.block_pos
  stage_whole := launch₀2.stage_whole
  K := PEmpty
  osem k := k.elim
  ho := Pipeline.OwnSemFacts.none _
  hbody c := (robligation (T4 m) c).loose
  hwaits := Pipeline.hwaits_of_owed_zero _ _ _ _ noDues noLevel 2 fun _ _ => rfl
  pre c := iprop(StableHlo.held (c : Thread nD τ) (Pipeline.ucRefs τ sig) (B4 m c) ∗ Beside c)
  post c := iprop(Last m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (T4 m c)
  hentry c := by
    rw [Pipeline.ownSems0_none]
    have hsplit := Pipeline.arrays_of_unscopedBufs_shared (p := 2) (pcfgs (F := F)) adm (allData m) launch₀2.win launch₀2.sharedIn launch₀2.arr_whole c
      (fun _ _ => rfl) (T4 m c) (rdata_A (T4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allData m 2 c).Φ 0 = Pipeline.ΦA spec2 c from rfl]; unfold Pipeline.ΦA
    iintro ⟨Hp, -, Hr⟩
    isplitl [Hr]; · iexact Hr
    iexact Hp
  hout c := by
    rw [Pipeline.ownSems0_none, show (allData m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (allData m) (fun _ _ => rfl)
      (T4 m c) (T5 m c) ((allData m 2 c).arrAt · cfg2.N) (fun w => (B5_arr m c w).symm) (rest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The step's segments in order. -/
abbrev parts : List (Pipeline.Seg (pcfgs (F := F)) adm (allData m) () defs₀ noVariants noDues noLevel) :=
  [ .host (lines hostOps0 hostOps0_sub hostOps0_fresh (B0 m)),
    .region (call0 m),
    .region (call1 m),
    .host (lines hostOps2 hostOps2_sub hostOps2_fresh (B3 m)),
    .region (call2 m) ]

theorem main_parts (c : Dev nD) : main (F := F) c = Pipeline.Seg.run (parts m) := (main_chain c).trans (by chain_rfl)

theorem none_unscoped : ∀ sm : SemLoc sig, sm.isScoped .tc = true := by decide

set_option backward.isDefEq.respectTransparency.types false in
/-- The run: at the end the buffers hold the last boundary's contents, and the counters are zero. -/
theorem run_parts : θ_run defs (onTc (τ := τ) (main (F := F))) ⟨m, fun _ => 0, ρ⟩ (fun r =>
    (∀ c : Dev nD, ∀ b ∈ Pipeline.ucRefs τ sig, r.2.mem (((c : Thread nD τ)).1, b) = B5 m c b) ∧ r.2.sem = fun _ => 0) :=
  Pipeline.θ_run_regions_kit_sems (pcfgs (F := F)) adm (allData m) () cellOf_inj emb₁ defs₀ noVariants noDues noLevel m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Beside c)) (Tₙ := Last m)
    (hch := ⟨fun _ => .rfl, fun _ => .rfl, fun _ => .rfl, fun _ => .rfl, fun _ => .rfl, fun _ => .rfl⟩)
    (hinit := by
      refine Pipeline.initEach noDues noLevel fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h hz => ⟨h, funext fun g => hz g (.inr (none_unscoped g.2))⟩)

/-- Every argument ends as it began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c _ (mem_uc main_arg0 (by decide))).trans (B5_args m c _ (by decide)),
     (h.1 c _ (mem_uc main_arg1 (by decide))).trans (B5_args m c _ (by decide)),
     (h.1 c _ (mem_uc main_arg2 (by decide))).trans (B5_args m c _ (by decide)),
     (h.1 c _ (mem_uc main_arg3 (by decide))).trans (B5_args m c _ (by decide)),
     (h.1 c _ (mem_uc main_arg4 (by decide))).trans (B5_args m c _ (by decide)),
     (h.1 c _ (mem_uc main_arg5 (by decide))).trans (B5_args m c _ (by decide))⟩, h.2⟩) (run_parts m ρ)

/-- Where the step's two results end: what the third call leaves in its output arrays. -/
theorem run_results : θ_run defs (onTc (τ := τ) (main (F := F))) ⟨m, fun _ => 0, ρ⟩ (fun r => ∀ c : Dev nD,
      r.2.mem ((c.tc : Thread nD τ).loc main_v41_0) = (rdata (T4 m) c).arrAt 10 cfg2.N
      ∧ r.2.mem ((c.tc : Thread nD τ).loc main_v41_1) = (rdata (T4 m) c).arrAt 11 cfg2.N) :=
  (θ_run defs _ _).mono (fun r h c =>
    ⟨(h.1 c _ (mem_uc main_v41_0 (by decide))).trans (B5_arr m c 10),
     (h.1 c _ (mem_uc main_v41_1 (by decide))).trans (B5_arr m c 11)⟩) (run_parts m ρ)

end Cert.RetLayerProof

end
-- ==== Proof.LayerTail.lean ====
module

public import proofs.«01_k».proof.Proof.LayerRun
public import proofs.«01_k».proof.Proof.RetEq

@[expose] public section

/-!
# The retention of the joined program

The third call is the sample retention, and what it leaves is stated with the functions of one sequence that the retention's
own program is stated with. Here the body casts each sequence's rows to the shape they have, which changes nothing.
-/

set_option maxRecDepth 16384

noncomputable section

namespace Cert.RetLayerProof

open Cert.RetLayerIdeal Cert.RetLayerIdeal.Gen Idealize.ShloMosaic Idealize.ShloMosaic.TcCoe Idealize.SL.Sem
open Cert.RetSample (seqState seqOut stateBlk keyBlk inState rows128 rows256 rows512 normBlk mixBlk rotBlk)

variable {F : FTy → Type} [FloatOps F]

/-- The logarithm of the decay of the head that grid point `t` works on, read off the table. -/
def lgOf (X : Vec F S8 .f32) (t : Fin cfg2.N) : Elt F .f32 :=
  View.ld X (Rect.unit (s := S8) (k2_off1 (grid2.coords t)) S1.size (k2_off1_inb (grid2.coords t)))
    (Shape.Idx.first (show 0 < S1.numel by decide))

/-- The rows of a sequence's queries or keys, cast to the shape they have. -/
def same256 (X : FVec F S8x256 .f32) : FVec F S8x256 .f32 := shapeCast S8x256 X shapeCasts_S8x256_S8x256
/-- The rows of a sequence's values or gates, cast to the shape they have. -/
def same512 (X : FVec F S8x512 .f32) : FVec F S8x512 .f32 := shapeCast S8x512 X shapeCasts_S8x512_S8x512

theorem same256_eq (X : FVec F S8x256 .f32) : same256 X = X := shapeCast_self X _
theorem same512_eq (X : FVec F S8x512 .f32) : same512 X = X := shapeCast_self X _

/-- The state sequence `s` leaves, as the joined program's body writes it. -/
def castState (lg : Elt F .f32) (k : Vec F S64x256 .f32) (v : Vec F S64x512 .f32) (co si : Vec F S64x128 .f32)
    (A B : Vec F S8x1x128x512 .f32) (s : Fin 8) : FVec F S256x512 .f32 :=
  stateBlk (k2_pay6 lg) (k2_pay7 lg) (inState A B s)
    (keyBlk (rows128 co s) (rows128 si s) (same256 (rows256 k s))) (same512 (rows512 v s))

theorem castState_eq (lg : Elt F .f32) (k : Vec F S64x256 .f32) (v : Vec F S64x512 .f32) (co si : Vec F S64x128 .f32)
    (A B : Vec F S8x1x128x512 .f32) (s : Fin 8) : castState lg k v co si A B s = seqState lg k v co si A B s := by
  unfold castState seqState
  rw [same256_eq, same512_eq]
  rfl

/-- The output of sequence `s`, as the joined program's body writes it. -/
def castOut (lg : Elt F .f32) (gn : Vec F S1x1x512 .f32) (q k : Vec F S64x256 .f32) (v g : Vec F S64x512 .f32)
    (co si : Vec F S64x128 .f32) (A B : Vec F S8x1x128x512 .f32) (s : Fin 8) : FVec F S8x512 .f32 :=
  normBlk (k2_pay8 gn)
    (mixBlk (k2_pay4 lg) (k2_pay5 lg) (inState A B s) (rotBlk (rows128 co s) (rows128 si s) (same256 (rows256 q s)))
      (keyBlk (rows128 co s) (rows128 si s) (same256 (rows256 k s))) (same512 (rows512 v s))) (same512 (rows512 g s))

theorem castOut_eq (lg : Elt F .f32) (gn : Vec F S1x1x512 .f32) (q k : Vec F S64x256 .f32) (v g : Vec F S64x512 .f32)
    (co si : Vec F S64x128 .f32) (A B : Vec F S8x1x128x512 .f32) (s : Fin 8) :
    castOut lg gn q k v g co si A B s = seqOut lg gn q k v g co si A B s := by
  unfold castOut seqOut
  rw [same256_eq, same256_eq, same512_eq, same512_eq]
  rfl

variable (V : (c : Dev nD) → (b : Ref sig .tc) → Buf (Elt F) ((c : Thread nD τ).loc b))

set_option maxHeartbeats 2000000 in
/-- The final states after the call are `G`, if at each grid point the state each sequence leaves is `G` there. -/
theorem state_array (c : Dev nD) (G : Vec F S128x8x256x512 .f32)
    (hG : ∀ (t : Fin cfg2.N) (s : Fin 8) (y : S1x1x256x512.Idx) (z : S8x1x256x512.Idx),
      (z 0).val = s.val + (y 0).val → (z 2).val = (y 2).val → (z 3).val = (y 3).val →
      k2_pay1 (castState (lgOf (rblk V c 0 t) t) (rblk V c 2 t) (rblk V c 3 t) (rblk V c 5 t) (rblk V c 6 t) (rblk V c 8 t)
        (rblk V c 9 t) s) y = G (((cfg2.win 11).blk t).view.emb z)) :
    (rdata V c).arrAt 11 cfg2.N = G := by
  refine (rdata V c).arrAt_eq_of_covers 11 _ (by decide +kernel) fun t hf y => ?_
  blk_simp
  rw [rdata_11]
  unfold stateAt retState
  frame_out
  canon_tiles y h
  · exact hG t 7 _ _ h0 h2 h3
  · exact hG t 6 _ _ h0 h2 h3
  · exact hG t 5 _ _ h0 h2 h3
  · exact hG t 4 _ _ h0 h2 h3
  · exact hG t 3 _ _ h0 h2 h3
  · exact hG t 2 _ _ h0 h2 h3
  · exact hG t 1 _ _ h0 h2 h3
  · exact hG t 0 _ _ (h0.trans (Nat.zero_add _).symm) h2 h3

set_option maxHeartbeats 2000000 in
/-- The outputs after the call are `G`, if at each grid point the output of each sequence is `G` there. -/
theorem out_array (c : Dev nD) (G : Vec F S1024x4096 .bf16)
    (hG : ∀ (t : Fin cfg2.N) (z : S64x512.Idx),
      truncf .bf16 (concatenate S64x512 0 (List.ofFn fun s : Fin 8 => ⟨S8x512, castOut (lgOf (rblk V c 0 t) t) (rblk V c 7 t)
        (rblk V c 1 t) (rblk V c 2 t) (rblk V c 3 t) (rblk V c 4 t) (rblk V c 5 t) (rblk V c 6 t) (rblk V c 8 t) (rblk V c 9 t) s⟩)
        concatenates_S8x512_S8x512_S8x512_S8x512_S8x512_S8x512_S8x512_S8x512_S64x512_d0) bitsLt_bf16_f32 z
        = G (((cfg2.win 10).blk t).view.emb z)) :
    (rdata V c).arrAt 10 cfg2.N = G := by
  refine (rdata V c).arrAt_eq_of_covers 10 _ (by decide +kernel) fun t hf y => ?_
  blk_simp
  rw [rdata_10]
  unfold rowsAt retRows
  frame_out
  refine Eq.trans (congrFun (View.canon_cons_unit_lit' (S := S64x512) (off := ![0, 0]) _ _ _ (by decide)) y) ?_
  exact hG t y

end Cert.RetLayerProof

end
-- ==== Proof.LayerHead.lean ====
module

public import proofs.«01_k».proof.Proof.LayerRun
public import proofs.«01_k».proof.Proof.Gen.RetLayerRefIdeal.Read
public import proofs.«01_k».proof.Proof.Gen.ReferenceIdeal.Read

@[expose] public section

/-!
# The norm and the projection of the joined program

The first call writes the rows of both groups, each divided by the root of its mean square and scaled. The second
multiplies them by the weights, a panel of columns at a time. The third call reads only the rows of the sample group, and
those are the reference's projection.
-/

set_option maxRecDepth 16384

noncomputable section

namespace Cert.RetLayerProof

open Cert.RetLayerIdeal Cert.RetLayerIdeal.Gen Idealize.ShloMosaic Idealize.ShloMosaic.TcCoe Idealize.SL.Sem
open Cert.RetLayerRefIdeal.Read

variable (m : (ℓ : Loc nD τ sig) → Buf (Elt Ideal) ℓ)

theorem nidx0 : ∀ t : Fin cfg0.N, t.val < 16 → win0_0.index t = ![t.val, 0] := by decide +kernel
theorem nidx1 : ∀ t : Fin cfg0.N, ¬t.val < 16 → win0_1.index t = ![t.val - 16, 0] := by decide +kernel
theorem nidx2 : ∀ t : Fin cfg0.N, win0_2.index t = ![0, 0] := by decide +kernel
theorem nidx3 : ∀ t : Fin cfg0.N, win0_3.index t = ![t.val, 0] := by decide +kernel
theorem pidx0 : ∀ t : Fin cfg1.N, win1_0.index t = ![(grid1.coords t 1).val, 0] := by decide +kernel
theorem pidx1 : ∀ t : Fin cfg1.N, win1_1.index t = ![0, 0, (grid1.coords t 0).val] := by decide +kernel
theorem pidx2 : ∀ t : Fin cfg1.N, win1_2.index t = ![(grid1.coords t 1).val, (grid1.coords t 0).val] := by decide +kernel

/-- The sample group's rows. -/
abbrev xs (c : Dev nD) : Vec Ideal S128x8x2048 .f32 := m ((c : Thread nD τ).loc main_arg1)
/-- The norm's scales. -/
abbrev nscale (c : Dev nD) : Vec Ideal S2x2048 .f32 := m ((c : Thread nD τ).loc main_arg2)
/-- The projection's weights. -/
abbrev pw (c : Dev nD) : Vec Ideal S1x2048x12288 .f32 := m ((c : Thread nD τ).loc main_arg3)

theorem nlt (t : Fin cfg0.N) : t.val < 18 := t.isLt
theorem plt12 (t : Fin cfg1.N) : (grid1.coords t 0).val < 12 := (grid1.coords t 0).isLt
theorem plt9 (t : Fin cfg1.N) : (grid1.coords t 1).val < 9 := (grid1.coords t 1).isLt

/-- The first grid point of a panel works on the panel's columns. -/
theorem ppanel_first : ∀ t : Fin cfg1.N, (grid1.coords (panelStart t.val t.isLt) 0).val = (grid1.coords t 0).val := by
  decide +kernel

/-! ## The norm -/

/-- The prompt group's rows as the host lines lay them out. -/
def flatP (c : Dev nD) : Vec Ideal S8192x2048 .f32 :=
  StableHlo.after hostOps0 (B0 m c) (Proc.devRef .tc main_v0)
/-- The sample group's rows as the host lines lay them out. -/
def flatS (c : Dev nD) : Vec Ideal S1024x2048 .f32 :=
  StableHlo.after hostOps0 (B0 m c) (Proc.devRef .tc main_v1)
/-- The scales as the host lines lay them out. -/
def flatW (c : Dev nD) : Vec Ideal S1x2048 .f32 :=
  StableHlo.after hostOps0 (B0 m c) (Proc.devRef .tc main_v4)

theorem flatS_read (c : Dev nD) (i : Fin 1024) (k : Fin 2048) :
    flatS m c (ix2 i k) = xs m c (ix3 ⟨i.val / 8, by omega⟩ ⟨i.val % 8, by omega⟩ k) := by
  unfold flatS
  after_results
  pointwise

theorem flatW_read (c : Dev nD) (k : Fin 2048) : flatW m c (ix2 0 k) = nscale m c (ix2 0 k) := by
  unfold flatW
  after_results
  pointwise

/-- A row divided by the root of its mean square and scaled. -/
def normed (x w : Fin 2048 → EReal) (k : Fin 2048) : EReal :=
  x k * Ideal.rsqrt (Ideal.div (∑ j, x j * x j) (Ideal.ofBits FTy.f32 1157627904#32) + Ideal.ofBits FTy.f32 897988541#32) * w k

/-- The rows of the two groups, one group after the other. -/
def rowOf (c : Dev nD) (r : Fin 9216) (k : Fin 2048) : EReal :=
  if h : r.val < 8192 then flatP m c (ix2 ⟨r.val, h⟩ k) else flatS m c (ix2 ⟨r.val - 8192, by omega⟩ k)

/-- The normalised rows of both groups. -/
def normRows (c : Dev nD) : Vec Ideal S9216x2048 .bf16 :=
  fun i => normed (rowOf m c (i 0)) (fun k => flatW m c (ix2 0 k)) (i 1)

theorem nblk0_read (c : Dev nD) (t : Fin cfg0.N) (h : t.val < 16) (i : Fin 512) (k : Fin 2048) :
    nblk (T1 m) c 0 t (ix2 i k) = flatP m c (ix2 ⟨512 * t.val + i.val, by omega⟩ k) := by
  have := nidx0 t h
  unfold flatP
  blk_ext [nblk, nidx0 t h]

theorem nblk1_read (c : Dev nD) (t : Fin cfg0.N) (h : ¬t.val < 16) (i : Fin 512) (k : Fin 2048) :
    nblk (T1 m) c 1 t (ix2 i k) = flatS m c (ix2 ⟨512 * (t.val - 16) + i.val, by have := nlt t; omega⟩ k) := by
  have := nlt t
  unfold flatS
  blk_ext [nblk, nidx1 t h]

theorem nblk2_read (c : Dev nD) (t : Fin cfg0.N) (k : Fin 2048) :
    nblk (T1 m) c 2 t (ix2 0 k) = flatW m c (ix2 0 k) := by
  unfold flatW
  blk_ext [nblk, nidx2 t]

theorem norm_entry (c : Dev nD) (t : Fin cfg0.N) (i : Fin 512) (k : Fin 2048) :
    normOut (T1 m) c t (ix2 i k) = normRows m c (ix2 ⟨512 * t.val + i.val, by have := nlt t; omega⟩ k) := by
  have := nlt t
  unfold normOut normRows normed rowOf
  by_cases h : t.val < 16
  · rw [if_pos h]
    unfold k0_pay1
    pointwise
    simp only [nblk0_read m c t h, nblk2_read]
    simp only [show 512 * t.val + i.val < 8192 by omega, dite_true]
  · rw [if_neg h]
    unfold k0_pay2
    pointwise
    simp only [nblk1_read m c t h, nblk2_read]
    have e : 512 * (t.val - 16) + i.val = 512 * t.val + i.val - 8192 := by omega
    simp only [show ¬512 * t.val + i.val < 8192 by omega, dite_false, e]

/-- The first call leaves the normalised rows. -/
theorem norm_array (c : Dev nD) : (ndata (T1 m) c).arrAt 3 cfg0.N = normRows m c := by
  refine (ndata (T1 m) c).arrAt_eq_of_covers 3 _ (by decide +kernel) fun t hf y => ?_
  blk_simp
  rw [ndata_3]
  have := nlt t
  obtain ⟨i, k, rfl⟩ : ∃ (i : Fin 512) (k : Fin 2048), y = ix2 i k := ⟨y 0, y 1, by funext a; fin_cases a <;> rfl⟩
  refine (norm_entry m c t i k).trans ?_
  blk_ext [nidx3 t]

/-! ## The projection -/

/-- The projection of the rows of both groups. -/
def projRows (c : Dev nD) : Vec Ideal S9216x12288 .f32 :=
  fun i => ∑ k : Fin 2048, normRows m c (ix2 (i 0) k) * pw m c (ix3 0 k (i 1))

theorem pblk0_read (c : Dev nD) (t : Fin cfg1.N) (i : Fin 1024) (k : Fin 2048) :
    pblk (T2 m) c 0 t (ix2 i k) = normRows m c (ix2 ⟨1024 * (grid1.coords t 1).val + i.val, by have := plt9 t; omega⟩ k) := by
  have := plt9 t
  rw [← norm_array m c, ← B2_arr m c 3]
  blk_ext [pblk, pidx0 t]

theorem weights_kept (c : Dev nD) : B2 m c (Proc.devRef .tc main_arg3) = pw m c :=
  (B2_of m c main_arg3 (keeps0 _ (by decide))).trans (B1_of m c main_arg3 (lines0_args _ (by decide)))

theorem pblk1_read (c : Dev nD) (t : Fin cfg1.N) (k : Fin 2048) (n : Fin 1024) :
    pblk (T2 m) c 1 t (ix3 0 k n) = pw m c (ix3 0 k ⟨1024 * (grid1.coords t 0).val + n.val, by have := plt12 t; omega⟩) := by
  have := plt12 t
  rw [← weights_kept m c]
  blk_ext [pblk, pidx1 t]

theorem panel_read (c : Dev nD) (t : Fin cfg1.N) (k : Fin 2048) (n : Fin 1024) :
    panel (T2 m) c t.val t.isLt (ix2 k n)
      = pw m c (ix3 0 k ⟨1024 * (grid1.coords t 0).val + n.val, by have := plt12 t; omega⟩) := by
  have e := ppanel_first t
  unfold panel k1_pay1
  pointwise
  rw [pblk1_read]
  simp only [e]

theorem proj_entry (c : Dev nD) (t : Fin cfg1.N) (i n : Fin 1024) :
    k1_pay2 (pblk (T2 m) c 0 t) (panel (T2 m) c t.val t.isLt) (ix2 i n)
      = projRows m c (ix2 ⟨1024 * (grid1.coords t 1).val + i.val, by have := plt9 t; omega⟩
          ⟨1024 * (grid1.coords t 0).val + n.val, by have := plt12 t; omega⟩) := by
  unfold k1_pay2 projRows
  pointwise
  simp only [pblk0_read, panel_read]

/-- The second call leaves the projection. -/
theorem proj_array (c : Dev nD) : B3 m c (Proc.devRef .tc main_v6) = projRows m c := by
  refine (B3_arr m c 2).trans ?_
  refine (pdata (T2 m) c).arrAt_eq_of_covers 2 _ (by decide +kernel) fun t hf y => ?_
  blk_simp
  rw [pdata_2]
  have h9 := plt9 t
  have h12 := plt12 t
  obtain ⟨i, n, rfl⟩ : ∃ i n : Fin 1024, y = ix2 i n := ⟨y 0, y 1, by funext a; fin_cases a <;> rfl⟩
  refine (proj_entry m c t i n).trans ?_
  blk_ext [pidx2 t]

/-! ## The sample group's rows -/

theorem rowOf_sample (c : Dev nD) (s : Fin 128) (j : Fin 8) (k : Fin 2048) :
    rowOf m c ⟨8192 + 8 * s.val + j.val, by omega⟩ k = xs m c (ix3 s j k) := by
  unfold rowOf
  rw [dif_neg (by show ¬8192 + 8 * s.val + j.val < 8192; omega)]
  refine (flatS_read m c _ _).trans ?_
  have e1 : (8192 + 8 * s.val + j.val - 8192) / 8 = s.val := by omega
  have e2 : (8192 + 8 * s.val + j.val - 8192) % 8 = j.val := by omega
  simp only [e1, e2]

/-- The normalised rows of the sample group are the reference's. -/
theorem normRows_sample (c : Dev nD) (s : Fin 128) (j : Fin 8) (k : Fin 2048) :
    normRows m c (ix2 ⟨8192 + 8 * s.val + j.val, by omega⟩ k) = val_main_v14 (F := Ideal) (xs m c) (nscale m c) (ix3 s j k) := by
  show normed (rowOf m c ⟨8192 + 8 * s.val + j.val, _⟩) (fun k => flatW m c (ix2 0 k)) k = _
  unfold normed
  simp only [rowOf_sample, flatW_read]
  unfold val_main_v14 val_main_v13 val_main_v12 val_main_v11 val_main_v10 val_main_v9 val_main_v8 val_main_v7 val_main_v6
    val_main_v5 val_main_v4 val_main_v3 val_main_v2 val_main_v1 val_main_v0 val_main_cst val_main_cst_0 val_main_cst_1
  pointwise

/-- The projection of the sample group is the reference's. -/
theorem proj_sample (c : Dev nD) :
    Cert.ReferenceIdeal.Read.val_main_v1 (F := Ideal) (projRows m c)
      = val_main_v16 (F := Ideal) (xs m c) (nscale m c) (pw m c) := by
  funext y
  obtain ⟨s, j, n, rfl⟩ : ∃ (s : Fin 128) (j : Fin 8) (n : Fin 12288), y = ix3 s j n :=
    ⟨y 0, y 1, y 2, by funext a; fin_cases a <;> rfl⟩
  have e : 8192 + (s.val * 8 + j.val) = 8192 + 8 * s.val + j.val := by omega
  unfold Cert.ReferenceIdeal.Read.val_main_v1 Cert.ReferenceIdeal.Read.val_main_v0 val_main_v16
  generalize hN : val_main_v14 (F := Ideal) (xs m c) (nscale m c) = N
  unfold val_main_v15
  pointwise
  unfold projRows
  subst hN
  refine Finset.sum_congr rfl fun k _ => ?_
  rw [← normRows_sample]
  show normRows m c (ix2 ⟨8192 + (s.val * 8 + j.val), _⟩ k) * _ = _
  simp only [e]
  rfl

end Cert.RetLayerProof

end
-- ==== Proof.LayerRef.lean ====
module

public import Idealize.ShloMosaic.Lib.Tactic
public import proofs.«01_k».proof.Proof.Gen.RetLayerRefIdeal.Read
public import proofs.«01_k».proof.Proof.Gen.ReferenceIdeal.Read

@[expose] public section

/-!
# The two references' retention

The reference of the retention's own program and that of the joined program run the same lines on the projected rows. So where
the projected rows agree, the states and the outputs do.
-/

set_option maxRecDepth 16384

noncomputable section

namespace Cert.RetLayerProof

open Idealize.ShloMosaic Idealize.ShloMosaic.TcCoe
open Cert.ReferenceIdeal (S9216x12288 S1x128x8x256x512 S1x8x512)
open Cert.RetLayerRefIdeal (S128x8x2048 S2x2048 S1x2048x12288)

variable {F : FTy → Type} [FloatOps F]
variable (A : Vec F S9216x12288 .f32) (x : Vec F S128x8x2048 .f32) (w : Vec F S2x2048 .f32) (W : Vec F S1x2048x12288 .f32)
  (st : Vec F S1x128x8x256x512 .f32) (gn : Vec F S1x8x512 .f32)

open Cert.ReferenceIdeal.Read in
set_option maxHeartbeats 1000000 in
/-- The final states agree where the projected rows do. -/
theorem states_agree (h : val_main_v1 A = Cert.RetLayerRefIdeal.Read.val_main_v16 x w W) :
    val_main_v134 A st = Cert.RetLayerRefIdeal.Read.val_main_v149 x w W st := by
  unfold val_main_v134 val_main_v133 val_main_v132 val_main_v120 val_main_v119 val_main_v70 val_main_v69 val_main_v67
    val_main_v66 val_main_v65 val_main_v63 val_main_v61 val_main_v60 val_main_v58 val_main_v56 val_main_v55 val_main_v39
    val_main_v4 val_main_v3
  rw [h]
  sl_kernel_rfl

open Cert.ReferenceIdeal.Read in
set_option maxHeartbeats 1000000 in
/-- The outputs agree where the projected rows do. -/
theorem outputs_agree (h : val_main_v1 A = Cert.RetLayerRefIdeal.Read.val_main_v16 x w W) :
    val_main_v163 A st gn = Cert.RetLayerRefIdeal.Read.val_main_v178 x w W st gn := by
  unfold val_main_v163 val_main_v162 val_main_v161 val_main_v160 val_main_call2_v5 val_main_call2_v3 val_main_call2_v1
    val_main_call2_v0 val_main_v159 val_main_v158 val_main_v154 val_main_v153 val_main_v152 val_main_v151 val_main_v149
    val_main_v148 val_main_v147 val_main_v145 val_main_v144 val_main_v143 val_main_v142 val_main_v141 val_main_v140
    val_main_v138 val_main_v137 val_main_v136 val_main_v135 val_main_v128 val_main_v126 val_main_v125 val_main_v124
    val_main_v121 val_main_v120 val_main_v119 val_main_v118 val_main_v70 val_main_v69 val_main_v67 val_main_v66 val_main_v65
    val_main_v63 val_main_v61 val_main_v60 val_main_v58 val_main_v56 val_main_v55 val_main_v39 val_main_v38 val_main_v37
    val_main_v36 val_main_v34 val_main_v32 val_main_v31 val_main_v29 val_main_v27 val_main_v26 val_main_v10 val_main_v5
    val_main_v4 val_main_v3 val_main_v2
  rw [h]
  sl_kernel_rfl

end Cert.RetLayerProof

end
-- ==== Proof.LayerEq.lean ====
module

public import proofs.«01_k».proof.Proof.LayerTail
public import proofs.«01_k».proof.Proof.LayerHead
public import proofs.«01_k».proof.Proof.LayerRef

@[expose] public section

/-!
# The joined program writes its reference's outputs and states

When the third call begins it finds the arrays the retention's own program finds when run on the projected rows (`alone`), so
each block it reads is that program's block (`same_0` … `same_9`). The retention's lemmas then give both results, and the
two references run the same lines on the projected rows.
-/

set_option maxRecDepth 16384

noncomputable section

namespace Cert.RetLayerProof

open Cert.RetLayerIdeal Cert.RetLayerIdeal.Gen Idealize.ShloMosaic Idealize.ShloMosaic.TcCoe Idealize.SL.Sem

variable (m : (ℓ : Loc nD τ sig) → Buf (Elt Ideal) ℓ)

/-- The incoming states. -/
abbrev inst (c : Dev nD) : Vec Ideal S1x128x8x256x512 .f32 := m ((c : Thread nD τ).loc main_arg4)
/-- The group norm's scales. -/
abbrev gscale (c : Dev nD) : Vec Ideal S1x8x512 .f32 := m ((c : Thread nD τ).loc main_arg5)

/-- Contents of the buffers of the retention's own program: its arguments are the joined program's projection, incoming states
    and group norm's scales. -/
def alone (c : Dev nD) : (ℓ : Loc Cert.KernelIdeal.nD Cert.KernelIdeal.τ Cert.KernelIdeal.sig) → Buf (Elt Ideal) ℓ :=
  Function.update (Function.update (Function.update (fun _ _ => default)
    ((c.tc : Thread Cert.KernelIdeal.nD Cert.KernelIdeal.τ).loc Cert.KernelIdeal.main_arg0) (projRows m c))
    ((c.tc : Thread Cert.KernelIdeal.nD Cert.KernelIdeal.τ).loc Cert.KernelIdeal.main_arg1) (inst m c))
    ((c.tc : Thread Cert.KernelIdeal.nD Cert.KernelIdeal.τ).loc Cert.KernelIdeal.main_arg2) (gscale m c)

theorem arg12 : ∀ c : Dev Cert.KernelIdeal.nD, (c.tc : Thread Cert.KernelIdeal.nD Cert.KernelIdeal.τ).loc Cert.KernelIdeal.main_arg1
    ≠ (c.tc : Thread Cert.KernelIdeal.nD Cert.KernelIdeal.τ).loc Cert.KernelIdeal.main_arg2 := by decide
theorem arg02 : ∀ c : Dev Cert.KernelIdeal.nD, (c.tc : Thread Cert.KernelIdeal.nD Cert.KernelIdeal.τ).loc Cert.KernelIdeal.main_arg0
    ≠ (c.tc : Thread Cert.KernelIdeal.nD Cert.KernelIdeal.τ).loc Cert.KernelIdeal.main_arg2 := by decide
theorem arg01 : ∀ c : Dev Cert.KernelIdeal.nD, (c.tc : Thread Cert.KernelIdeal.nD Cert.KernelIdeal.τ).loc Cert.KernelIdeal.main_arg0
    ≠ (c.tc : Thread Cert.KernelIdeal.nD Cert.KernelIdeal.τ).loc Cert.KernelIdeal.main_arg1 := by decide

theorem alone_2 (c : Dev nD) : alone m c ((c.tc : Thread Cert.KernelIdeal.nD Cert.KernelIdeal.τ).loc Cert.KernelIdeal.main_arg2) = gscale m c := by
  unfold alone
  exact Function.update_self _ _ _
theorem alone_1 (c : Dev nD) : alone m c ((c.tc : Thread Cert.KernelIdeal.nD Cert.KernelIdeal.τ).loc Cert.KernelIdeal.main_arg1) = inst m c := by
  unfold alone
  exact (Function.update_of_ne (arg12 c) _ _).trans (Function.update_self _ _ _)
theorem alone_0 (c : Dev nD) : alone m c ((c.tc : Thread Cert.KernelIdeal.nD Cert.KernelIdeal.τ).loc Cert.KernelIdeal.main_arg0) = projRows m c := by
  unfold alone
  exact (Function.update_of_ne (arg02 c) _ _).trans
    ((Function.update_of_ne (arg01 c) _ _).trans (Function.update_self _ _ _))

/-- What the retention's own program holds when its call begins. -/
abbrev AV (c : Dev nD) := Cert.KernelIdeal.Gen.V (alone m c) c

theorem pre_v39 (c : Dev nD) : (T4 m c main_v39 : Vec Ideal S8 .f32) = AV m c Cert.KernelIdeal.main_v32 := by
  sl_kernel_rfl
theorem pre_v27 (c : Dev nD) : (T4 m c main_v27 : Vec Ideal S64x128 .f32) = AV m c Cert.KernelIdeal.main_v20 := by
  sl_kernel_rfl
theorem pre_v31 (c : Dev nD) : (T4 m c main_v31 : Vec Ideal S64x128 .f32) = AV m c Cert.KernelIdeal.main_v24 := by
  sl_kernel_rfl

theorem pre_v40 (c : Dev nD) : (T4 m c main_v40 : Vec Ideal S8x1x512 .f32) = AV m c Cert.KernelIdeal.main_v33 := by
  refine Eq.trans (b := shapeCast S8x1x512 (shapeCast S8x512 (B3 m c (Proc.devRef .tc main_arg5)) shapeCasts_S1x8x512_S8x512)
    shapeCasts_S8x512_S8x1x512) (by sl_kernel_rfl) ?_
  rw [B3_args m c main_arg5 (by decide)]
  refine Eq.trans ?_ (b := shapeCast S8x1x512 (shapeCast S8x512
    (alone m c ((c.tc : Thread Cert.KernelIdeal.nD Cert.KernelIdeal.τ).loc Cert.KernelIdeal.main_arg2)) shapeCasts_S1x8x512_S8x512)
    shapeCasts_S8x512_S8x1x512) (by sl_kernel_rfl)
  rw [alone_2]
theorem pre_v7 (c : Dev nD) : (T4 m c main_v7 : Vec Ideal S128x8x256x512 .f32) = AV m c Cert.KernelIdeal.main_v0 := by
  refine Eq.trans (b := shapeCast S128x8x256x512 (B3 m c (Proc.devRef .tc main_arg4)) shapeCasts_S1x128x8x256x512_S128x8x256x512)
    (by sl_kernel_rfl) ?_
  rw [B3_args m c main_arg4 (by decide)]
  refine Eq.trans ?_ (b := shapeCast S128x8x256x512
    (alone m c ((c.tc : Thread Cert.KernelIdeal.nD Cert.KernelIdeal.τ).loc Cert.KernelIdeal.main_arg1))
    shapeCasts_S1x128x8x256x512_S128x8x256x512) (by sl_kernel_rfl)
  rw [alone_1]
theorem pre_v6 (c : Dev nD) : (T4 m c main_v6 : Vec Ideal S9216x12288 .f32) = AV m c Cert.KernelIdeal.main_arg0 := by
  refine (B4_of m c main_v6 (by decide)).trans ((proj_array m c).trans ?_)
  rw [← alone_0 m c]
  sl_kernel_rfl

/-! The blocks the third call reads are those of the retention's own program. -/

theorem same_0 (c : Dev nD) (t : Fin cfg2.N) : rblk (T4 m) c 0 t = Cert.KernelIdeal.Gen.iblk (alone m c) c 0 t :=
  (congrArg (((cfg2.win 0).blk t).view.read (Elt Ideal)) (pre_v39 m c)).trans (by sl_kernel_rfl)
theorem same_1 (c : Dev nD) (t : Fin cfg2.N) : rblk (T4 m) c 1 t = Cert.KernelIdeal.Gen.iblk (alone m c) c 1 t :=
  (congrArg (((cfg2.win 1).blk t).view.read (Elt Ideal)) (pre_v6 m c)).trans (by sl_kernel_rfl)
theorem same_2 (c : Dev nD) (t : Fin cfg2.N) : rblk (T4 m) c 2 t = Cert.KernelIdeal.Gen.iblk (alone m c) c 2 t :=
  (congrArg (((cfg2.win 2).blk t).view.read (Elt Ideal)) (pre_v6 m c)).trans (by sl_kernel_rfl)
theorem same_3 (c : Dev nD) (t : Fin cfg2.N) : rblk (T4 m) c 3 t = Cert.KernelIdeal.Gen.iblk (alone m c) c 3 t :=
  (congrArg (((cfg2.win 3).blk t).view.read (Elt Ideal)) (pre_v6 m c)).trans (by sl_kernel_rfl)
theorem same_4 (c : Dev nD) (t : Fin cfg2.N) : rblk (T4 m) c 4 t = Cert.KernelIdeal.Gen.iblk (alone m c) c 4 t :=
  (congrArg (((cfg2.win 4).blk t).view.read (Elt Ideal)) (pre_v6 m c)).trans (by sl_kernel_rfl)
theorem same_5 (c : Dev nD) (t : Fin cfg2.N) : rblk (T4 m) c 5 t = Cert.KernelIdeal.Gen.iblk (alone m c) c 5 t :=
  (congrArg (((cfg2.win 5).blk t).view.read (Elt Ideal)) (pre_v27 m c)).trans (by sl_kernel_rfl)
theorem same_6 (c : Dev nD) (t : Fin cfg2.N) : rblk (T4 m) c 6 t = Cert.KernelIdeal.Gen.iblk (alone m c) c 6 t :=
  (congrArg (((cfg2.win 6).blk t).view.read (Elt Ideal)) (pre_v31 m c)).trans (by sl_kernel_rfl)
theorem same_7 (c : Dev nD) (t : Fin cfg2.N) : rblk (T4 m) c 7 t = Cert.KernelIdeal.Gen.iblk (alone m c) c 7 t :=
  (congrArg (((cfg2.win 7).blk t).view.read (Elt Ideal)) (pre_v40 m c)).trans (by sl_kernel_rfl)
theorem same_8 (c : Dev nD) (t : Fin cfg2.N) : rblk (T4 m) c 8 t = Cert.KernelIdeal.Gen.iblk (alone m c) c 8 t :=
  (congrArg (((cfg2.win 8).blk t).view.read (Elt Ideal)) (pre_v7 m c)).trans (by sl_kernel_rfl)
theorem same_9 (c : Dev nD) (t : Fin cfg2.N) : rblk (T4 m) c 9 t = Cert.KernelIdeal.Gen.iblk (alone m c) c 9 t :=
  (congrArg (((cfg2.win 9).blk t).view.read (Elt Ideal)) (pre_v7 m c)).trans (by sl_kernel_rfl)

theorem same_lg (c : Dev nD) (t : Fin cfg2.N) : lgOf (rblk (T4 m) c 0 t) t = Cert.RetSample.lgAt (alone m c) c t := by
  rw [same_0]
  sl_kernel_rfl

theorem lidx10 : ∀ t : Fin cfg2.N, win2_10.index t = ![(grid2.coords t 0).val, (grid2.coords t 1).val] := by decide +kernel
theorem lidx11 : ∀ t : Fin cfg2.N, win2_11.index t = ![(grid2.coords t 0).val, (grid2.coords t 1).val, 0, 0] := by decide +kernel
theorem llt16 : ∀ t : Fin cfg2.N, (grid2.coords t 0).val < 16 := by decide +kernel
theorem llt8 : ∀ t : Fin cfg2.N, (grid2.coords t 1).val < 8 := by decide +kernel

theorem same_grid : ∀ t : Fin cfg2.N, (Cert.KernelIdeal.grid0.coords t 0).val = (grid2.coords t 0).val
    ∧ (Cert.KernelIdeal.grid0.coords t 1).val = (grid2.coords t 1).val := by decide +kernel

/-- The final states are those of the retention's reference on the projected rows. -/
theorem final_states (c : Dev nD) : (rdata (T4 m) c).arrAt 11 cfg2.N
    = Cert.ReferenceIdeal.Read.val_main_v134 (F := Ideal) (projRows m c) (inst m c) := by
  refine state_array (T4 m) c _ fun t s y z h0 h2 h3 => ?_
  rw [castState_eq, same_lg, same_2, same_3, same_5, same_6, same_8, same_9]
  unfold k2_pay1
  pointwise
  refine (Cert.RetSample.state_eq (alone m c) c t s (y 2) (y 3)).trans ?_
  unfold Cert.RetSample.proj Cert.RetSample.stin
  rw [alone_0, alone_1]
  obtain ⟨_, _⟩ := same_grid t
  have := llt16 t
  have := llt8 t
  blk_ext [lidx11 t, Cert.RetSample.sq, Cert.RetSample.hd]

/-- The outputs are those of the retention's reference on the projected rows. -/
theorem final_outs (c : Dev nD) : (rdata (T4 m) c).arrAt 10 cfg2.N
    = Cert.ReferenceIdeal.Read.val_main_v163 (F := Ideal) (projRows m c) (inst m c) (gscale m c) := by
  refine out_array (T4 m) c _ fun t z => ?_
  have hz : (z 0).val < 64 := (z 0).isLt
  refine (concatenate_ofFn_apply (s₁ := S8x512) (t := S64x512) 0 (fun s : Fin 8 => castOut (lgOf (rblk (T4 m) c 0 t) t)
    (rblk (T4 m) c 7 t) (rblk (T4 m) c 1 t) (rblk (T4 m) c 2 t) (rblk (T4 m) c 3 t) (rblk (T4 m) c 4 t) (rblk (T4 m) c 5 t)
    (rblk (T4 m) c 6 t) (rblk (T4 m) c 8 t) (rblk (T4 m) c 9 t) s)
    concatenates_S8x512_S8x512_S8x512_S8x512_S8x512_S8x512_S8x512_S8x512_S64x512_d0 rfl 8 rfl z
    ⟨(z 0).val / 8, by omega⟩ rfl (ix2 (⟨(z 0).val % 8, by omega⟩ : Fin 8) (z 1)) rfl
    (by intro b hb; fin_cases b <;> simp_all)).trans ?_
  rw [castOut_eq, same_lg, same_1, same_2, same_3, same_4, same_5, same_6, same_7, same_8, same_9]
  refine (Cert.RetSample.out_eq (alone m c) c t _ _ _).trans ?_
  unfold Cert.RetSample.proj Cert.RetSample.stin Cert.RetSample.gnw
  rw [alone_0, alone_1, alone_2]
  obtain ⟨_, _⟩ := same_grid t
  have := llt16 t
  have := llt8 t
  blk_ext [lidx10 t, Cert.RetSample.sq, Cert.RetSample.hd]

/-- The joined program writes its reference's outputs. -/
theorem outs (c : Dev nD) : (rdata (T4 m) c).arrAt 10 cfg2.N
    = Cert.RetLayerRefIdeal.Read.val_main_v178 (F := Ideal) (xs m c) (nscale m c) (pw m c) (inst m c) (gscale m c) :=
  (final_outs m c).trans (outputs_agree _ _ _ _ _ _ (proj_sample m c))

/-- The joined program writes its reference's final states. -/
theorem states (c : Dev nD) : (rdata (T4 m) c).arrAt 11 cfg2.N
    = Cert.RetLayerRefIdeal.Read.val_main_v149 (F := Ideal) (xs m c) (nscale m c) (pw m c) (inst m c) :=
  (final_states m c).trans (states_agree _ _ _ _ _ (proj_sample m c))

/-- Every run of the joined program ends with its reference's outputs and final states and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v41_0)
        = Cert.RetLayerRefIdeal.Read.val_main_v178 (F := Ideal) (xs m c) (nscale m c) (pw m c) (inst m c) (gscale m c)
      ∧ r.2.mem ((c.tc : Thread nD τ).loc main_v41_1)
        = Cert.RetLayerRefIdeal.Read.val_main_v149 (F := Ideal) (xs m c) (nscale m c) (pw m c) (inst m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1).trans (outs m c), ((h.1 c).2).trans (states m c), h.2.1 c⟩)
    (θ_run_and (run_results m ρ) (frame m ρ))

end Cert.RetLayerProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Read
public import proofs.«01_k».proof.Proof.Gen.RetPrompt
public import proofs.«01_k».proof.Proof.Gen.RetPrompt.Frame
public import proofs.«01_k».proof.Proof.Gen.RetPromptIdeal
public import proofs.«01_k».proof.Proof.Gen.RetPromptIdeal.Frame
public import proofs.«01_k».proof.Proof.Gen.RetPromptRefIdeal
public import proofs.«01_k».proof.Proof.Gen.RetPromptRefIdeal.Read
public import proofs.«01_k».proof.Proof.Gen.Pre_finite
public import proofs.«01_k».proof.Proof.Gen.RetInIdeal.Frame
public import proofs.«01_k».proof.Proof.Gen.RetInRefIdeal.Read
public import proofs.«01_k».proof.Proof.Gen.GdnInIdeal.Frame
public import proofs.«01_k».proof.Proof.Gen.GdnInRefIdeal.Read
public import proofs.«01_k».proof.Proof.Gen.RetOutIdeal.Frame
public import proofs.«01_k».proof.Proof.Gen.RetOutRefIdeal.Read
public import proofs.«01_k».proof.Proof.Gen.GdnOutIdeal.Frame
public import proofs.«01_k».proof.Proof.Gen.GdnOutRefIdeal.Read
public import proofs.«01_k».proof.Proof.Gen.RetIn
public import proofs.«01_k».proof.Proof.Gen.RetIn.Frame
public import proofs.«01_k».proof.Proof.Gen.GdnIn
public import proofs.«01_k».proof.Proof.Gen.GdnIn.Frame
public import proofs.«01_k».proof.Proof.Gen.RetOut
public import proofs.«01_k».proof.Proof.Gen.RetOut.Frame
public import proofs.«01_k».proof.Proof.Gen.GdnOut
public import proofs.«01_k».proof.Proof.Gen.GdnOut.Frame
public import proofs.«01_k».proof.Proof.Gen.RetLayer
public import proofs.«01_k».proof.Proof.Gen.RetLayer.Skeleton
public import proofs.«01_k».proof.Proof.Gen.RetLayer.Launch
public import proofs.«01_k».proof.Proof.Gen.RetLayer.Points
public import proofs.«01_k».proof.Proof.Gen.RetLayer.Regions
public import proofs.«01_k».proof.Proof.Gen.RetLayerIdeal
public import proofs.«01_k».proof.Proof.Gen.RetLayerIdeal.Skeleton
public import proofs.«01_k».proof.Proof.Gen.RetLayerIdeal.Launch
public import proofs.«01_k».proof.Proof.Gen.RetLayerIdeal.Points
public import proofs.«01_k».proof.Proof.Gen.RetLayerIdeal.Regions
public import proofs.«01_k».proof.Proof.Gen.RetLayerRefIdeal
public import proofs.«01_k».proof.Proof.Gen.RetLayerRefIdeal.Read
public import proofs.«01_k».proof.Proof.RetEq
public import proofs.«01_k».proof.Proof.RetInEq
public import proofs.«01_k».proof.Proof.GdnInEq
public import proofs.«01_k».proof.Proof.RetOutEq
public import proofs.«01_k».proof.Proof.GdnOutEq
public import proofs.«01_k».proof.Proof.PromptEq
public import proofs.«01_k».proof.Proof.LayerEq

@[expose] public section

noncomputable section

namespace Cert.Proof

open Idealize.ShloMosaic Idealize.SL.Sem Cert.Kernel

/-- The sample retention computes the reference's retention of the sample group. -/
theorem retSample : Cert.algebraic_KernelIdeal_ReferenceIdeal (hKernelIdeal := Cert.KernelIdeal.Gen.facts)
    (hReferenceIdeal := Cert.ReferenceIdeal.Gen.facts) := by
  intro m g m' g' _ hagree
  refine ⟨fun c => Cert.ReferenceIdeal.Read.val_main_v163 (F := Ideal) (Cert.RetSample.proj m c) (Cert.RetSample.stin m c)
      (Cert.RetSample.gnw m c),
    fun c => Cert.ReferenceIdeal.Read.val_main_v134 (F := Ideal) (Cert.RetSample.proj m c) (Cert.RetSample.stin m c),
    (θ_run _ _ _).mono (fun r h c => ?_) (Cert.KernelIdeal.Value.run_blocks m g),
    (θ_run _ _ _).mono (fun r h c => ?_) (Cert.ReferenceIdeal.Value.run m' g')⟩
  · obtain ⟨h0, h1, h2⟩ := h c
    exact ⟨h0.trans (Cert.RetSample.outs m c), h1.trans (Cert.RetSample.states m c), h2⟩
  · obtain ⟨h0, h1, h2⟩ := h c
    obtain ⟨a0, a1, a2⟩ := hagree c
    refine ⟨h0.trans ((Cert.ReferenceIdeal.Read.val_main_v163_eq _).trans ?_),
      h1.trans ((Cert.ReferenceIdeal.Read.val_main_v134_eq _).trans ?_), h2⟩
    · exact congr (congr (congrArg Cert.ReferenceIdeal.Read.val_main_v163 a0) a1) a2
    · exact congr (congrArg Cert.ReferenceIdeal.Read.val_main_v134 a0) a1

/-- The reference runs on the host alone: its run leaves its arguments and it declares no semaphore. -/
theorem frameRef : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The retention layer's input projection computes the reference's product. -/
theorem retIn : Cert.algebraic_RetInIdeal_RetInRefIdeal (hRetInIdeal := Cert.RetInIdeal.Gen.facts)
    (hRetInRefIdeal := Cert.RetInRefIdeal.Gen.facts) := by
  intro m g m' g' _ hagree
  refine ⟨fun c => Cert.RetInRefIdeal.Read.val_main_v2 (F := Ideal) (Cert.RetInProof.rows m c) (Cert.RetInProof.wts m c),
    Cert.RetInProof.run m g, (θ_run _ _ _).mono (fun r h c => ?_) (Cert.RetInRefIdeal.Value.run m' g')⟩
  obtain ⟨a0, a1⟩ := hagree c
  exact ⟨((h c).1.trans (Cert.RetInRefIdeal.Read.val_main_v2_eq _ _)).trans
    (congr (congrArg (Cert.RetInRefIdeal.Read.val_main_v2 (F := Ideal)) a0) a1), (h c).2⟩

theorem retInRef : Cert.quiescent_RetInRefIdeal := fun m ρ _ =>
  (θ_run Cert.RetInRefIdeal.defs _ _).mono (fun r h => ⟨fun c => (h c).2, sem_eq_zero_of_no_sems (by decide) r.2⟩)
    (Cert.RetInRefIdeal.Value.run (F := Ideal) m ρ)

/-- The gated-delta layer's input projection computes the reference's product. -/
theorem gdnIn : Cert.algebraic_GdnInIdeal_GdnInRefIdeal (hGdnInIdeal := Cert.GdnInIdeal.Gen.facts)
    (hGdnInRefIdeal := Cert.GdnInRefIdeal.Gen.facts) := by
  intro m g m' g' _ hagree
  refine ⟨fun c => Cert.GdnInRefIdeal.Read.val_main_v3 (F := Ideal) (Cert.GdnInProof.rows m c) (Cert.GdnInProof.wts m c),
    fun c => Cert.GdnInRefIdeal.Read.val_main_v10 (F := Ideal) (Cert.GdnInProof.rows m c) (Cert.GdnInProof.wts m c),
    fun c => Cert.GdnInRefIdeal.Read.val_main_v11 (F := Ideal) (Cert.GdnInProof.rows m c) (Cert.GdnInProof.wts m c),
    Cert.GdnInProof.run m g, (θ_run _ _ _).mono (fun r h c => ?_) (Cert.GdnInRefIdeal.Value.run m' g')⟩
  obtain ⟨a0, a1⟩ := hagree c
  exact ⟨((h c).1.trans (Cert.GdnInRefIdeal.Read.val_main_v3_eq _ _)).trans
      (congr (congrArg (Cert.GdnInRefIdeal.Read.val_main_v3 (F := Ideal)) a0) a1),
    ((h c).2.1.trans (Cert.GdnInRefIdeal.Read.val_main_v10_eq _ _)).trans
      (congr (congrArg (Cert.GdnInRefIdeal.Read.val_main_v10 (F := Ideal)) a0) a1),
    ((h c).2.2.1.trans (Cert.GdnInRefIdeal.Read.val_main_v11_eq _ _)).trans
      (congr (congrArg (Cert.GdnInRefIdeal.Read.val_main_v11 (F := Ideal)) a0) a1), (h c).2.2.2⟩

theorem gdnInRef : Cert.quiescent_GdnInRefIdeal := fun m ρ _ =>
  (θ_run Cert.GdnInRefIdeal.defs _ _).mono (fun r h => ⟨fun c => (h c).2.2.2, sem_eq_zero_of_no_sems (by decide) r.2⟩)
    (Cert.GdnInRefIdeal.Value.run (F := Ideal) m ρ)

/-- The retention layer's output projection computes the reference's product with the residual. -/
theorem retOut : Cert.algebraic_RetOutIdeal_RetOutRefIdeal (hRetOutIdeal := Cert.RetOutIdeal.Gen.facts)
    (hRetOutRefIdeal := Cert.RetOutRefIdeal.Gen.facts) := by
  intro m g m' g' _ hagree
  refine ⟨fun c => Cert.RetOutRefIdeal.Read.val_main_v9 (F := Ideal) (Cert.RetOutProof.headsP m c) (Cert.RetOutProof.headsS m c) (Cert.RetOutProof.wts m c) (Cert.RetOutProof.resP m c) (Cert.RetOutProof.resS m c),
    Cert.RetOutProof.run m g, (θ_run _ _ _).mono (fun r h c => ?_) (Cert.RetOutRefIdeal.Value.run m' g')⟩
  obtain ⟨a0, a1, a2, a3, a4⟩ := hagree c
  exact ⟨((h c).1.trans (Cert.RetOutRefIdeal.Read.val_main_v9_eq _ _ _ _ _)).trans
    (congr (congr (congr (congr (congrArg (Cert.RetOutRefIdeal.Read.val_main_v9 (F := Ideal)) a0) a1) a2) a3) a4), (h c).2⟩

theorem retOutRef : Cert.quiescent_RetOutRefIdeal := fun m ρ _ =>
  (θ_run Cert.RetOutRefIdeal.defs _ _).mono (fun r h => ⟨fun c => (h c).2, sem_eq_zero_of_no_sems (by decide) r.2⟩)
    (Cert.RetOutRefIdeal.Value.run (F := Ideal) m ρ)

/-- The gated-delta layer's output projection computes the reference's product with the residual. -/
theorem gdnOut : Cert.algebraic_GdnOutIdeal_GdnOutRefIdeal (hGdnOutIdeal := Cert.GdnOutIdeal.Gen.facts)
    (hGdnOutRefIdeal := Cert.GdnOutRefIdeal.Gen.facts) := by
  intro m g m' g' _ hagree
  refine ⟨fun c => Cert.GdnOutRefIdeal.Read.val_main_v9 (F := Ideal) (Cert.GdnOutProof.headsP m c) (Cert.GdnOutProof.headsS m c) (Cert.GdnOutProof.wts m c) (Cert.GdnOutProof.res m c),
    Cert.GdnOutProof.run m g, (θ_run _ _ _).mono (fun r h c => ?_) (Cert.GdnOutRefIdeal.Value.run m' g')⟩
  obtain ⟨a0, a1, a2, a3⟩ := hagree c
  exact ⟨((h c).1.trans (Cert.GdnOutRefIdeal.Read.val_main_v9_eq _ _ _ _)).trans
    (congr (congr (congr (congrArg (Cert.GdnOutRefIdeal.Read.val_main_v9 (F := Ideal)) a0) a1) a2) a3), (h c).2⟩

theorem gdnOutRef : Cert.quiescent_GdnOutRefIdeal := fun m ρ _ =>
  (θ_run Cert.GdnOutRefIdeal.defs _ _).mono (fun r h => ⟨fun c => (h c).2, sem_eq_zero_of_no_sems (by decide) r.2⟩)
    (Cert.GdnOutRefIdeal.Value.run (F := Ideal) m ρ)

/-- An argument array the precondition holds of is finite throughout. -/
theorem finite_of_pre (m : (ℓ : Loc Cert.RetPromptIdeal.nD Cert.RetPromptIdeal.τ Cert.RetPromptIdeal.sig) → Buf (Elt Ideal) ℓ)
    (h : Cert.Pre_RetPromptIdeal_finite (hPre_finite := Cert.Pre_finite.Gen.facts) m) (c : Dev Cert.RetPromptIdeal.nD)
    (i : Cert.RetPromptIdeal.S9216x12288.Idx) : Cert.RetPromptProof.IsFin (Cert.RetPromptProof.proj m c i) := by
  have e := congrFun (h c) i
  unfold Cert.Pre_finite.fn at e
  replace e : Ideal.cmp .olt (max (Cert.RetPromptProof.proj m c i) (-Cert.RetPromptProof.proj m c i))
    (Ideal.ofBits .f32 0x7F800000#32) = 1#1 := e
  have inf : Ideal.ofBits .f32 0x7F800000#32 = ⊤ := by simp [Ideal.ofBits, Ideal.ieee]
  rw [inf] at e
  refine Cert.RetPromptProof.IsFin.of_abs_lt ?_
  by_contra hn
  simp [Ideal.cmp, hn] at e

/-- The prompt retention computes the reference's retention of the prompt group, of finite projected values. -/
theorem retPrompt : Cert.algebraic_RetPromptIdeal_RetPromptRefIdeal_pre_finite (hRetPromptIdeal := Cert.RetPromptIdeal.Gen.facts)
    (hRetPromptRefIdeal := Cert.RetPromptRefIdeal.Gen.facts) (hPre_finite := Cert.Pre_finite.Gen.facts) := by
  intro m g m' g' hpre hagree
  refine ⟨fun c => Cert.RetPromptRefIdeal.Read.val_main_v161 (F := Ideal) (Cert.RetPromptProof.proj m c) (Cert.RetPromptProof.gnw m c),
    fun c => Cert.RetPromptRefIdeal.Read.val_main_v132 (F := Ideal) (Cert.RetPromptProof.proj m c),
    Cert.RetPromptProof.run m g (finite_of_pre m hpre), (θ_run _ _ _).mono (fun r h c => ?_)
      (Cert.RetPromptRefIdeal.Value.run m' g')⟩
  obtain ⟨h0, h1, h2⟩ := h c
  obtain ⟨a0, a1⟩ := hagree c
  refine ⟨h0.trans ((Cert.RetPromptRefIdeal.Read.val_main_v161_eq _).trans ?_),
    h1.trans ((Cert.RetPromptRefIdeal.Read.val_main_v132_eq _).trans ?_), h2⟩
  · exact congr (congrArg Cert.RetPromptRefIdeal.Read.val_main_v161 a0) a1
  · exact congrArg Cert.RetPromptRefIdeal.Read.val_main_v132 a0

theorem retPromptRef : Cert.quiescent_RetPromptRefIdeal := fun m ρ _ =>
  (θ_run Cert.RetPromptRefIdeal.defs _ _).mono (fun r h => ⟨fun c => (h c).2.2, sem_eq_zero_of_no_sems (by decide) r.2⟩)
    (Cert.RetPromptRefIdeal.Value.run (F := Ideal) m ρ)

/-- The retention layer of the sample group, from the step's own arguments, computes the reference's. -/
theorem retLayer : Cert.algebraic_RetLayerIdeal_RetLayerRefIdeal (hRetLayerIdeal := Cert.RetLayerIdeal.Gen.facts)
    (hRetLayerRefIdeal := Cert.RetLayerRefIdeal.Gen.facts) := by
  intro m g m' g' _ hagree
  refine ⟨fun c => Cert.RetLayerRefIdeal.Read.val_main_v178 (F := Ideal) (Cert.RetLayerProof.xs m c) (Cert.RetLayerProof.nscale m c)
      (Cert.RetLayerProof.pw m c) (Cert.RetLayerProof.inst m c) (Cert.RetLayerProof.gscale m c),
    fun c => Cert.RetLayerRefIdeal.Read.val_main_v149 (F := Ideal) (Cert.RetLayerProof.xs m c) (Cert.RetLayerProof.nscale m c)
      (Cert.RetLayerProof.pw m c) (Cert.RetLayerProof.inst m c),
    Cert.RetLayerProof.run m g, (θ_run _ _ _).mono (fun r h c => ?_) (Cert.RetLayerRefIdeal.Value.run m' g')⟩
  obtain ⟨h0, h1, h2⟩ := h c
  obtain ⟨_, a1, a2, a3, a4, a5⟩ := hagree c
  refine ⟨h0.trans ((Cert.RetLayerRefIdeal.Read.val_main_v178_eq _).trans ?_),
    h1.trans ((Cert.RetLayerRefIdeal.Read.val_main_v149_eq _).trans ?_), h2⟩
  · exact congr (congr (congr (congr (congrArg Cert.RetLayerRefIdeal.Read.val_main_v178 a1) a2) a3) a4) a5
  · exact congr (congr (congr (congrArg Cert.RetLayerRefIdeal.Read.val_main_v149 a1) a2) a3) a4

theorem retLayerRef : Cert.quiescent_RetLayerRefIdeal := fun m ρ _ =>
  (θ_run Cert.RetLayerRefIdeal.defs _ _).mono (fun r h => ⟨fun c => (h c).2.2, sem_eq_zero_of_no_sems (by decide) r.2⟩)
    (Cert.RetLayerRefIdeal.Value.run (F := Ideal) m ρ)

set_option maxRecDepth 16384 in
/-- The joined program has the text of its idealized form, so its frame is that form's, read at the machine's floats. -/
theorem frameRetLayer : Cert.quiescent_RetLayer (hRetLayer := Cert.RetLayer.Gen.facts) := fun m ρ _ =>
  Eq.mp (by sl_kernel_rfl) (Cert.RetLayerProof.frame (F := Bits) m ρ)

theorem claim : Cert.Claim := ⟨Cert.Kernel.Gen.facts, Cert.KernelIdeal.Gen.facts, Cert.ReferenceIdeal.Gen.facts,
  Cert.RetIn.Gen.facts, Cert.RetInIdeal.Gen.facts, Cert.RetInRefIdeal.Gen.facts,
  Cert.GdnIn.Gen.facts, Cert.GdnInIdeal.Gen.facts, Cert.GdnInRefIdeal.Gen.facts,
  Cert.RetOut.Gen.facts, Cert.RetOutIdeal.Gen.facts, Cert.RetOutRefIdeal.Gen.facts,
  Cert.GdnOut.Gen.facts, Cert.GdnOutIdeal.Gen.facts, Cert.GdnOutRefIdeal.Gen.facts,
  Cert.RetPrompt.Gen.facts, Cert.RetPromptIdeal.Gen.facts, Cert.RetPromptRefIdeal.Gen.facts,
  Cert.RetLayer.Gen.facts, Cert.RetLayerIdeal.Gen.facts, Cert.RetLayerRefIdeal.Gen.facts, Cert.Pre_finite.Gen.facts,
  fun m ρ _ => Cert.Kernel.Gen.frame m ρ, fun m ρ _ => Cert.KernelIdeal.Gen.frame m ρ, frameRef,
  fun m ρ _ => Cert.RetIn.Gen.frame m ρ, fun m ρ _ => Cert.RetInIdeal.Gen.frame m ρ, retInRef,
  fun m ρ _ => Cert.GdnIn.Gen.frame m ρ, fun m ρ _ => Cert.GdnInIdeal.Gen.frame m ρ, gdnInRef,
  fun m ρ _ => Cert.RetOut.Gen.frame m ρ, fun m ρ _ => Cert.RetOutIdeal.Gen.frame m ρ, retOutRef,
  fun m ρ _ => Cert.GdnOut.Gen.frame m ρ, fun m ρ _ => Cert.GdnOutIdeal.Gen.frame m ρ, gdnOutRef,
  fun m ρ _ => Cert.RetPrompt.Gen.frame m ρ, fun m ρ _ => Cert.RetPromptIdeal.Gen.frame m ρ,
  fun m ρ _ => Cert.RetPromptIdeal.Gen.frame m ρ, retPromptRef, fun m ρ _ => retPromptRef m ρ trivial,
  frameRetLayer, fun m ρ _ => Cert.RetLayerProof.frame (F := Ideal) m ρ, retLayerRef,
  trivial, retSample, trivial, retIn, trivial, gdnIn, trivial, retOut, trivial, gdnOut, trivial, retPrompt,
  trivial, retLayer⟩

end Cert.Proof

end
